-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.2 = (fun _ => 1#1)

def Pre_Ff2Dx (m : (ℓ : Loc Cert.Ff2Dx.nD Cert.Ff2Dx.τ Cert.Ff2Dx.sig) → Buf (Elt Bits) ℓ) : Prop :=
  True

def Pre_Ff2DxIdeal (m : (ℓ : Loc Cert.Ff2DxIdeal.nD Cert.Ff2DxIdeal.τ Cert.Ff2DxIdeal.sig) → Buf (Elt Ideal) ℓ) : Prop :=
  True

def Pre_Ff2DxReferenceIdeal (m : (ℓ : Loc Cert.Ff2DxReferenceIdeal.nD Cert.Ff2DxReferenceIdeal.τ Cert.Ff2DxReferenceIdeal.sig) → Buf (Elt Ideal) ℓ) : Prop :=
  True

def Pre_Ff2Dw (m : (ℓ : Loc Cert.Ff2Dw.nD Cert.Ff2Dw.τ Cert.Ff2Dw.sig) → Buf (Elt Bits) ℓ) : Prop :=
  True

def Pre_Ff2DwIdeal (m : (ℓ : Loc Cert.Ff2DwIdeal.nD Cert.Ff2DwIdeal.τ Cert.Ff2DwIdeal.sig) → Buf (Elt Ideal) ℓ) : Prop :=
  True

def Pre_Ff2DwReferenceIdeal (m : (ℓ : Loc Cert.Ff2DwReferenceIdeal.nD Cert.Ff2DwReferenceIdeal.τ Cert.Ff2DwReferenceIdeal.sig) → Buf (Elt Ideal) ℓ) : Prop :=
  True

def Pre_Ff1Dw (m : (ℓ : Loc Cert.Ff1Dw.nD Cert.Ff1Dw.τ Cert.Ff1Dw.sig) → Buf (Elt Bits) ℓ) : Prop :=
  True

def Pre_Ff1DwIdeal (m : (ℓ : Loc Cert.Ff1DwIdeal.nD Cert.Ff1DwIdeal.τ Cert.Ff1DwIdeal.sig) → Buf (Elt Ideal) ℓ) : Prop :=
  True

def Pre_Ff1DwReferenceIdeal (m : (ℓ : Loc Cert.Ff1DwReferenceIdeal.nD Cert.Ff1DwReferenceIdeal.τ Cert.Ff1DwReferenceIdeal.sig) → Buf (Elt Ideal) ℓ) : Prop :=
  True

def Pre_Ff1Dx (m : (ℓ : Loc Cert.Ff1Dx.nD Cert.Ff1Dx.τ Cert.Ff1Dx.sig) → Buf (Elt Bits) ℓ) : Prop :=
  True

def Pre_Ff1DxIdeal (m : (ℓ : Loc Cert.Ff1DxIdeal.nD Cert.Ff1DxIdeal.τ Cert.Ff1DxIdeal.sig) → Buf (Elt Ideal) ℓ) : Prop :=
  True

def Pre_Ff1DxReferenceIdeal (m : (ℓ : Loc Cert.Ff1DxReferenceIdeal.nD Cert.Ff1DxReferenceIdeal.τ Cert.Ff1DxReferenceIdeal.sig) → Buf (Elt Ideal) ℓ) : Prop :=
  True

def Pre_Ff1 (m : (ℓ : Loc Cert.Ff1.nD Cert.Ff1.τ Cert.Ff1.sig) → Buf (Elt Bits) ℓ) : Prop :=
  True

def Pre_Ff1Ideal (m : (ℓ : Loc Cert.Ff1Ideal.nD Cert.Ff1Ideal.τ Cert.Ff1Ideal.sig) → Buf (Elt Ideal) ℓ) : Prop :=
  True

def Pre_Ff1ReferenceIdeal (m : (ℓ : Loc Cert.Ff1ReferenceIdeal.nD Cert.Ff1ReferenceIdeal.τ Cert.Ff1ReferenceIdeal.sig) → Buf (Elt Ideal) ℓ) : Prop :=
  True

def Pre_Ff2 (m : (ℓ : Loc Cert.Ff2.nD Cert.Ff2.τ Cert.Ff2.sig) → Buf (Elt Bits) ℓ) : Prop :=
  True

def Pre_Ff2Ideal (m : (ℓ : Loc Cert.Ff2Ideal.nD Cert.Ff2Ideal.τ Cert.Ff2Ideal.sig) → Buf (Elt Ideal) ℓ) : Prop :=
  True

def Pre_Ff2ReferenceIdeal (m : (ℓ : Loc Cert.Ff2ReferenceIdeal.nD Cert.Ff2ReferenceIdeal.τ Cert.Ff2ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Ff2Dx [hFf2Dx : Cert.Ff2Dx.Facts] : Prop :=
  ∀ (m : (ℓ : Loc Cert.Ff2Dx.nD Cert.Ff2Dx.τ Cert.Ff2Dx.sig) → Buf (Elt Bits) ℓ) (g : Dev Cert.Ff2Dx.nD → PrngReg), Pre_Ff2Dx m →
    θ_run (Cert.Ff2Dx.defs (F := Bits)) (onTc (τ := Cert.Ff2Dx.τ) (Cert.Ff2Dx.main (F := Bits))) ⟨m, fun _ => 0, g⟩ (fun r => (∀ c : Dev Cert.Ff2Dx.nD,
      r.2.mem ((c.tc : Thread Cert.Ff2Dx.nD Cert.Ff2Dx.τ).loc Cert.Ff2Dx.main_arg0) = m ((c.tc : Thread Cert.Ff2Dx.nD Cert.Ff2Dx.τ).loc Cert.Ff2Dx.main_arg0)
      ∧ r.2.mem ((c.tc : Thread Cert.Ff2Dx.nD Cert.Ff2Dx.τ).loc Cert.Ff2Dx.main_arg1) = m ((c.tc : Thread Cert.Ff2Dx.nD Cert.Ff2Dx.τ).loc Cert.Ff2Dx.main_arg1)
      ∧ r.2.mem ((c.tc : Thread Cert.Ff2Dx.nD Cert.Ff2Dx.τ).loc Cert.Ff2Dx.main_arg2) = m ((c.tc : Thread Cert.Ff2Dx.nD Cert.Ff2Dx.τ).loc Cert.Ff2Dx.main_arg2))
      ∧ r.2.sem = fun _ => 0)

def quiescent_Ff2DxIdeal [hFf2DxIdeal : Cert.Ff2DxIdeal.Facts] : Prop :=
  ∀ (m : (ℓ : Loc Cert.Ff2DxIdeal.nD Cert.Ff2DxIdeal.τ Cert.Ff2DxIdeal.sig) → Buf (Elt Ideal) ℓ) (g : Dev Cert.Ff2DxIdeal.nD → PrngReg), Pre_Ff2DxIdeal m →
    θ_run (Cert.Ff2DxIdeal.defs (F := Ideal)) (onTc (τ := Cert.Ff2DxIdeal.τ) (Cert.Ff2DxIdeal.main (F := Ideal))) ⟨m, fun _ => 0, g⟩ (fun r => (∀ c : Dev Cert.Ff2DxIdeal.nD,
      r.2.mem ((c.tc : Thread Cert.Ff2DxIdeal.nD Cert.Ff2DxIdeal.τ).loc Cert.Ff2DxIdeal.main_arg0) = m ((c.tc : Thread Cert.Ff2DxIdeal.nD Cert.Ff2DxIdeal.τ).loc Cert.Ff2DxIdeal.main_arg0)
      ∧ r.2.mem ((c.tc : Thread Cert.Ff2DxIdeal.nD Cert.Ff2DxIdeal.τ).loc Cert.Ff2DxIdeal.main_arg1) = m ((c.tc : Thread Cert.Ff2DxIdeal.nD Cert.Ff2DxIdeal.τ).loc Cert.Ff2DxIdeal.main_arg1)
      ∧ r.2.mem ((c.tc : Thread Cert.Ff2DxIdeal.nD Cert.Ff2DxIdeal.τ).loc Cert.Ff2DxIdeal.main_arg2) = m ((c.tc : Thread Cert.Ff2DxIdeal.nD Cert.Ff2DxIdeal.τ).loc Cert.Ff2DxIdeal.main_arg2))
      ∧ r.2.sem = fun _ => 0)

def quiescent_Ff2DxReferenceIdeal [hFf2DxReferenceIdeal : Cert.Ff2DxReferenceIdeal.Facts] : Prop :=
  ∀ (m : (ℓ : Loc Cert.Ff2DxReferenceIdeal.nD Cert.Ff2DxReferenceIdeal.τ Cert.Ff2DxReferenceIdeal.sig) → Buf (Elt Ideal) ℓ) (g : Dev Cert.Ff2DxReferenceIdeal.nD → PrngReg), Pre_Ff2DxReferenceIdeal m →
    θ_run (Cert.Ff2DxReferenceIdeal.defs (F := Ideal)) (onTc (τ := Cert.Ff2DxReferenceIdeal.τ) (Cert.Ff2DxReferenceIdeal.main (F := Ideal))) ⟨m, fun _ => 0, g⟩ (fun r => (∀ c : Dev Cert.Ff2DxReferenceIdeal.nD,
      r.2.mem ((c.tc : Thread Cert.Ff2DxReferenceIdeal.nD Cert.Ff2DxReferenceIdeal.τ).loc Cert.Ff2DxReferenceIdeal.main_arg0) = m ((c.tc : Thread Cert.Ff2DxReferenceIdeal.nD Cert.Ff2DxReferenceIdeal.τ).loc Cert.Ff2DxReferenceIdeal.main_arg0)
      ∧ r.2.mem ((c.tc : Thread Cert.Ff2DxReferenceIdeal.nD Cert.Ff2DxReferenceIdeal.τ).loc Cert.Ff2DxReferenceIdeal.main_arg1) = m ((c.tc : Thread Cert.Ff2DxReferenceIdeal.nD Cert.Ff2DxReferenceIdeal.τ).loc Cert.Ff2DxReferenceIdeal.main_arg1)
      ∧ r.2.mem ((c.tc : Thread Cert.Ff2DxReferenceIdeal.nD Cert.Ff2DxReferenceIdeal.τ).loc Cert.Ff2DxReferenceIdeal.main_arg2) = m ((c.tc : Thread Cert.Ff2DxReferenceIdeal.nD Cert.Ff2DxReferenceIdeal.τ).loc Cert.Ff2DxReferenceIdeal.main_arg2))
      ∧ r.2.sem = fun _ => 0)

def quiescent_Ff2Dw [hFf2Dw : Cert.Ff2Dw.Facts] : Prop :=
  ∀ (m : (ℓ : Loc Cert.Ff2Dw.nD Cert.Ff2Dw.τ Cert.Ff2Dw.sig) → Buf (Elt Bits) ℓ) (g : Dev Cert.Ff2Dw.nD → PrngReg), Pre_Ff2Dw m →
    θ_run (Cert.Ff2Dw.defs (F := Bits)) (onTc (τ := Cert.Ff2Dw.τ) (Cert.Ff2Dw.main (F := Bits))) ⟨m, fun _ => 0, g⟩ (fun r => (∀ c : Dev Cert.Ff2Dw.nD,
      r.2.mem ((c.tc : Thread Cert.Ff2Dw.nD Cert.Ff2Dw.τ).loc Cert.Ff2Dw.main_arg0) = m ((c.tc : Thread Cert.Ff2Dw.nD Cert.Ff2Dw.τ).loc Cert.Ff2Dw.main_arg0)
      ∧ r.2.mem ((c.tc : Thread Cert.Ff2Dw.nD Cert.Ff2Dw.τ).loc Cert.Ff2Dw.main_arg1) = m ((c.tc : Thread Cert.Ff2Dw.nD Cert.Ff2Dw.τ).loc Cert.Ff2Dw.main_arg1))
      ∧ r.2.sem = fun _ => 0)

def quiescent_Ff2DwIdeal [hFf2DwIdeal : Cert.Ff2DwIdeal.Facts] : Prop :=
  ∀ (m : (ℓ : Loc Cert.Ff2DwIdeal.nD Cert.Ff2DwIdeal.τ Cert.Ff2DwIdeal.sig) → Buf (Elt Ideal) ℓ) (g : Dev Cert.Ff2DwIdeal.nD → PrngReg), Pre_Ff2DwIdeal m →
    θ_run (Cert.Ff2DwIdeal.defs (F := Ideal)) (onTc (τ := Cert.Ff2DwIdeal.τ) (Cert.Ff2DwIdeal.main (F := Ideal))) ⟨m, fun _ => 0, g⟩ (fun r => (∀ c : Dev Cert.Ff2DwIdeal.nD,
      r.2.mem ((c.tc : Thread Cert.Ff2DwIdeal.nD Cert.Ff2DwIdeal.τ).loc Cert.Ff2DwIdeal.main_arg0) = m ((c.tc : Thread Cert.Ff2DwIdeal.nD Cert.Ff2DwIdeal.τ).loc Cert.Ff2DwIdeal.main_arg0)
      ∧ r.2.mem ((c.tc : Thread Cert.Ff2DwIdeal.nD Cert.Ff2DwIdeal.τ).loc Cert.Ff2DwIdeal.main_arg1) = m ((c.tc : Thread Cert.Ff2DwIdeal.nD Cert.Ff2DwIdeal.τ).loc Cert.Ff2DwIdeal.main_arg1))
      ∧ r.2.sem = fun _ => 0)

def quiescent_Ff2DwReferenceIdeal [hFf2DwReferenceIdeal : Cert.Ff2DwReferenceIdeal.Facts] : Prop :=
  ∀ (m : (ℓ : Loc Cert.Ff2DwReferenceIdeal.nD Cert.Ff2DwReferenceIdeal.τ Cert.Ff2DwReferenceIdeal.sig) → Buf (Elt Ideal) ℓ) (g : Dev Cert.Ff2DwReferenceIdeal.nD → PrngReg), Pre_Ff2DwReferenceIdeal m →
    θ_run (Cert.Ff2DwReferenceIdeal.defs (F := Ideal)) (onTc (τ := Cert.Ff2DwReferenceIdeal.τ) (Cert.Ff2DwReferenceIdeal.main (F := Ideal))) ⟨m, fun _ => 0, g⟩ (fun r => (∀ c : Dev Cert.Ff2DwReferenceIdeal.nD,
      r.2.mem ((c.tc : Thread Cert.Ff2DwReferenceIdeal.nD Cert.Ff2DwReferenceIdeal.τ).loc Cert.Ff2DwReferenceIdeal.main_arg0) = m ((c.tc : Thread Cert.Ff2DwReferenceIdeal.nD Cert.Ff2DwReferenceIdeal.τ).loc Cert.Ff2DwReferenceIdeal.main_arg0)
      ∧ r.2.mem ((c.tc : Thread Cert.Ff2DwReferenceIdeal.nD Cert.Ff2DwReferenceIdeal.τ).loc Cert.Ff2DwReferenceIdeal.main_arg1) = m ((c.tc : Thread Cert.Ff2DwReferenceIdeal.nD Cert.Ff2DwReferenceIdeal.τ).loc Cert.Ff2DwReferenceIdeal.main_arg1))
      ∧ r.2.sem = fun _ => 0)

def quiescent_Ff1Dw [hFf1Dw : Cert.Ff1Dw.Facts] : Prop :=
  ∀ (m : (ℓ : Loc Cert.Ff1Dw.nD Cert.Ff1Dw.τ Cert.Ff1Dw.sig) → Buf (Elt Bits) ℓ) (g : Dev Cert.Ff1Dw.nD → PrngReg), Pre_Ff1Dw m →
    θ_run (Cert.Ff1Dw.defs (F := Bits)) (onTc (τ := Cert.Ff1Dw.τ) (Cert.Ff1Dw.main (F := Bits))) ⟨m, fun _ => 0, g⟩ (fun r => (∀ c : Dev Cert.Ff1Dw.nD,
      r.2.mem ((c.tc : Thread Cert.Ff1Dw.nD Cert.Ff1Dw.τ).loc Cert.Ff1Dw.main_arg0) = m ((c.tc : Thread Cert.Ff1Dw.nD Cert.Ff1Dw.τ).loc Cert.Ff1Dw.main_arg0)
      ∧ r.2.mem ((c.tc : Thread Cert.Ff1Dw.nD Cert.Ff1Dw.τ).loc Cert.Ff1Dw.main_arg1) = m ((c.tc : Thread Cert.Ff1Dw.nD Cert.Ff1Dw.τ).loc Cert.Ff1Dw.main_arg1))
      ∧ r.2.sem = fun _ => 0)

def quiescent_Ff1DwIdeal [hFf1DwIdeal : Cert.Ff1DwIdeal.Facts] : Prop :=
  ∀ (m : (ℓ : Loc Cert.Ff1DwIdeal.nD Cert.Ff1DwIdeal.τ Cert.Ff1DwIdeal.sig) → Buf (Elt Ideal) ℓ) (g : Dev Cert.Ff1DwIdeal.nD → PrngReg), Pre_Ff1DwIdeal m →
    θ_run (Cert.Ff1DwIdeal.defs (F := Ideal)) (onTc (τ := Cert.Ff1DwIdeal.τ) (Cert.Ff1DwIdeal.main (F := Ideal))) ⟨m, fun _ => 0, g⟩ (fun r => (∀ c : Dev Cert.Ff1DwIdeal.nD,
      r.2.mem ((c.tc : Thread Cert.Ff1DwIdeal.nD Cert.Ff1DwIdeal.τ).loc Cert.Ff1DwIdeal.main_arg0) = m ((c.tc : Thread Cert.Ff1DwIdeal.nD Cert.Ff1DwIdeal.τ).loc Cert.Ff1DwIdeal.main_arg0)
      ∧ r.2.mem ((c.tc : Thread Cert.Ff1DwIdeal.nD Cert.Ff1DwIdeal.τ).loc Cert.Ff1DwIdeal.main_arg1) = m ((c.tc : Thread Cert.Ff1DwIdeal.nD Cert.Ff1DwIdeal.τ).loc Cert.Ff1DwIdeal.main_arg1))
      ∧ r.2.sem = fun _ => 0)

def quiescent_Ff1DwReferenceIdeal [hFf1DwReferenceIdeal : Cert.Ff1DwReferenceIdeal.Facts] : Prop :=
  ∀ (m : (ℓ : Loc Cert.Ff1DwReferenceIdeal.nD Cert.Ff1DwReferenceIdeal.τ Cert.Ff1DwReferenceIdeal.sig) → Buf (Elt Ideal) ℓ) (g : Dev Cert.Ff1DwReferenceIdeal.nD → PrngReg), Pre_Ff1DwReferenceIdeal m →
    θ_run (Cert.Ff1DwReferenceIdeal.defs (F := Ideal)) (onTc (τ := Cert.Ff1DwReferenceIdeal.τ) (Cert.Ff1DwReferenceIdeal.main (F := Ideal))) ⟨m, fun _ => 0, g⟩ (fun r => (∀ c : Dev Cert.Ff1DwReferenceIdeal.nD,
      r.2.mem ((c.tc : Thread Cert.Ff1DwReferenceIdeal.nD Cert.Ff1DwReferenceIdeal.τ).loc Cert.Ff1DwReferenceIdeal.main_arg0) = m ((c.tc : Thread Cert.Ff1DwReferenceIdeal.nD Cert.Ff1DwReferenceIdeal.τ).loc Cert.Ff1DwReferenceIdeal.main_arg0)
      ∧ r.2.mem ((c.tc : Thread Cert.Ff1DwReferenceIdeal.nD Cert.Ff1DwReferenceIdeal.τ).loc Cert.Ff1DwReferenceIdeal.main_arg1) = m ((c.tc : Thread Cert.Ff1DwReferenceIdeal.nD Cert.Ff1DwReferenceIdeal.τ).loc Cert.Ff1DwReferenceIdeal.main_arg1))
      ∧ r.2.sem = fun _ => 0)

def quiescent_Ff1Dx [hFf1Dx : Cert.Ff1Dx.Facts] : Prop :=
  ∀ (m : (ℓ : Loc Cert.Ff1Dx.nD Cert.Ff1Dx.τ Cert.Ff1Dx.sig) → Buf (Elt Bits) ℓ) (g : Dev Cert.Ff1Dx.nD → PrngReg), Pre_Ff1Dx m →
    θ_run (Cert.Ff1Dx.defs (F := Bits)) (onTc (τ := Cert.Ff1Dx.τ) (Cert.Ff1Dx.main (F := Bits))) ⟨m, fun _ => 0, g⟩ (fun r => (∀ c : Dev Cert.Ff1Dx.nD,
      r.2.mem ((c.tc : Thread Cert.Ff1Dx.nD Cert.Ff1Dx.τ).loc Cert.Ff1Dx.main_arg0) = m ((c.tc : Thread Cert.Ff1Dx.nD Cert.Ff1Dx.τ).loc Cert.Ff1Dx.main_arg0)
      ∧ r.2.mem ((c.tc : Thread Cert.Ff1Dx.nD Cert.Ff1Dx.τ).loc Cert.Ff1Dx.main_arg1) = m ((c.tc : Thread Cert.Ff1Dx.nD Cert.Ff1Dx.τ).loc Cert.Ff1Dx.main_arg1))
      ∧ r.2.sem = fun _ => 0)

def quiescent_Ff1DxIdeal [hFf1DxIdeal : Cert.Ff1DxIdeal.Facts] : Prop :=
  ∀ (m : (ℓ : Loc Cert.Ff1DxIdeal.nD Cert.Ff1DxIdeal.τ Cert.Ff1DxIdeal.sig) → Buf (Elt Ideal) ℓ) (g : Dev Cert.Ff1DxIdeal.nD → PrngReg), Pre_Ff1DxIdeal m →
    θ_run (Cert.Ff1DxIdeal.defs (F := Ideal)) (onTc (τ := Cert.Ff1DxIdeal.τ) (Cert.Ff1DxIdeal.main (F := Ideal))) ⟨m, fun _ => 0, g⟩ (fun r => (∀ c : Dev Cert.Ff1DxIdeal.nD,
      r.2.mem ((c.tc : Thread Cert.Ff1DxIdeal.nD Cert.Ff1DxIdeal.τ).loc Cert.Ff1DxIdeal.main_arg0) = m ((c.tc : Thread Cert.Ff1DxIdeal.nD Cert.Ff1DxIdeal.τ).loc Cert.Ff1DxIdeal.main_arg0)
      ∧ r.2.mem ((c.tc : Thread Cert.Ff1DxIdeal.nD Cert.Ff1DxIdeal.τ).loc Cert.Ff1DxIdeal.main_arg1) = m ((c.tc : Thread Cert.Ff1DxIdeal.nD Cert.Ff1DxIdeal.τ).loc Cert.Ff1DxIdeal.main_arg1))
      ∧ r.2.sem = fun _ => 0)

def quiescent_Ff1DxReferenceIdeal [hFf1DxReferenceIdeal : Cert.Ff1DxReferenceIdeal.Facts] : Prop :=
  ∀ (m : (ℓ : Loc Cert.Ff1DxReferenceIdeal.nD Cert.Ff1DxReferenceIdeal.τ Cert.Ff1DxReferenceIdeal.sig) → Buf (Elt Ideal) ℓ) (g : Dev Cert.Ff1DxReferenceIdeal.nD → PrngReg), Pre_Ff1DxReferenceIdeal m →
    θ_run (Cert.Ff1DxReferenceIdeal.defs (F := Ideal)) (onTc (τ := Cert.Ff1DxReferenceIdeal.τ) (Cert.Ff1DxReferenceIdeal.main (F := Ideal))) ⟨m, fun _ => 0, g⟩ (fun r => (∀ c : Dev Cert.Ff1DxReferenceIdeal.nD,
      r.2.mem ((c.tc : Thread Cert.Ff1DxReferenceIdeal.nD Cert.Ff1DxReferenceIdeal.τ).loc Cert.Ff1DxReferenceIdeal.main_arg0) = m ((c.tc : Thread Cert.Ff1DxReferenceIdeal.nD Cert.Ff1DxReferenceIdeal.τ).loc Cert.Ff1DxReferenceIdeal.main_arg0)
      ∧ r.2.mem ((c.tc : Thread Cert.Ff1DxReferenceIdeal.nD Cert.Ff1DxReferenceIdeal.τ).loc Cert.Ff1DxReferenceIdeal.main_arg1) = m ((c.tc : Thread Cert.Ff1DxReferenceIdeal.nD Cert.Ff1DxReferenceIdeal.τ).loc Cert.Ff1DxReferenceIdeal.main_arg1))
      ∧ r.2.sem = fun _ => 0)

def quiescent_Ff1 [hFf1 : Cert.Ff1.Facts] : Prop :=
  ∀ (m : (ℓ : Loc Cert.Ff1.nD Cert.Ff1.τ Cert.Ff1.sig) → Buf (Elt Bits) ℓ) (g : Dev Cert.Ff1.nD → PrngReg), Pre_Ff1 m →
    θ_run (Cert.Ff1.defs (F := Bits)) (onTc (τ := Cert.Ff1.τ) (Cert.Ff1.main (F := Bits))) ⟨m, fun _ => 0, g⟩ (fun r => (∀ c : Dev Cert.Ff1.nD,
      r.2.mem ((c.tc : Thread Cert.Ff1.nD Cert.Ff1.τ).loc Cert.Ff1.main_arg0) = m ((c.tc : Thread Cert.Ff1.nD Cert.Ff1.τ).loc Cert.Ff1.main_arg0)
      ∧ r.2.mem ((c.tc : Thread Cert.Ff1.nD Cert.Ff1.τ).loc Cert.Ff1.main_arg1) = m ((c.tc : Thread Cert.Ff1.nD Cert.Ff1.τ).loc Cert.Ff1.main_arg1))
      ∧ r.2.sem = fun _ => 0)

def quiescent_Ff1Ideal [hFf1Ideal : Cert.Ff1Ideal.Facts] : Prop :=
  ∀ (m : (ℓ : Loc Cert.Ff1Ideal.nD Cert.Ff1Ideal.τ Cert.Ff1Ideal.sig) → Buf (Elt Ideal) ℓ) (g : Dev Cert.Ff1Ideal.nD → PrngReg), Pre_Ff1Ideal m →
    θ_run (Cert.Ff1Ideal.defs (F := Ideal)) (onTc (τ := Cert.Ff1Ideal.τ) (Cert.Ff1Ideal.main (F := Ideal))) ⟨m, fun _ => 0, g⟩ (fun r => (∀ c : Dev Cert.Ff1Ideal.nD,
      r.2.mem ((c.tc : Thread Cert.Ff1Ideal.nD Cert.Ff1Ideal.τ).loc Cert.Ff1Ideal.main_arg0) = m ((c.tc : Thread Cert.Ff1Ideal.nD Cert.Ff1Ideal.τ).loc Cert.Ff1Ideal.main_arg0)
      ∧ r.2.mem ((c.tc : Thread Cert.Ff1Ideal.nD Cert.Ff1Ideal.τ).loc Cert.Ff1Ideal.main_arg1) = m ((c.tc : Thread Cert.Ff1Ideal.nD Cert.Ff1Ideal.τ).loc Cert.Ff1Ideal.main_arg1))
      ∧ r.2.sem = fun _ => 0)

def quiescent_Ff1ReferenceIdeal [hFf1ReferenceIdeal : Cert.Ff1ReferenceIdeal.Facts] : Prop :=
  ∀ (m : (ℓ : Loc Cert.Ff1ReferenceIdeal.nD Cert.Ff1ReferenceIdeal.τ Cert.Ff1ReferenceIdeal.sig) → Buf (Elt Ideal) ℓ) (g : Dev Cert.Ff1ReferenceIdeal.nD → PrngReg), Pre_Ff1ReferenceIdeal m →
    θ_run (Cert.Ff1ReferenceIdeal.defs (F := Ideal)) (onTc (τ := Cert.Ff1ReferenceIdeal.τ) (Cert.Ff1ReferenceIdeal.main (F := Ideal))) ⟨m, fun _ => 0, g⟩ (fun r => (∀ c : Dev Cert.Ff1ReferenceIdeal.nD,
      r.2.mem ((c.tc : Thread Cert.Ff1ReferenceIdeal.nD Cert.Ff1ReferenceIdeal.τ).loc Cert.Ff1ReferenceIdeal.main_arg0) = m ((c.tc : Thread Cert.Ff1ReferenceIdeal.nD Cert.Ff1ReferenceIdeal.τ).loc Cert.Ff1ReferenceIdeal.main_arg0)
      ∧ r.2.mem ((c.tc : Thread Cert.Ff1ReferenceIdeal.nD Cert.Ff1ReferenceIdeal.τ).loc Cert.Ff1ReferenceIdeal.main_arg1) = m ((c.tc : Thread Cert.Ff1ReferenceIdeal.nD Cert.Ff1ReferenceIdeal.τ).loc Cert.Ff1ReferenceIdeal.main_arg1))
      ∧ r.2.sem = fun _ => 0)

def quiescent_Ff2 [hFf2 : Cert.Ff2.Facts] : Prop :=
  ∀ (m : (ℓ : Loc Cert.Ff2.nD Cert.Ff2.τ Cert.Ff2.sig) → Buf (Elt Bits) ℓ) (g : Dev Cert.Ff2.nD → PrngReg), Pre_Ff2 m →
    θ_run (Cert.Ff2.defs (F := Bits)) (onTc (τ := Cert.Ff2.τ) (Cert.Ff2.main (F := Bits))) ⟨m, fun _ => 0, g⟩ (fun r => (∀ c : Dev Cert.Ff2.nD,
      r.2.mem ((c.tc : Thread Cert.Ff2.nD Cert.Ff2.τ).loc Cert.Ff2.main_arg0) = m ((c.tc : Thread Cert.Ff2.nD Cert.Ff2.τ).loc Cert.Ff2.main_arg0)
      ∧ r.2.mem ((c.tc : Thread Cert.Ff2.nD Cert.Ff2.τ).loc Cert.Ff2.main_arg1) = m ((c.tc : Thread Cert.Ff2.nD Cert.Ff2.τ).loc Cert.Ff2.main_arg1)
      ∧ r.2.mem ((c.tc : Thread Cert.Ff2.nD Cert.Ff2.τ).loc Cert.Ff2.main_arg2) = m ((c.tc : Thread Cert.Ff2.nD Cert.Ff2.τ).loc Cert.Ff2.main_arg2)
      ∧ r.2.mem ((c.tc : Thread Cert.Ff2.nD Cert.Ff2.τ).loc Cert.Ff2.main_arg3) = m ((c.tc : Thread Cert.Ff2.nD Cert.Ff2.τ).loc Cert.Ff2.main_arg3))
      ∧ r.2.sem = fun _ => 0)

def quiescent_Ff2Ideal [hFf2Ideal : Cert.Ff2Ideal.Facts] : Prop :=
  ∀ (m : (ℓ : Loc Cert.Ff2Ideal.nD Cert.Ff2Ideal.τ Cert.Ff2Ideal.sig) → Buf (Elt Ideal) ℓ) (g : Dev Cert.Ff2Ideal.nD → PrngReg), Pre_Ff2Ideal m →
    θ_run (Cert.Ff2Ideal.defs (F := Ideal)) (onTc (τ := Cert.Ff2Ideal.τ) (Cert.Ff2Ideal.main (F := Ideal))) ⟨m, fun _ => 0, g⟩ (fun r => (∀ c : Dev Cert.Ff2Ideal.nD,
      r.2.mem ((c.tc : Thread Cert.Ff2Ideal.nD Cert.Ff2Ideal.τ).loc Cert.Ff2Ideal.main_arg0) = m ((c.tc : Thread Cert.Ff2Ideal.nD Cert.Ff2Ideal.τ).loc Cert.Ff2Ideal.main_arg0)
      ∧ r.2.mem ((c.tc : Thread Cert.Ff2Ideal.nD Cert.Ff2Ideal.τ).loc Cert.Ff2Ideal.main_arg1) = m ((c.tc : Thread Cert.Ff2Ideal.nD Cert.Ff2Ideal.τ).loc Cert.Ff2Ideal.main_arg1)
      ∧ r.2.mem ((c.tc : Thread Cert.Ff2Ideal.nD Cert.Ff2Ideal.τ).loc Cert.Ff2Ideal.main_arg2) = m ((c.tc : Thread Cert.Ff2Ideal.nD Cert.Ff2Ideal.τ).loc Cert.Ff2Ideal.main_arg2)
      ∧ r.2.mem ((c.tc : Thread Cert.Ff2Ideal.nD Cert.Ff2Ideal.τ).loc Cert.Ff2Ideal.main_arg3) = m ((c.tc : Thread Cert.Ff2Ideal.nD Cert.Ff2Ideal.τ).loc Cert.Ff2Ideal.main_arg3))
      ∧ r.2.sem = fun _ => 0)

def quiescent_Ff2ReferenceIdeal [hFf2ReferenceIdeal : Cert.Ff2ReferenceIdeal.Facts] : Prop :=
  ∀ (m : (ℓ : Loc Cert.Ff2ReferenceIdeal.nD Cert.Ff2ReferenceIdeal.τ Cert.Ff2ReferenceIdeal.sig) → Buf (Elt Ideal) ℓ) (g : Dev Cert.Ff2ReferenceIdeal.nD → PrngReg), Pre_Ff2ReferenceIdeal m →
    θ_run (Cert.Ff2ReferenceIdeal.defs (F := Ideal)) (onTc (τ := Cert.Ff2ReferenceIdeal.τ) (Cert.Ff2ReferenceIdeal.main (F := Ideal))) ⟨m, fun _ => 0, g⟩ (fun r => (∀ c : Dev Cert.Ff2ReferenceIdeal.nD,
      r.2.mem ((c.tc : Thread Cert.Ff2ReferenceIdeal.nD Cert.Ff2ReferenceIdeal.τ).loc Cert.Ff2ReferenceIdeal.main_arg0) = m ((c.tc : Thread Cert.Ff2ReferenceIdeal.nD Cert.Ff2ReferenceIdeal.τ).loc Cert.Ff2ReferenceIdeal.main_arg0)
      ∧ r.2.mem ((c.tc : Thread Cert.Ff2ReferenceIdeal.nD Cert.Ff2ReferenceIdeal.τ).loc Cert.Ff2ReferenceIdeal.main_arg1) = m ((c.tc : Thread Cert.Ff2ReferenceIdeal.nD Cert.Ff2ReferenceIdeal.τ).loc Cert.Ff2ReferenceIdeal.main_arg1)
      ∧ r.2.mem ((c.tc : Thread Cert.Ff2ReferenceIdeal.nD Cert.Ff2ReferenceIdeal.τ).loc Cert.Ff2ReferenceIdeal.main_arg2) = m ((c.tc : Thread Cert.Ff2ReferenceIdeal.nD Cert.Ff2ReferenceIdeal.τ).loc Cert.Ff2ReferenceIdeal.main_arg2)
      ∧ r.2.mem ((c.tc : Thread Cert.Ff2ReferenceIdeal.nD Cert.Ff2ReferenceIdeal.τ).loc Cert.Ff2ReferenceIdeal.main_arg3) = m ((c.tc : Thread Cert.Ff2ReferenceIdeal.nD Cert.Ff2ReferenceIdeal.τ).loc Cert.Ff2ReferenceIdeal.main_arg3))
      ∧ r.2.sem = fun _ => 0)

def preserves_Kernel_KernelIdeal : Prop :=
  IdealRules.named_const.Statement Cert.KernelIdeal.κ "exp2_scale" .f32 0x3E16C740#32 (((Real.sqrt 96)⁻¹ * (Real.log 2)⁻¹ : ℝ) : EReal)
  ∧ IdealRules.named_const.Statement Cert.KernelIdeal.κ "log2_e" .f32 0x3FB8AA3B#32 (((Real.log 2)⁻¹ : ℝ) : EReal)
  ∧ IdealRules.named_const.Statement Cert.KernelIdeal.κ "attn_scale" .f32 0x3DD105EC#32 (((Real.sqrt 96)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v62_0)) (v1 : (c : Dev Cert.KernelIdeal.nD) → Buf (Elt Ideal) ((c.tc : Thread Cert.KernelIdeal.nD Cert.KernelIdeal.τ).loc Cert.KernelIdeal.main_v62_1)) (v2 : (c : Dev Cert.KernelIdeal.nD) → Buf (Elt Ideal) ((c.tc : Thread Cert.KernelIdeal.nD Cert.KernelIdeal.τ).loc Cert.KernelIdeal.main_v62_2)) (v3 : (c : Dev Cert.KernelIdeal.nD) → Buf (Elt Ideal) ((c.tc : Thread Cert.KernelIdeal.nD Cert.KernelIdeal.τ).loc Cert.KernelIdeal.main_v62_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62_0) = v0 c
          ∧ r.2.mem ((c.tc : Thread Cert.KernelIdeal.nD Cert.KernelIdeal.τ).loc Cert.KernelIdeal.main_v62_1) = v1 c
          ∧ r.2.mem ((c.tc : Thread Cert.KernelIdeal.nD Cert.KernelIdeal.τ).loc Cert.KernelIdeal.main_v62_2) = v2 c
          ∧ r.2.mem ((c.tc : Thread Cert.KernelIdeal.nD Cert.KernelIdeal.τ).loc Cert.KernelIdeal.main_v62_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v110) = v0 c
          ∧ r.2.mem ((c.tc : Thread Cert.ReferenceIdeal.nD Cert.ReferenceIdeal.τ).loc Cert.ReferenceIdeal.main_v113) = v1 c
          ∧ r.2.mem ((c.tc : Thread Cert.ReferenceIdeal.nD Cert.ReferenceIdeal.τ).loc Cert.ReferenceIdeal.main_v116) = v2 c
          ∧ r.2.mem ((c.tc : Thread Cert.ReferenceIdeal.nD Cert.ReferenceIdeal.τ).loc Cert.ReferenceIdeal.main_v117) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Ff2Dx_Ff2DxIdeal : Prop :=
  True

def algebraic_Ff2DxIdeal_Ff2DxReferenceIdeal [hFf2DxIdeal : Cert.Ff2DxIdeal.Facts] [hFf2DxReferenceIdeal : Cert.Ff2DxReferenceIdeal.Facts] : Prop :=
  ∀ (m : (ℓ : Loc Cert.Ff2DxIdeal.nD Cert.Ff2DxIdeal.τ Cert.Ff2DxIdeal.sig) → Buf (Elt Ideal) ℓ) (g : Dev Cert.Ff2DxIdeal.nD → PrngReg)
    (m' : (ℓ : Loc Cert.Ff2DxReferenceIdeal.nD Cert.Ff2DxReferenceIdeal.τ Cert.Ff2DxReferenceIdeal.sig) → Buf (Elt Ideal) ℓ) (g' : Dev Cert.Ff2DxReferenceIdeal.nD → PrngReg), Pre_Ff2DxIdeal m →
    (∀ c : Dev Cert.Ff2DxIdeal.nD,
      m' ((c.tc : Thread Cert.Ff2DxReferenceIdeal.nD Cert.Ff2DxReferenceIdeal.τ).loc Cert.Ff2DxReferenceIdeal.main_arg0) = m ((c.tc : Thread Cert.Ff2DxIdeal.nD Cert.Ff2DxIdeal.τ).loc Cert.Ff2DxIdeal.main_arg0)
      ∧ m' ((c.tc : Thread Cert.Ff2DxReferenceIdeal.nD Cert.Ff2DxReferenceIdeal.τ).loc Cert.Ff2DxReferenceIdeal.main_arg1) = m ((c.tc : Thread Cert.Ff2DxIdeal.nD Cert.Ff2DxIdeal.τ).loc Cert.Ff2DxIdeal.main_arg1)
      ∧ m' ((c.tc : Thread Cert.Ff2DxReferenceIdeal.nD Cert.Ff2DxReferenceIdeal.τ).loc Cert.Ff2DxReferenceIdeal.main_arg2) = m ((c.tc : Thread Cert.Ff2DxIdeal.nD Cert.Ff2DxIdeal.τ).loc Cert.Ff2DxIdeal.main_arg2)) →
    ∃ (v0 : (c : Dev Cert.Ff2DxIdeal.nD) → Buf (Elt Ideal) ((c.tc : Thread Cert.Ff2DxIdeal.nD Cert.Ff2DxIdeal.τ).loc Cert.Ff2DxIdeal.main_v3)),
      θ_run (Cert.Ff2DxIdeal.defs (F := Ideal)) (onTc (τ := Cert.Ff2DxIdeal.τ) (Cert.Ff2DxIdeal.main (F := Ideal))) ⟨m, fun _ => 0, g⟩ (fun r => ∀ c : Dev Cert.Ff2DxIdeal.nD,
          r.2.mem ((c.tc : Thread Cert.Ff2DxIdeal.nD Cert.Ff2DxIdeal.τ).loc Cert.Ff2DxIdeal.main_v3) = v0 c
          ∧ r.2.mem ((c.tc : Thread Cert.Ff2DxIdeal.nD Cert.Ff2DxIdeal.τ).loc Cert.Ff2DxIdeal.main_arg0) = m ((c.tc : Thread Cert.Ff2DxIdeal.nD Cert.Ff2DxIdeal.τ).loc Cert.Ff2DxIdeal.main_arg0)
          ∧ r.2.mem ((c.tc : Thread Cert.Ff2DxIdeal.nD Cert.Ff2DxIdeal.τ).loc Cert.Ff2DxIdeal.main_arg1) = m ((c.tc : Thread Cert.Ff2DxIdeal.nD Cert.Ff2DxIdeal.τ).loc Cert.Ff2DxIdeal.main_arg1)
          ∧ r.2.mem ((c.tc : Thread Cert.Ff2DxIdeal.nD Cert.Ff2DxIdeal.τ).loc Cert.Ff2DxIdeal.main_arg2) = m ((c.tc : Thread Cert.Ff2DxIdeal.nD Cert.Ff2DxIdeal.τ).loc Cert.Ff2DxIdeal.main_arg2))
      ∧ θ_run (Cert.Ff2DxReferenceIdeal.defs (F := Ideal)) (onTc (τ := Cert.Ff2DxReferenceIdeal.τ) (Cert.Ff2DxReferenceIdeal.main (F := Ideal))) ⟨m', fun _ => 0, g'⟩ (fun r => ∀ c : Dev Cert.Ff2DxReferenceIdeal.nD,
          r.2.mem ((c.tc : Thread Cert.Ff2DxReferenceIdeal.nD Cert.Ff2DxReferenceIdeal.τ).loc Cert.Ff2DxReferenceIdeal.main_v12) = v0 c
          ∧ r.2.mem ((c.tc : Thread Cert.Ff2DxReferenceIdeal.nD Cert.Ff2DxReferenceIdeal.τ).loc Cert.Ff2DxReferenceIdeal.main_arg0) = m' ((c.tc : Thread Cert.Ff2DxReferenceIdeal.nD Cert.Ff2DxReferenceIdeal.τ).loc Cert.Ff2DxReferenceIdeal.main_arg0)
          ∧ r.2.mem ((c.tc : Thread Cert.Ff2DxReferenceIdeal.nD Cert.Ff2DxReferenceIdeal.τ).loc Cert.Ff2DxReferenceIdeal.main_arg1) = m' ((c.tc : Thread Cert.Ff2DxReferenceIdeal.nD Cert.Ff2DxReferenceIdeal.τ).loc Cert.Ff2DxReferenceIdeal.main_arg1)
          ∧ r.2.mem ((c.tc : Thread Cert.Ff2DxReferenceIdeal.nD Cert.Ff2DxReferenceIdeal.τ).loc Cert.Ff2DxReferenceIdeal.main_arg2) = m' ((c.tc : Thread Cert.Ff2DxReferenceIdeal.nD Cert.Ff2DxReferenceIdeal.τ).loc Cert.Ff2DxReferenceIdeal.main_arg2))

def preserves_Ff2Dw_Ff2DwIdeal : Prop :=
  True

def algebraic_Ff2DwIdeal_Ff2DwReferenceIdeal [hFf2DwIdeal : Cert.Ff2DwIdeal.Facts] [hFf2DwReferenceIdeal : Cert.Ff2DwReferenceIdeal.Facts] : Prop :=
  ∀ (m : (ℓ : Loc Cert.Ff2DwIdeal.nD Cert.Ff2DwIdeal.τ Cert.Ff2DwIdeal.sig) → Buf (Elt Ideal) ℓ) (g : Dev Cert.Ff2DwIdeal.nD → PrngReg)
    (m' : (ℓ : Loc Cert.Ff2DwReferenceIdeal.nD Cert.Ff2DwReferenceIdeal.τ Cert.Ff2DwReferenceIdeal.sig) → Buf (Elt Ideal) ℓ) (g' : Dev Cert.Ff2DwReferenceIdeal.nD → PrngReg), Pre_Ff2DwIdeal m →
    (∀ c : Dev Cert.Ff2DwIdeal.nD,
      m' ((c.tc : Thread Cert.Ff2DwReferenceIdeal.nD Cert.Ff2DwReferenceIdeal.τ).loc Cert.Ff2DwReferenceIdeal.main_arg0) = m ((c.tc : Thread Cert.Ff2DwIdeal.nD Cert.Ff2DwIdeal.τ).loc Cert.Ff2DwIdeal.main_arg0)
      ∧ m' ((c.tc : Thread Cert.Ff2DwReferenceIdeal.nD Cert.Ff2DwReferenceIdeal.τ).loc Cert.Ff2DwReferenceIdeal.main_arg1) = m ((c.tc : Thread Cert.Ff2DwIdeal.nD Cert.Ff2DwIdeal.τ).loc Cert.Ff2DwIdeal.main_arg1)) →
    ∃ (v0 : (c : Dev Cert.Ff2DwIdeal.nD) → Buf (Elt Ideal) ((c.tc : Thread Cert.Ff2DwIdeal.nD Cert.Ff2DwIdeal.τ).loc Cert.Ff2DwIdeal.main_v5)),
      θ_run (Cert.Ff2DwIdeal.defs (F := Ideal)) (onTc (τ := Cert.Ff2DwIdeal.τ) (Cert.Ff2DwIdeal.main (F := Ideal))) ⟨m, fun _ => 0, g⟩ (fun r => ∀ c : Dev Cert.Ff2DwIdeal.nD,
          r.2.mem ((c.tc : Thread Cert.Ff2DwIdeal.nD Cert.Ff2DwIdeal.τ).loc Cert.Ff2DwIdeal.main_v5) = v0 c
          ∧ r.2.mem ((c.tc : Thread Cert.Ff2DwIdeal.nD Cert.Ff2DwIdeal.τ).loc Cert.Ff2DwIdeal.main_arg0) = m ((c.tc : Thread Cert.Ff2DwIdeal.nD Cert.Ff2DwIdeal.τ).loc Cert.Ff2DwIdeal.main_arg0)
          ∧ r.2.mem ((c.tc : Thread Cert.Ff2DwIdeal.nD Cert.Ff2DwIdeal.τ).loc Cert.Ff2DwIdeal.main_arg1) = m ((c.tc : Thread Cert.Ff2DwIdeal.nD Cert.Ff2DwIdeal.τ).loc Cert.Ff2DwIdeal.main_arg1))
      ∧ θ_run (Cert.Ff2DwReferenceIdeal.defs (F := Ideal)) (onTc (τ := Cert.Ff2DwReferenceIdeal.τ) (Cert.Ff2DwReferenceIdeal.main (F := Ideal))) ⟨m', fun _ => 0, g'⟩ (fun r => ∀ c : Dev Cert.Ff2DwReferenceIdeal.nD,
          r.2.mem ((c.tc : Thread Cert.Ff2DwReferenceIdeal.nD Cert.Ff2DwReferenceIdeal.τ).loc Cert.Ff2DwReferenceIdeal.main_v6) = v0 c
          ∧ r.2.mem ((c.tc : Thread Cert.Ff2DwReferenceIdeal.nD Cert.Ff2DwReferenceIdeal.τ).loc Cert.Ff2DwReferenceIdeal.main_arg0) = m' ((c.tc : Thread Cert.Ff2DwReferenceIdeal.nD Cert.Ff2DwReferenceIdeal.τ).loc Cert.Ff2DwReferenceIdeal.main_arg0)
          ∧ r.2.mem ((c.tc : Thread Cert.Ff2DwReferenceIdeal.nD Cert.Ff2DwReferenceIdeal.τ).loc Cert.Ff2DwReferenceIdeal.main_arg1) = m' ((c.tc : Thread Cert.Ff2DwReferenceIdeal.nD Cert.Ff2DwReferenceIdeal.τ).loc Cert.Ff2DwReferenceIdeal.main_arg1))

def preserves_Ff1Dw_Ff1DwIdeal : Prop :=
  True

def algebraic_Ff1DwIdeal_Ff1DwReferenceIdeal [hFf1DwIdeal : Cert.Ff1DwIdeal.Facts] [hFf1DwReferenceIdeal : Cert.Ff1DwReferenceIdeal.Facts] : Prop :=
  ∀ (m : (ℓ : Loc Cert.Ff1DwIdeal.nD Cert.Ff1DwIdeal.τ Cert.Ff1DwIdeal.sig) → Buf (Elt Ideal) ℓ) (g : Dev Cert.Ff1DwIdeal.nD → PrngReg)
    (m' : (ℓ : Loc Cert.Ff1DwReferenceIdeal.nD Cert.Ff1DwReferenceIdeal.τ Cert.Ff1DwReferenceIdeal.sig) → Buf (Elt Ideal) ℓ) (g' : Dev Cert.Ff1DwReferenceIdeal.nD → PrngReg), Pre_Ff1DwIdeal m →
    (∀ c : Dev Cert.Ff1DwIdeal.nD,
      m' ((c.tc : Thread Cert.Ff1DwReferenceIdeal.nD Cert.Ff1DwReferenceIdeal.τ).loc Cert.Ff1DwReferenceIdeal.main_arg0) = m ((c.tc : Thread Cert.Ff1DwIdeal.nD Cert.Ff1DwIdeal.τ).loc Cert.Ff1DwIdeal.main_arg0)
      ∧ m' ((c.tc : Thread Cert.Ff1DwReferenceIdeal.nD Cert.Ff1DwReferenceIdeal.τ).loc Cert.Ff1DwReferenceIdeal.main_arg1) = m ((c.tc : Thread Cert.Ff1DwIdeal.nD Cert.Ff1DwIdeal.τ).loc Cert.Ff1DwIdeal.main_arg1)) →
    ∃ (v0 : (c : Dev Cert.Ff1DwIdeal.nD) → Buf (Elt Ideal) ((c.tc : Thread Cert.Ff1DwIdeal.nD Cert.Ff1DwIdeal.τ).loc Cert.Ff1DwIdeal.main_v2)),
      θ_run (Cert.Ff1DwIdeal.defs (F := Ideal)) (onTc (τ := Cert.Ff1DwIdeal.τ) (Cert.Ff1DwIdeal.main (F := Ideal))) ⟨m, fun _ => 0, g⟩ (fun r => ∀ c : Dev Cert.Ff1DwIdeal.nD,
          r.2.mem ((c.tc : Thread Cert.Ff1DwIdeal.nD Cert.Ff1DwIdeal.τ).loc Cert.Ff1DwIdeal.main_v2) = v0 c
          ∧ r.2.mem ((c.tc : Thread Cert.Ff1DwIdeal.nD Cert.Ff1DwIdeal.τ).loc Cert.Ff1DwIdeal.main_arg0) = m ((c.tc : Thread Cert.Ff1DwIdeal.nD Cert.Ff1DwIdeal.τ).loc Cert.Ff1DwIdeal.main_arg0)
          ∧ r.2.mem ((c.tc : Thread Cert.Ff1DwIdeal.nD Cert.Ff1DwIdeal.τ).loc Cert.Ff1DwIdeal.main_arg1) = m ((c.tc : Thread Cert.Ff1DwIdeal.nD Cert.Ff1DwIdeal.τ).loc Cert.Ff1DwIdeal.main_arg1))
      ∧ θ_run (Cert.Ff1DwReferenceIdeal.defs (F := Ideal)) (onTc (τ := Cert.Ff1DwReferenceIdeal.τ) (Cert.Ff1DwReferenceIdeal.main (F := Ideal))) ⟨m', fun _ => 0, g'⟩ (fun r => ∀ c : Dev Cert.Ff1DwReferenceIdeal.nD,
          r.2.mem ((c.tc : Thread Cert.Ff1DwReferenceIdeal.nD Cert.Ff1DwReferenceIdeal.τ).loc Cert.Ff1DwReferenceIdeal.main_v6) = v0 c
          ∧ r.2.mem ((c.tc : Thread Cert.Ff1DwReferenceIdeal.nD Cert.Ff1DwReferenceIdeal.τ).loc Cert.Ff1DwReferenceIdeal.main_arg0) = m' ((c.tc : Thread Cert.Ff1DwReferenceIdeal.nD Cert.Ff1DwReferenceIdeal.τ).loc Cert.Ff1DwReferenceIdeal.main_arg0)
          ∧ r.2.mem ((c.tc : Thread Cert.Ff1DwReferenceIdeal.nD Cert.Ff1DwReferenceIdeal.τ).loc Cert.Ff1DwReferenceIdeal.main_arg1) = m' ((c.tc : Thread Cert.Ff1DwReferenceIdeal.nD Cert.Ff1DwReferenceIdeal.τ).loc Cert.Ff1DwReferenceIdeal.main_arg1))

def preserves_Ff1Dx_Ff1DxIdeal : Prop :=
  True

def algebraic_Ff1DxIdeal_Ff1DxReferenceIdeal [hFf1DxIdeal : Cert.Ff1DxIdeal.Facts] [hFf1DxReferenceIdeal : Cert.Ff1DxReferenceIdeal.Facts] : Prop :=
  ∀ (m : (ℓ : Loc Cert.Ff1DxIdeal.nD Cert.Ff1DxIdeal.τ Cert.Ff1DxIdeal.sig) → Buf (Elt Ideal) ℓ) (g : Dev Cert.Ff1DxIdeal.nD → PrngReg)
    (m' : (ℓ : Loc Cert.Ff1DxReferenceIdeal.nD Cert.Ff1DxReferenceIdeal.τ Cert.Ff1DxReferenceIdeal.sig) → Buf (Elt Ideal) ℓ) (g' : Dev Cert.Ff1DxReferenceIdeal.nD → PrngReg), Pre_Ff1DxIdeal m →
    (∀ c : Dev Cert.Ff1DxIdeal.nD,
      m' ((c.tc : Thread Cert.Ff1DxReferenceIdeal.nD Cert.Ff1DxReferenceIdeal.τ).loc Cert.Ff1DxReferenceIdeal.main_arg0) = m ((c.tc : Thread Cert.Ff1DxIdeal.nD Cert.Ff1DxIdeal.τ).loc Cert.Ff1DxIdeal.main_arg0)
      ∧ m' ((c.tc : Thread Cert.Ff1DxReferenceIdeal.nD Cert.Ff1DxReferenceIdeal.τ).loc Cert.Ff1DxReferenceIdeal.main_arg1) = m ((c.tc : Thread Cert.Ff1DxIdeal.nD Cert.Ff1DxIdeal.τ).loc Cert.Ff1DxIdeal.main_arg1)) →
    ∃ (v0 : (c : Dev Cert.Ff1DxIdeal.nD) → Buf (Elt Ideal) ((c.tc : Thread Cert.Ff1DxIdeal.nD Cert.Ff1DxIdeal.τ).loc Cert.Ff1DxIdeal.main_v4)),
      θ_run (Cert.Ff1DxIdeal.defs (F := Ideal)) (onTc (τ := Cert.Ff1DxIdeal.τ) (Cert.Ff1DxIdeal.main (F := Ideal))) ⟨m, fun _ => 0, g⟩ (fun r => ∀ c : Dev Cert.Ff1DxIdeal.nD,
          r.2.mem ((c.tc : Thread Cert.Ff1DxIdeal.nD Cert.Ff1DxIdeal.τ).loc Cert.Ff1DxIdeal.main_v4) = v0 c
          ∧ r.2.mem ((c.tc : Thread Cert.Ff1DxIdeal.nD Cert.Ff1DxIdeal.τ).loc Cert.Ff1DxIdeal.main_arg0) = m ((c.tc : Thread Cert.Ff1DxIdeal.nD Cert.Ff1DxIdeal.τ).loc Cert.Ff1DxIdeal.main_arg0)
          ∧ r.2.mem ((c.tc : Thread Cert.Ff1DxIdeal.nD Cert.Ff1DxIdeal.τ).loc Cert.Ff1DxIdeal.main_arg1) = m ((c.tc : Thread Cert.Ff1DxIdeal.nD Cert.Ff1DxIdeal.τ).loc Cert.Ff1DxIdeal.main_arg1))
      ∧ θ_run (Cert.Ff1DxReferenceIdeal.defs (F := Ideal)) (onTc (τ := Cert.Ff1DxReferenceIdeal.τ) (Cert.Ff1DxReferenceIdeal.main (F := Ideal))) ⟨m', fun _ => 0, g'⟩ (fun r => ∀ c : Dev Cert.Ff1DxReferenceIdeal.nD,
          r.2.mem ((c.tc : Thread Cert.Ff1DxReferenceIdeal.nD Cert.Ff1DxReferenceIdeal.τ).loc Cert.Ff1DxReferenceIdeal.main_v2) = v0 c
          ∧ r.2.mem ((c.tc : Thread Cert.Ff1DxReferenceIdeal.nD Cert.Ff1DxReferenceIdeal.τ).loc Cert.Ff1DxReferenceIdeal.main_arg0) = m' ((c.tc : Thread Cert.Ff1DxReferenceIdeal.nD Cert.Ff1DxReferenceIdeal.τ).loc Cert.Ff1DxReferenceIdeal.main_arg0)
          ∧ r.2.mem ((c.tc : Thread Cert.Ff1DxReferenceIdeal.nD Cert.Ff1DxReferenceIdeal.τ).loc Cert.Ff1DxReferenceIdeal.main_arg1) = m' ((c.tc : Thread Cert.Ff1DxReferenceIdeal.nD Cert.Ff1DxReferenceIdeal.τ).loc Cert.Ff1DxReferenceIdeal.main_arg1))

def preserves_Ff1_Ff1Ideal : Prop :=
  True

def algebraic_Ff1Ideal_Ff1ReferenceIdeal [hFf1Ideal : Cert.Ff1Ideal.Facts] [hFf1ReferenceIdeal : Cert.Ff1ReferenceIdeal.Facts] : Prop :=
  ∀ (m : (ℓ : Loc Cert.Ff1Ideal.nD Cert.Ff1Ideal.τ Cert.Ff1Ideal.sig) → Buf (Elt Ideal) ℓ) (g : Dev Cert.Ff1Ideal.nD → PrngReg)
    (m' : (ℓ : Loc Cert.Ff1ReferenceIdeal.nD Cert.Ff1ReferenceIdeal.τ Cert.Ff1ReferenceIdeal.sig) → Buf (Elt Ideal) ℓ) (g' : Dev Cert.Ff1ReferenceIdeal.nD → PrngReg), Pre_Ff1Ideal m →
    (∀ c : Dev Cert.Ff1Ideal.nD,
      m' ((c.tc : Thread Cert.Ff1ReferenceIdeal.nD Cert.Ff1ReferenceIdeal.τ).loc Cert.Ff1ReferenceIdeal.main_arg0) = m ((c.tc : Thread Cert.Ff1Ideal.nD Cert.Ff1Ideal.τ).loc Cert.Ff1Ideal.main_arg0)
      ∧ m' ((c.tc : Thread Cert.Ff1ReferenceIdeal.nD Cert.Ff1ReferenceIdeal.τ).loc Cert.Ff1ReferenceIdeal.main_arg1) = m ((c.tc : Thread Cert.Ff1Ideal.nD Cert.Ff1Ideal.τ).loc Cert.Ff1Ideal.main_arg1)) →
    ∃ (v0 : (c : Dev Cert.Ff1Ideal.nD) → Buf (Elt Ideal) ((c.tc : Thread Cert.Ff1Ideal.nD Cert.Ff1Ideal.τ).loc Cert.Ff1Ideal.main_v4_0)) (v1 : (c : Dev Cert.Ff1Ideal.nD) → Buf (Elt Ideal) ((c.tc : Thread Cert.Ff1Ideal.nD Cert.Ff1Ideal.τ).loc Cert.Ff1Ideal.main_v4_1)),
      θ_run (Cert.Ff1Ideal.defs (F := Ideal)) (onTc (τ := Cert.Ff1Ideal.τ) (Cert.Ff1Ideal.main (F := Ideal))) ⟨m, fun _ => 0, g⟩ (fun r => ∀ c : Dev Cert.Ff1Ideal.nD,
          r.2.mem ((c.tc : Thread Cert.Ff1Ideal.nD Cert.Ff1Ideal.τ).loc Cert.Ff1Ideal.main_v4_0) = v0 c
          ∧ r.2.mem ((c.tc : Thread Cert.Ff1Ideal.nD Cert.Ff1Ideal.τ).loc Cert.Ff1Ideal.main_v4_1) = v1 c
          ∧ r.2.mem ((c.tc : Thread Cert.Ff1Ideal.nD Cert.Ff1Ideal.τ).loc Cert.Ff1Ideal.main_arg0) = m ((c.tc : Thread Cert.Ff1Ideal.nD Cert.Ff1Ideal.τ).loc Cert.Ff1Ideal.main_arg0)
          ∧ r.2.mem ((c.tc : Thread Cert.Ff1Ideal.nD Cert.Ff1Ideal.τ).loc Cert.Ff1Ideal.main_arg1) = m ((c.tc : Thread Cert.Ff1Ideal.nD Cert.Ff1Ideal.τ).loc Cert.Ff1Ideal.main_arg1))
      ∧ θ_run (Cert.Ff1ReferenceIdeal.defs (F := Ideal)) (onTc (τ := Cert.Ff1ReferenceIdeal.τ) (Cert.Ff1ReferenceIdeal.main (F := Ideal))) ⟨m', fun _ => 0, g'⟩ (fun r => ∀ c : Dev Cert.Ff1ReferenceIdeal.nD,
          r.2.mem ((c.tc : Thread Cert.Ff1ReferenceIdeal.nD Cert.Ff1ReferenceIdeal.τ).loc Cert.Ff1ReferenceIdeal.main_v1) = v0 c
          ∧ r.2.mem ((c.tc : Thread Cert.Ff1ReferenceIdeal.nD Cert.Ff1ReferenceIdeal.τ).loc Cert.Ff1ReferenceIdeal.main_v4) = v1 c
          ∧ r.2.mem ((c.tc : Thread Cert.Ff1ReferenceIdeal.nD Cert.Ff1ReferenceIdeal.τ).loc Cert.Ff1ReferenceIdeal.main_arg0) = m' ((c.tc : Thread Cert.Ff1ReferenceIdeal.nD Cert.Ff1ReferenceIdeal.τ).loc Cert.Ff1ReferenceIdeal.main_arg0)
          ∧ r.2.mem ((c.tc : Thread Cert.Ff1ReferenceIdeal.nD Cert.Ff1ReferenceIdeal.τ).loc Cert.Ff1ReferenceIdeal.main_arg1) = m' ((c.tc : Thread Cert.Ff1ReferenceIdeal.nD Cert.Ff1ReferenceIdeal.τ).loc Cert.Ff1ReferenceIdeal.main_arg1))

def preserves_Ff2_Ff2Ideal : Prop :=
  True

def algebraic_Ff2Ideal_Ff2ReferenceIdeal [hFf2Ideal : Cert.Ff2Ideal.Facts] [hFf2ReferenceIdeal : Cert.Ff2ReferenceIdeal.Facts] : Prop :=
  ∀ (m : (ℓ : Loc Cert.Ff2Ideal.nD Cert.Ff2Ideal.τ Cert.Ff2Ideal.sig) → Buf (Elt Ideal) ℓ) (g : Dev Cert.Ff2Ideal.nD → PrngReg)
    (m' : (ℓ : Loc Cert.Ff2ReferenceIdeal.nD Cert.Ff2ReferenceIdeal.τ Cert.Ff2ReferenceIdeal.sig) → Buf (Elt Ideal) ℓ) (g' : Dev Cert.Ff2ReferenceIdeal.nD → PrngReg), Pre_Ff2Ideal m →
    (∀ c : Dev Cert.Ff2Ideal.nD,
      m' ((c.tc : Thread Cert.Ff2ReferenceIdeal.nD Cert.Ff2ReferenceIdeal.τ).loc Cert.Ff2ReferenceIdeal.main_arg0) = m ((c.tc : Thread Cert.Ff2Ideal.nD Cert.Ff2Ideal.τ).loc Cert.Ff2Ideal.main_arg0)
      ∧ m' ((c.tc : Thread Cert.Ff2ReferenceIdeal.nD Cert.Ff2ReferenceIdeal.τ).loc Cert.Ff2ReferenceIdeal.main_arg1) = m ((c.tc : Thread Cert.Ff2Ideal.nD Cert.Ff2Ideal.τ).loc Cert.Ff2Ideal.main_arg1)
      ∧ m' ((c.tc : Thread Cert.Ff2ReferenceIdeal.nD Cert.Ff2ReferenceIdeal.τ).loc Cert.Ff2ReferenceIdeal.main_arg2) = m ((c.tc : Thread Cert.Ff2Ideal.nD Cert.Ff2Ideal.τ).loc Cert.Ff2Ideal.main_arg2)
      ∧ m' ((c.tc : Thread Cert.Ff2ReferenceIdeal.nD Cert.Ff2ReferenceIdeal.τ).loc Cert.Ff2ReferenceIdeal.main_arg3) = m ((c.tc : Thread Cert.Ff2Ideal.nD Cert.Ff2Ideal.τ).loc Cert.Ff2Ideal.main_arg3)) →
    ∃ (v0 : (c : Dev Cert.Ff2Ideal.nD) → Buf (Elt Ideal) ((c.tc : Thread Cert.Ff2Ideal.nD Cert.Ff2Ideal.τ).loc Cert.Ff2Ideal.main_v5_0)) (v1 : (c : Dev Cert.Ff2Ideal.nD) → Buf (Elt Ideal) ((c.tc : Thread Cert.Ff2Ideal.nD Cert.Ff2Ideal.τ).loc Cert.Ff2Ideal.main_v5_1)),
      θ_run (Cert.Ff2Ideal.defs (F := Ideal)) (onTc (τ := Cert.Ff2Ideal.τ) (Cert.Ff2Ideal.main (F := Ideal))) ⟨m, fun _ => 0, g⟩ (fun r => ∀ c : Dev Cert.Ff2Ideal.nD,
          r.2.mem ((c.tc : Thread Cert.Ff2Ideal.nD Cert.Ff2Ideal.τ).loc Cert.Ff2Ideal.main_v5_0) = v0 c
          ∧ r.2.mem ((c.tc : Thread Cert.Ff2Ideal.nD Cert.Ff2Ideal.τ).loc Cert.Ff2Ideal.main_v5_1) = v1 c
          ∧ r.2.mem ((c.tc : Thread Cert.Ff2Ideal.nD Cert.Ff2Ideal.τ).loc Cert.Ff2Ideal.main_arg0) = m ((c.tc : Thread Cert.Ff2Ideal.nD Cert.Ff2Ideal.τ).loc Cert.Ff2Ideal.main_arg0)
          ∧ r.2.mem ((c.tc : Thread Cert.Ff2Ideal.nD Cert.Ff2Ideal.τ).loc Cert.Ff2Ideal.main_arg1) = m ((c.tc : Thread Cert.Ff2Ideal.nD Cert.Ff2Ideal.τ).loc Cert.Ff2Ideal.main_arg1)
          ∧ r.2.mem ((c.tc : Thread Cert.Ff2Ideal.nD Cert.Ff2Ideal.τ).loc Cert.Ff2Ideal.main_arg2) = m ((c.tc : Thread Cert.Ff2Ideal.nD Cert.Ff2Ideal.τ).loc Cert.Ff2Ideal.main_arg2)
          ∧ r.2.mem ((c.tc : Thread Cert.Ff2Ideal.nD Cert.Ff2Ideal.τ).loc Cert.Ff2Ideal.main_arg3) = m ((c.tc : Thread Cert.Ff2Ideal.nD Cert.Ff2Ideal.τ).loc Cert.Ff2Ideal.main_arg3))
      ∧ θ_run (Cert.Ff2ReferenceIdeal.defs (F := Ideal)) (onTc (τ := Cert.Ff2ReferenceIdeal.τ) (Cert.Ff2ReferenceIdeal.main (F := Ideal))) ⟨m', fun _ => 0, g'⟩ (fun r => ∀ c : Dev Cert.Ff2ReferenceIdeal.nD,
          r.2.mem ((c.tc : Thread Cert.Ff2ReferenceIdeal.nD Cert.Ff2ReferenceIdeal.τ).loc Cert.Ff2ReferenceIdeal.main_v3) = v0 c
          ∧ r.2.mem ((c.tc : Thread Cert.Ff2ReferenceIdeal.nD Cert.Ff2ReferenceIdeal.τ).loc Cert.Ff2ReferenceIdeal.main_v6) = v1 c
          ∧ r.2.mem ((c.tc : Thread Cert.Ff2ReferenceIdeal.nD Cert.Ff2ReferenceIdeal.τ).loc Cert.Ff2ReferenceIdeal.main_arg0) = m' ((c.tc : Thread Cert.Ff2ReferenceIdeal.nD Cert.Ff2ReferenceIdeal.τ).loc Cert.Ff2ReferenceIdeal.main_arg0)
          ∧ r.2.mem ((c.tc : Thread Cert.Ff2ReferenceIdeal.nD Cert.Ff2ReferenceIdeal.τ).loc Cert.Ff2ReferenceIdeal.main_arg1) = m' ((c.tc : Thread Cert.Ff2ReferenceIdeal.nD Cert.Ff2ReferenceIdeal.τ).loc Cert.Ff2ReferenceIdeal.main_arg1)
          ∧ r.2.mem ((c.tc : Thread Cert.Ff2ReferenceIdeal.nD Cert.Ff2ReferenceIdeal.τ).loc Cert.Ff2ReferenceIdeal.main_arg2) = m' ((c.tc : Thread Cert.Ff2ReferenceIdeal.nD Cert.Ff2ReferenceIdeal.τ).loc Cert.Ff2ReferenceIdeal.main_arg2)
          ∧ r.2.mem ((c.tc : Thread Cert.Ff2ReferenceIdeal.nD Cert.Ff2ReferenceIdeal.τ).loc Cert.Ff2ReferenceIdeal.main_arg3) = m' ((c.tc : Thread Cert.Ff2ReferenceIdeal.nD Cert.Ff2ReferenceIdeal.τ).loc Cert.Ff2ReferenceIdeal.main_arg3))

def Claim : Prop :=
  ∃ (hKernel : Cert.Kernel.Facts) (hKernelIdeal : Cert.KernelIdeal.Facts) (hReferenceIdeal : Cert.ReferenceIdeal.Facts) (hFf2Dx : Cert.Ff2Dx.Facts) (hFf2DxIdeal : Cert.Ff2DxIdeal.Facts) (hFf2DxReferenceIdeal : Cert.Ff2DxReferenceIdeal.Facts) (hFf2Dw : Cert.Ff2Dw.Facts) (hFf2DwIdeal : Cert.Ff2DwIdeal.Facts) (hFf2DwReferenceIdeal : Cert.Ff2DwReferenceIdeal.Facts) (hFf1Dw : Cert.Ff1Dw.Facts) (hFf1DwIdeal : Cert.Ff1DwIdeal.Facts) (hFf1DwReferenceIdeal : Cert.Ff1DwReferenceIdeal.Facts) (hFf1Dx : Cert.Ff1Dx.Facts) (hFf1DxIdeal : Cert.Ff1DxIdeal.Facts) (hFf1DxReferenceIdeal : Cert.Ff1DxReferenceIdeal.Facts) (hFf1 : Cert.Ff1.Facts) (hFf1Ideal : Cert.Ff1Ideal.Facts) (hFf1ReferenceIdeal : Cert.Ff1ReferenceIdeal.Facts) (hFf2 : Cert.Ff2.Facts) (hFf2Ideal : Cert.Ff2Ideal.Facts) (hFf2ReferenceIdeal : Cert.Ff2ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Ff2Dx (hFf2Dx := hFf2Dx)
    ∧ quiescent_Ff2DxIdeal (hFf2DxIdeal := hFf2DxIdeal)
    ∧ quiescent_Ff2DxReferenceIdeal (hFf2DxReferenceIdeal := hFf2DxReferenceIdeal)
    ∧ quiescent_Ff2Dw (hFf2Dw := hFf2Dw)
    ∧ quiescent_Ff2DwIdeal (hFf2DwIdeal := hFf2DwIdeal)
    ∧ quiescent_Ff2DwReferenceIdeal (hFf2DwReferenceIdeal := hFf2DwReferenceIdeal)
    ∧ quiescent_Ff1Dw (hFf1Dw := hFf1Dw)
    ∧ quiescent_Ff1DwIdeal (hFf1DwIdeal := hFf1DwIdeal)
    ∧ quiescent_Ff1DwReferenceIdeal (hFf1DwReferenceIdeal := hFf1DwReferenceIdeal)
    ∧ quiescent_Ff1Dx (hFf1Dx := hFf1Dx)
    ∧ quiescent_Ff1DxIdeal (hFf1DxIdeal := hFf1DxIdeal)
    ∧ quiescent_Ff1DxReferenceIdeal (hFf1DxReferenceIdeal := hFf1DxReferenceIdeal)
    ∧ quiescent_Ff1 (hFf1 := hFf1)
    ∧ quiescent_Ff1Ideal (hFf1Ideal := hFf1Ideal)
    ∧ quiescent_Ff1ReferenceIdeal (hFf1ReferenceIdeal := hFf1ReferenceIdeal)
    ∧ quiescent_Ff2 (hFf2 := hFf2)
    ∧ quiescent_Ff2Ideal (hFf2Ideal := hFf2Ideal)
    ∧ quiescent_Ff2ReferenceIdeal (hFf2ReferenceIdeal := hFf2ReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Ff2Dx_Ff2DxIdeal
    ∧ algebraic_Ff2DxIdeal_Ff2DxReferenceIdeal (hFf2DxIdeal := hFf2DxIdeal) (hFf2DxReferenceIdeal := hFf2DxReferenceIdeal)
    ∧ preserves_Ff2Dw_Ff2DwIdeal
    ∧ algebraic_Ff2DwIdeal_Ff2DwReferenceIdeal (hFf2DwIdeal := hFf2DwIdeal) (hFf2DwReferenceIdeal := hFf2DwReferenceIdeal)
    ∧ preserves_Ff1Dw_Ff1DwIdeal
    ∧ algebraic_Ff1DwIdeal_Ff1DwReferenceIdeal (hFf1DwIdeal := hFf1DwIdeal) (hFf1DwReferenceIdeal := hFf1DwReferenceIdeal)
    ∧ preserves_Ff1Dx_Ff1DxIdeal
    ∧ algebraic_Ff1DxIdeal_Ff1DxReferenceIdeal (hFf1DxIdeal := hFf1DxIdeal) (hFf1DxReferenceIdeal := hFf1DxReferenceIdeal)
    ∧ preserves_Ff1_Ff1Ideal
    ∧ algebraic_Ff1Ideal_Ff1ReferenceIdeal (hFf1Ideal := hFf1Ideal) (hFf1ReferenceIdeal := hFf1ReferenceIdeal)
    ∧ preserves_Ff2_Ff2Ideal
    ∧ algebraic_Ff2Ideal_Ff2ReferenceIdeal (hFf2Ideal := hFf2Ideal) (hFf2ReferenceIdeal := hFf2ReferenceIdeal)
-- ==== Pre_finite.lean ====
abbrev S4096x8x96 : Shape := ⟨3, ![4096, 8, 96]⟩
abbrev S4096x8x64 : Shape := ⟨3, ![4096, 8, 64]⟩
abbrev S4096x16 : Shape := ⟨2, ![4096, 16]⟩
abbrev S4096x512 : Shape := ⟨2, ![4096, 512]⟩
abbrev S_ : Shape := ⟨0, ![]⟩

class Facts : Prop where
  bcast_S_S4096x8x96 : S_.BroadcastsInDim S4096x8x96 (![] : Fin 0 → Fin S4096x8x96.rank)
  bcast_S_S4096x8x64 : S_.BroadcastsInDim S4096x8x64 (![] : Fin 0 → Fin S4096x8x64.rank)
  bcast_S_S4096x16 : S_.BroadcastsInDim S4096x16 (![] : Fin 0 → Fin S4096x16.rank)
  bcast_S_S4096x512 : S_.BroadcastsInDim S4096x512 (![] : Fin 0 → Fin S4096x512.rank)

variable [Facts]

def fn {F : FTy → Type} [FloatOps F] (main_arg0 : FVec F S4096x8x96 .f32) (main_arg1 : FVec F S4096x8x96 .f32) (main_arg2 : FVec F S4096x8x64 .f32) (main_arg3 : FVec F S4096x16 .f32) (main_arg4 : FVec F S4096x16 .f32) (main_arg5 : FVec F S4096x512 .f32) : IVec S4096x8x96 1 × IVec S4096x8x96 1 × IVec S4096x8x64 1 × IVec S4096x16 1 × IVec S4096x16 1 × IVec S4096x512 1 :=
  let main_v0 : FVec F S4096x8x96 .f32 := Host.absf main_arg0
  let main_cst : FVec F S_ .f32 := constant S_ .f32 0x7F800000#32
  let main_v1 : FVec F S4096x8x96 .f32 := broadcastInDim S4096x8x96 ![] bcast_S_S4096x8x96 main_cst
  let main_v2 : IVec S4096x8x96 1 := cmpf .olt main_v0 main_v1
  let main_v3 : FVec F S4096x8x96 .f32 := Host.absf main_arg1
  let main_cst_0 : FVec F S_ .f32 := constant S_ .f32 0x7F800000#32
  let main_v4 : FVec F S4096x8x96 .f32 := broadcastInDim S4096x8x96 ![] bcast_S_S4096x8x96 main_cst_0
  let main_v5 : IVec S4096x8x96 1 := cmpf .olt main_v3 main_v4
  let main_v6 : FVec F S4096x8x64 .f32 := Host.absf main_arg2
  let main_cst_1 : FVec F S_ .f32 := constant S_ .f32 0x7F800000#32
  let main_v7 : FVec F S4096x8x64 .f32 := broadcastInDim S4096x8x64 ![] bcast_S_S4096x8x64 main_cst_1
  let main_v8 : IVec S4096x8x64 1 := cmpf .olt main_v6 main_v7
  let main_v9 : FVec F S4096x16 .f32 := Host.absf main_arg3
  let main_cst_2 : FVec F S_ .f32 := constant S_ .f32 0x7F800000#32
  let main_v10 : FVec F S4096x16 .f32 := broadcastInDim S4096x16 ![] bcast_S_S4096x16 main_cst_2
  let main_v11 : IVec S4096x16 1 := cmpf .olt main_v9 main_v10
  let main_v12 : FVec F S4096x16 .f32 := Host.absf main_arg4
  let main_cst_3 : FVec F S_ .f32 := constant S_ .f32 0x7F800000#32
  let main_v13 : FVec F S4096x16 .f32 := broadcastInDim S4096x16 ![] bcast_S_S4096x16 main_cst_3
  let main_v14 : IVec S4096x16 1 := cmpf .olt main_v12 main_v13
  let main_v15 : FVec F S4096x512 .f32 := Host.absf main_arg5
  let main_cst_4 : FVec F S_ .f32 := constant S_ .f32 0x7F800000#32
  let main_v16 : FVec F S4096x512 .f32 := broadcastInDim S4096x512 ![] bcast_S_S4096x512 main_cst_4
  let main_v17 : IVec S4096x512 1 := cmpf .olt main_v15 main_v16
  (main_v2, main_v5, main_v8, main_v11, main_v14, main_v17)
-- ==== Kernel.lean ====
abbrev S4096x8x96 : Shape := ⟨3, ![4096, 8, 96]⟩
abbrev S4096x8x64 : Shape := ⟨3, ![4096, 8, 64]⟩
abbrev S4096x16 : Shape := ⟨2, ![4096, 16]⟩
abbrev S4096x512 : Shape := ⟨2, ![4096, 512]⟩
abbrev S4096x8x32 : Shape := ⟨3, ![4096, 8, 32]⟩
abbrev S4096x1x16 : Shape := ⟨3, ![4096, 1, 16]⟩
abbrev S4096x8x16 : Shape := ⟨3, ![4096, 8, 16]⟩
abbrev S8x4096x4096 : Shape := ⟨3, ![8, 4096, 4096]⟩
abbrev S_ : Shape := ⟨0, ![]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S8x4096 : Shape := ⟨2, ![8, 4096]⟩
abbrev S8x4096x1 : Shape := ⟨3, ![8, 4096, 1]⟩
abbrev S8x64x4096 : Shape := ⟨3, ![8, 64, 4096]⟩
abbrev S4096x8x128 : Shape := ⟨3, ![4096, 8, 128]⟩
abbrev S4096x1024 : Shape := ⟨2, ![4096, 1024]⟩
abbrev S4096x32 : Shape := ⟨2, ![4096, 32]⟩
abbrev S4096x128 : Shape := ⟨2, ![4096, 128]⟩
abbrev S4x4096x128 : Shape := ⟨3, ![4, 4096, 128]⟩
abbrev S4096x256 : Shape := ⟨2, ![4096, 256]⟩
abbrev S512x256 : Shape := ⟨2, ![512, 256]⟩
abbrev S2x4096x1 : Shape := ⟨3, ![2, 4096, 1]⟩
abbrev S1x512x128 : Shape := ⟨3, ![1, 512, 128]⟩
abbrev S512x128 : Shape := ⟨2, ![512, 128]⟩
abbrev S512 : Shape := ⟨1, ![512]⟩
abbrev S512x1 : Shape := ⟨2, ![512, 1]⟩
abbrev S1x512x1 : Shape := ⟨3, ![1, 512, 1]⟩
abbrev S512x512 : Shape := ⟨2, ![512, 512]⟩

abbrev nBuf : Space → Nat
  | .hbm => 93
  | .vmem => 24
  | .smem => 0
  | _ => 0

abbrev bufTy : (tb : Table) → Fin (tcTables nBuf tb) → BufTy
  | .hbm, ⟨0, _⟩ => ⟨S4096x8x96, .f32⟩
  | .hbm, ⟨1, _⟩ => ⟨S4096x8x96, .f32⟩
  | .hbm, ⟨2, _⟩ => ⟨S4096x8x64, .f32⟩
  | .hbm, ⟨3, _⟩ => ⟨S4096x16, .f32⟩
  | .hbm, ⟨4, _⟩ => ⟨S4096x16, .f32⟩
  | .hbm, ⟨5, _⟩ => ⟨S4096x512, .f32⟩
  | .hbm, ⟨6, _⟩ => ⟨S4096x8x32, .f32⟩
  | .hbm, ⟨7, _⟩ => ⟨S4096x1x16, .f32⟩
  | .hbm, ⟨8, _⟩ => ⟨S4096x1x16, .f32⟩
  | .hbm, ⟨9, _⟩ => ⟨S4096x8x16, .f32⟩
  | .hbm, ⟨10, _⟩ => ⟨S4096x8x16, .f32⟩
  | .hbm, ⟨11, _⟩ => ⟨S4096x8x16, .f32⟩
  | .hbm, ⟨12, _⟩ => ⟨S4096x8x16, .f32⟩
  | .hbm, ⟨13, _⟩ => ⟨S4096x8x16, .f32⟩
  | .hbm, ⟨14, _⟩ => ⟨S4096x8x16, .f32⟩
  | .hbm, ⟨15, _⟩ => ⟨S4096x8x16, .f32⟩
  | .hbm, ⟨16, _⟩ => ⟨S4096x8x16, .f32⟩
  | .hbm, ⟨17, _⟩ => ⟨S4096x8x16, .f32⟩
  | .hbm, ⟨18, _⟩ => ⟨S4096x8x16, .f32⟩
  | .hbm, ⟨19, _⟩ => ⟨S4096x8x16, .f32⟩
  | .hbm, ⟨20, _⟩ => ⟨S4096x8x16, .f32⟩
  | .hbm, ⟨21, _⟩ => ⟨S4096x8x32, .f32⟩
  | .hbm, ⟨22, _⟩ => ⟨S4096x8x64, .f32⟩
  | .hbm, ⟨23, _⟩ => ⟨S4096x8x96, .f32⟩
  | .hbm, ⟨24, _⟩ => ⟨S8x4096x4096, .f32⟩
  | .hbm, ⟨25, _⟩ => ⟨S_, .f32⟩
  | .hbm, ⟨26, _⟩ => ⟨S_, .f32⟩
  | .hbm, ⟨27, _⟩ => ⟨S8x4096x4096, .f32⟩
  | .hbm, ⟨28, _⟩ => ⟨S8x4096x4096, .f32⟩
  | .hbm, ⟨29, _⟩ => ⟨S4096, .i32⟩
  | .hbm, ⟨30, _⟩ => ⟨S4096x1, .i32⟩
  | .hbm, ⟨31, _⟩ => ⟨S1x4096, .i32⟩
  | .hbm, ⟨32, _⟩ => ⟨S4096x4096, .i32⟩
  | .hbm, ⟨33, _⟩ => ⟨S4096x4096, .i32⟩
  | .hbm, ⟨34, _⟩ => ⟨S4096x4096, .i1⟩
  | .hbm, ⟨35, _⟩ => ⟨S_, .f32⟩
  | .hbm, ⟨36, _⟩ => ⟨S_, .f32⟩
  | .hbm, ⟨37, _⟩ => ⟨S8x4096x4096, .i1⟩
  | .hbm, ⟨38, _⟩ => ⟨S8x4096x4096, .f32⟩
  | .hbm, ⟨39, _⟩ => ⟨S8x4096x4096, .f32⟩
  | .hbm, ⟨40, _⟩ => ⟨S_, .f32⟩
  | .hbm, ⟨41, _⟩ => ⟨S8x4096, .f32⟩
  | .hbm, ⟨42, _⟩ => ⟨S8x4096x1, .f32⟩
  | .hbm, ⟨43, _⟩ => ⟨S8x4096x4096, .f32⟩
  | .hbm, ⟨44, _⟩ => ⟨S8x4096x4096, .f32⟩
  | .hbm, ⟨45, _⟩ => ⟨S8x4096x4096, .f32⟩
  | .hbm, ⟨46, _⟩ => ⟨S_, .f32⟩
  | .hbm, ⟨47, _⟩ => ⟨S8x4096, .f32⟩
  | .hbm, ⟨48, _⟩ => ⟨S8x4096x1, .f32⟩
  | .hbm, ⟨49, _⟩ => ⟨S8x4096x1, .f32⟩
  | .hbm, ⟨50, _⟩ => ⟨S8x4096x1, .f32⟩
  | .hbm, ⟨51, _⟩ => ⟨S8x4096x4096, .f32⟩
  | .hbm, ⟨52, _⟩ => ⟨S8x4096x4096, .f32⟩
  | .hbm, ⟨53, _⟩ => ⟨S8x64x4096, .f32⟩
  | .hbm, ⟨54, _⟩ => ⟨S4096x8x64, .f32⟩
  | .hbm, ⟨55, _⟩ => ⟨S_, .i32⟩
  | .hbm, ⟨56, _⟩ => ⟨S_, .f32⟩
  | .hbm, ⟨57, _⟩ => ⟨S4096x8x128, .f32⟩
  | .hbm, ⟨58, _⟩ => ⟨S4096x1024, .f32⟩
  | .hbm, ⟨59, _⟩ => ⟨S4096x1024, .bf16⟩
  | .hbm, ⟨60, _⟩ => ⟨S_, .i32⟩
  | .hbm, ⟨61, _⟩ => ⟨S_, .f32⟩
  | .hbm, ⟨62, _⟩ => ⟨S4096x8x128, .f32⟩
  | .hbm, ⟨63, _⟩ => ⟨S4096x1024, .f32⟩
  | .hbm, ⟨64, _⟩ => ⟨S4096x1024, .bf16⟩
  | .hbm, ⟨65, _⟩ => ⟨S_, .i32⟩
  | .hbm, ⟨66, _⟩ => ⟨S_, .f32⟩
  | .hbm, ⟨67, _⟩ => ⟨S4096x8x128, .f32⟩
  | .hbm, ⟨68, _⟩ => ⟨S4096x1024, .f32⟩
  | .hbm, ⟨69, _⟩ => ⟨S4096x1024, .bf16⟩
  | .hbm, ⟨70, _⟩ => ⟨S4096x8x64, .f32⟩
  | .hbm, ⟨71, _⟩ => ⟨S_, .i32⟩
  | .hbm, ⟨72, _⟩ => ⟨S_, .f32⟩
  | .hbm, ⟨73, _⟩ => ⟨S4096x8x128, .f32⟩
  | .hbm, ⟨74, _⟩ => ⟨S4096x1024, .f32⟩
  | .hbm, ⟨75, _⟩ => ⟨S4096x1024, .bf16⟩
  | .hbm, ⟨76, _⟩ => ⟨S_, .i32⟩
  | .hbm, ⟨77, _⟩ => ⟨S_, .f32⟩
  | .hbm, ⟨78, _⟩ => ⟨S4096x8x128, .f32⟩
  | .hbm, ⟨79, _⟩ => ⟨S4096x1024, .f32⟩
  | .hbm, ⟨80, _⟩ => ⟨S4096x1024, .bf16⟩
  | .hbm, ⟨81, _⟩ => ⟨S4096x32, .f32⟩
  | .hbm, ⟨82, _⟩ => ⟨S_, .i32⟩
  | .hbm, ⟨83, _⟩ => ⟨S_, .f32⟩
  | .hbm, ⟨84, _⟩ => ⟨S4096x128, .f32⟩
  | .hbm, ⟨85, _⟩ => ⟨S4096x32, .f32⟩
  | .hbm, ⟨86, _⟩ => ⟨S_, .i32⟩
  | .hbm, ⟨87, _⟩ => ⟨S_, .f32⟩
  | .hbm, ⟨88, _⟩ => ⟨S4096x128, .f32⟩
  | .hbm, ⟨89, _⟩ => ⟨S4096x1024, .bf16⟩
  | .hbm, ⟨90, _⟩ => ⟨S4096x1024, .bf16⟩
  | .hbm, ⟨91, _⟩ => ⟨S4096x1024, .bf16⟩
  | .hbm, ⟨92, _⟩ => ⟨S4x4096x128, .f32⟩
  | .local _ .vmem, ⟨0, _⟩ => ⟨S4096x256, .bf16⟩
  | .local _ .vmem, ⟨1, _⟩ => ⟨S4096x256, .bf16⟩
  | .local _ .vmem, ⟨2, _⟩ => ⟨S512x256, .bf16⟩
  | .local _ .vmem, ⟨3, _⟩ => ⟨S512x256, .bf16⟩
  | .local _ .vmem, ⟨4, _⟩ => ⟨S512x256, .bf16⟩
  | .local _ .vmem, ⟨5, _⟩ => ⟨S512x256, .bf16⟩
  | .local _ .vmem, ⟨6, _⟩ => ⟨S4096x256, .bf16⟩
  | .local _ .vmem, ⟨7, _⟩ => ⟨S4096x256, .bf16⟩
  | .local _ .vmem, ⟨8, _⟩ => ⟨S4096x256, .bf16⟩
  | .local _ .vmem, ⟨9, _⟩ => ⟨S4096x256, .bf16⟩
  | .local _ .vmem, ⟨10, _⟩ => ⟨S2x4096x1, .f32⟩
  | .local _ .vmem, ⟨11, _⟩ => ⟨S2x4096x1, .f32⟩
  | .local _ .vmem, ⟨12, _⟩ => ⟨S4096x128, .f32⟩
  | .local _ .vmem, ⟨13, _⟩ => ⟨S4096x128, .f32⟩
  | .local _ .vmem, ⟨14, _⟩ => ⟨S4096x256, .bf16⟩
  | .local _ .vmem, ⟨15, _⟩ => ⟨S4096x256, .bf16⟩
  | .local _ .vmem, ⟨16, _⟩ => ⟨S512x256, .bf16⟩
  | .local _ .vmem, ⟨17, _⟩ => ⟨S512x256, .bf16⟩
  | .local _ .vmem, ⟨18, _⟩ => ⟨S512x256, .bf16⟩
  | .local _ .vmem, ⟨19, _⟩ => ⟨S512x256, .bf16⟩
  | .local _ .vmem, ⟨20, _⟩ => ⟨S1x512x128, .f32⟩
  | .local _ .vmem, ⟨21, _⟩ => ⟨S1x512x128, .f32⟩
  | .local _ .vmem, ⟨22, _⟩ => ⟨S4096x256, .f32⟩
  | .local _ .vmem, ⟨23, _⟩ => ⟨S2x4096x1, .f32⟩
  | _, _ => ⟨S4096x8x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_cst_0 : Ref sig .tc := ⟨.hbm, 35, rfl⟩
abbrev main_call0_v0 : Ref sig .tc := ⟨.hbm, 36, rfl⟩
abbrev main_call0_v1 : Ref sig .tc := ⟨.hbm, 37, rfl⟩
abbrev main_call0_v2 : Ref sig .tc := ⟨.hbm, 38, rfl⟩
abbrev main_v28 : Ref sig .tc := ⟨.hbm, 39, rfl⟩
abbrev main_cst_1 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_2 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_c : Ref sig .tc := ⟨.hbm, 55, rfl⟩
abbrev main_call1_v0 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_c_3 : Ref sig .tc := ⟨.hbm, 60, rfl⟩
abbrev main_call2_v0 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_c_4 : Ref sig .tc := ⟨.hbm, 65, rfl⟩
abbrev main_call3_v0 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_c_5 : Ref sig .tc := ⟨.hbm, 71, rfl⟩
abbrev main_call4_v0 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_c_6 : Ref sig .tc := ⟨.hbm, 76, rfl⟩
abbrev main_call5_v0 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_c_7 : Ref sig .tc := ⟨.hbm, 82, rfl⟩
abbrev main_call6_v0 : Ref sig .tc := ⟨.hbm, 83, rfl⟩
abbrev main_v59 : Ref sig .tc := ⟨.hbm, 84, rfl⟩
abbrev main_v60 : Ref sig .tc := ⟨.hbm, 85, rfl⟩
abbrev main_c_8 : Ref sig .tc := ⟨.hbm, 86, rfl⟩
abbrev main_call7_v0 : Ref sig .tc := ⟨.hbm, 87, rfl⟩
abbrev main_v61 : Ref sig .tc := ⟨.hbm, 88, rfl⟩
abbrev main_v62_0 : Ref sig .tc := ⟨.hbm, 89, rfl⟩
abbrev main_v62_1 : Ref sig .tc := ⟨.hbm, 90, rfl⟩
abbrev main_v62_2 : Ref sig .tc := ⟨.hbm, 91, rfl⟩
abbrev main_v62_3 : Ref sig .tc := ⟨.hbm, 92, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_scratch0 : Ref sig .tc := ⟨.vmem, 22, rfl⟩
abbrev cc0_scratch1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21

abbrev nD : Nat := 1
abbrev τ : Topo := Topo.v7x

variable {F : FTy → Type} [FloatOps F]

abbrev grid0 : Pipeline.Grid := ⟨2, ![4, 8], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_60 : BitVec 32 := 0#32
  let c8_i32_61 : BitVec 32 := 8#32
  let v135 : BitVec 32 := Scalar.addi c0_i32_60 c8_i32_61
  let c1_i32_62 : BitVec 32 := 1#32
  ⟨c0_i32_60, v135, c1_i32_62⟩
def k0_mult1 (k0_t1 : Fin k0_t1_loop.trips) : BitVec 32 :=
  let c0_i32_60 : BitVec 32 := 0#32
  let c1_i32_62 : BitVec 32 := 1#32
  let arg16 : BitVec 32 := Scf.iv c0_i32_60 c1_i32_62 k0_t1
  let c512_i32_64 : BitVec 32 := 512#32
  let v136 : BitVec 32 := Scalar.muli arg16 c512_i32_64
  v136
def k0_off1 (k0_t1 : Fin k0_t1_loop.trips) : Fin 2 → Nat :=
  let c0_i32_60 : BitVec 32 := 0#32
  let c1_i32_62 : BitVec 32 := 1#32
  let arg16 : BitVec 32 := Scf.iv c0_i32_60 c1_i32_62 k0_t1
  let c512_i32_64 : BitVec 32 := 512#32
  let v136 : BitVec 32 := Scalar.muli arg16 c512_i32_64
  let v137 : BitVec 32 := v136
  let v138 : Index := Scalar.indexCast v137
  let c0_65 : Index := 0#32
  ![v138.toNat, 0]
def k0_off2 (k0_t1 : Fin k0_t1_loop.trips) : Fin 3 → Nat :=
  let c0_68 : Index := 0#32
  let c0_i32_60 : BitVec 32 := 0#32
  let c1_i32_62 : BitVec 32 := 1#32
  let arg16 : BitVec 32 := Scf.iv c0_i32_60 c1_i32_62 k0_t1
  let c512_i32_64 : BitVec 32 := 512#32
  let v136 : BitVec 32 := Scalar.muli arg16 c512_i32_64
  let v137 : BitVec 32 := v136
  let v149 : Index := Scalar.indexCast v137
  let c0_69 : Index := 0#32
  ![0, v149.toNat, 0]
def k0_off3 (k0_t1 : Fin k0_t1_loop.trips) : Fin 2 → Nat :=
  let c0_i32_60 : BitVec 32 := 0#32
  let c1_i32_62 : BitVec 32 := 1#32
  let arg16 : BitVec 32 := Scf.iv c0_i32_60 c1_i32_62 k0_t1
  let c512_i32_64 : BitVec 32 := 512#32
  let v136 : BitVec 32 := Scalar.muli arg16 c512_i32_64
  let v137 : BitVec 32 := v136
  let v153 : Index := Scalar.indexCast v137
  let c128_70 : Index := 128#32
  ![v153.toNat, 128]
def k0_off4 (k0_t1 : Fin k0_t1_loop.trips) : Fin 3 → Nat :=
  let c1_73 : Index := 1#32
  let c0_i32_60 : BitVec 32 := 0#32
  let c1_i32_62 : BitVec 32 := 1#32
  let arg16 : BitVec 32 := Scf.iv c0_i32_60 c1_i32_62 k0_t1
  let c512_i32_64 : BitVec 32 := 512#32
  let v136 : BitVec 32 := Scalar.muli arg16 c512_i32_64
  let v137 : BitVec 32 := v136
  let v164 : Index := Scalar.indexCast v137
  let c0_74 : Index := 0#32
  ![1, v164.toNat, 0]
def k0_mult2 (i : grid0.Coords) : BitVec 32 :=
  let arg1 : BitVec 32 := BitVec.ofNat 32 (i 1).val
  let c512_i32 : BitVec 32 := 512#32
  let v12 : BitVec 32 := Scalar.muli arg1 c512_i32
  v12
def k0_off5 (i : grid0.Coords) : Fin 2 → Nat :=
  let arg1 : BitVec 32 := BitVec.ofNat 32 (i 1).val
  let c512_i32 : BitVec 32 := 512#32
  let v12 : BitVec 32 := Scalar.muli arg1 c512_i32
  let v13 : BitVec 32 := v12
  let v14 : Index := Scalar.indexCast v13
  let c0_7 : Index := 0#32
  ![v14.toNat, 0]
def k0_off6 (i : grid0.Coords) : Fin 3 → Nat :=
  let c0_11 : Index := 0#32
  let arg1 : BitVec 32 := BitVec.ofNat 32 (i 1).val
  let c512_i32 : BitVec 32 := 512#32
  let v12 : BitVec 32 := Scalar.muli arg1 c512_i32
  let v13 : BitVec 32 := v12
  let v23 : Index := Scalar.indexCast v13
  let c0_12 : Index := 0#32
  ![0, v23.toNat, 0]
def k0_off7 (i : grid0.Coords) : Fin 2 → Nat :=
  let arg1 : BitVec 32 := BitVec.ofNat 32 (i 1).val
  let c512_i32 : BitVec 32 := 512#32
  let v12 : BitVec 32 := Scalar.muli arg1 c512_i32
  let v13 : BitVec 32 := v12
  let v59 : Index := Scalar.indexCast v13
  let c128_24 : Index := 128#32
  ![v59.toNat, 128]
def k0_off8 (i : grid0.Coords) : Fin 3 → Nat :=
  let c1 : Index := 1#32
  let arg1 : BitVec 32 := BitVec.ofNat 32 (i 1).val
  let c512_i32 : BitVec 32 := 512#32
  let v12 : BitVec 32 := Scalar.muli arg1 c512_i32
  let v13 : BitVec 32 := v12
  let v68 : Index := Scalar.indexCast v13
  let c0_28 : Index := 0#32
  ![1, v68.toNat, 0]
@[reducible] def k0_t2_loop (i : grid0.Coords) : Scf.Loop 32 :=
  let arg1 : BitVec 32 := BitVec.ofNat 32 (i 1).val
  let c1_i32 : BitVec 32 := 1#32
  let v104 : BitVec 32 := Scalar.addi arg1 c1_i32
  let c8_i32 : BitVec 32 := 8#32
  let v105 : BitVec 32 := Scalar.subi c8_i32 v104
  let c1_i32_40 : BitVec 32 := 1#32
  let v107 : BitVec 32 := Scalar.divsi v105 c1_i32_40
  let v108 : BitVec 32 := Scalar.muli v107 c1_i32_40
  let v109 : BitVec 32 := Scalar.addi v104 v108
  let c1_i32_41 : BitVec 32 := 1#32
  ⟨v104, v109, c1_i32_41⟩
def k0_mult3 (i : grid0.Coords) (k0_t2 : Fin (k0_t2_loop i).trips) : BitVec 32 :=
  let arg1 : BitVec 32 := BitVec.ofNat 32 (i 1).val
  let c1_i32 : BitVec 32 := 1#32
  let v104 : BitVec 32 := Scalar.addi arg1 c1_i32
  let c1_i32_41 : BitVec 32 := 1#32
  let arg16 : BitVec 32 := Scf.iv v104 c1_i32_41 k0_t2
  let c512_i32_57 : BitVec 32 := 512#32
  let v131 : BitVec 32 := Scalar.muli arg16 c512_i32_57
  v131
def k0_off9 (i : grid0.Coords) (k0_t2 : Fin (k0_t2_loop i).trips) : Fin 2 → Nat :=
  let arg1 : BitVec 32 := BitVec.ofNat 32 (i 1).val
  let c1_i32 : BitVec 32 := 1#32
  let v104 : BitVec 32 := Scalar.addi arg1 c1_i32
  let c1_i32_41 : BitVec 32 := 1#32
  let arg16 : BitVec 32 := Scf.iv v104 c1_i32_41 k0_t2
  let c512_i32_57 : BitVec 32 := 512#32
  let v131 : BitVec 32 := Scalar.muli arg16 c512_i32_57
  let v132 : BitVec 32 := v131
  let v133 : Index := Scalar.indexCast v132
  let c0_58 : Index := 0#32
  ![v133.toNat, 0]
def k0_off10 (i : grid0.Coords) (k0_t2 : Fin (k0_t2_loop i).trips) : Fin 3 → Nat :=
  let c0_62 : Index := 0#32
  let arg1 : BitVec 32 := BitVec.ofNat 32 (i 1).val
  let c1_i32 : BitVec 32 := 1#32
  let v104 : BitVec 32 := Scalar.addi arg1 c1_i32
  let c1_i32_41 : BitVec 32 := 1#32
  let arg16 : BitVec 32 := Scf.iv v104 c1_i32_41 k0_t2
  let c512_i32_57 : BitVec 32 := 512#32
  let v131 : BitVec 32 := Scalar.muli arg16 c512_i32_57
  let v132 : BitVec 32 := v131
  let v142 : Index := Scalar.indexCast v132
  let c0_63 : Index := 0#32
  ![0, v142.toNat, 0]
def k0_off11 (i : grid0.Coords) (k0_t2 : Fin (k0_t2_loop i).trips) : Fin 2 → Nat :=
  let arg1 : BitVec 32 := BitVec.ofNat 32 (i 1).val
  let c1_i32 : BitVec 32 := 1#32
  let v104 : BitVec 32 := Scalar.addi arg1 c1_i32
  let c1_i32_41 : BitVec 32 := 1#32
  let arg16 : BitVec 32 := Scf.iv v104 c1_i32_41 k0_t2
  let c512_i32_57 : BitVec 32 := 512#32
  let v131 : BitVec 32 := Scalar.muli arg16 c512_i32_57
  let v132 : BitVec 32 := v131
  let v173 : Index := Scalar.indexCast v132
  let c128_74 : Index := 128#32
  ![v173.toNat, 128]
def k0_off12 (i : grid0.Coords) (k0_t2 : Fin (k0_t2_loop i).trips) : Fin 3 → Nat :=
  let c1_78 : Index := 1#32
  let arg1 : BitVec 32 := BitVec.ofNat 32 (i 1).val
  let c1_i32 : BitVec 32 := 1#32
  let v104 : BitVec 32 := Scalar.addi arg1 c1_i32
  let c1_i32_41 : BitVec 32 := 1#32
  let arg16 : BitVec 32 := Scf.iv v104 c1_i32_41 k0_t2
  let c512_i32_57 : BitVec 32 := 512#32
  let v131 : BitVec 32 := Scalar.muli arg16 c512_i32_57
  let v132 : BitVec 32 := v131
  let v182 : Index := Scalar.indexCast v132
  let c0_79 : Index := 0#32
  ![1, v182.toNat, 0]
@[reducible] def k0_t3_loop (i : grid0.Coords) : Scf.Loop 32 :=
  let arg1 : BitVec 32 := BitVec.ofNat 32 (i 1).val
  let c1_i32 : BitVec 32 := 1#32
  let v104 : BitVec 32 := Scalar.addi arg1 c1_i32
  let c8_i32 : BitVec 32 := 8#32
  let v105 : BitVec 32 := Scalar.subi c8_i32 v104
  let c1_i32_40 : BitVec 32 := 1#32
  let v107 : BitVec 32 := Scalar.divsi v105 c1_i32_40
  let v108 : BitVec 32 := Scalar.muli v107 c1_i32_40
  let v109 : BitVec 32 := Scalar.addi v104 v108
  let v106 : BitVec 32 := Scalar.addi v104 v105
  let c1_i32_42 : BitVec 32 := 1#32
  ⟨v109, v106, c1_i32_42⟩
def k0_mult4 (i : grid0.Coords) (k0_t3 : Fin (k0_t3_loop i).trips) : BitVec 32 :=
  let arg1 : BitVec 32 := BitVec.ofNat 32 (i 1).val
  let c1_i32 : BitVec 32 := 1#32
  let v104 : BitVec 32 := Scalar.addi arg1 c1_i32
  let c8_i32 : BitVec 32 := 8#32
  let v105 : BitVec 32 := Scalar.subi c8_i32 v104
  let c1_i32_40 : BitVec 32 := 1#32
  let v107 : BitVec 32 := Scalar.divsi v105 c1_i32_40
  let v108 : BitVec 32 := Scalar.muli v107 c1_i32_40
  let v109 : BitVec 32 := Scalar.addi v104 v108
  let c1_i32_42 : BitVec 32 := 1#32
  let arg16 : BitVec 32 := Scf.iv v109 c1_i32_42 k0_t3
  let c512_i32_57 : BitVec 32 := 512#32
  let v131 : BitVec 32 := Scalar.muli arg16 c512_i32_57
  v131
def k0_off13 (i : grid0.Coords) (k0_t3 : Fin (k0_t3_loop i).trips) : Fin 2 → Nat :=
  let arg1 : BitVec 32 := BitVec.ofNat 32 (i 1).val
  let c1_i32 : BitVec 32 := 1#32
  let v104 : BitVec 32 := Scalar.addi arg1 c1_i32
  let c8_i32 : BitVec 32 := 8#32
  let v105 : BitVec 32 := Scalar.subi c8_i32 v104
  let c1_i32_40 : BitVec 32 := 1#32
  let v107 : BitVec 32 := Scalar.divsi v105 c1_i32_40
  let v108 : BitVec 32 := Scalar.muli v107 c1_i32_40
  let v109 : BitVec 32 := Scalar.addi v104 v108
  let c1_i32_42 : BitVec 32 := 1#32
  let arg16 : BitVec 32 := Scf.iv v109 c1_i32_42 k0_t3
  let c512_i32_57 : BitVec 32 := 512#32
  let v131 : BitVec 32 := Scalar.muli arg16 c512_i32_57
  let v132 : BitVec 32 := v131
  let v133 : Index := Scalar.indexCast v132
  let c0_58 : Index := 0#32
  ![v133.toNat, 0]
def k0_off14 (i : grid0.Coords) (k0_t3 : Fin (k0_t3_loop i).trips) : Fin 3 → Nat :=
  let c0_62 : Index := 0#32
  let arg1 : BitVec 32 := BitVec.ofNat 32 (i 1).val
  let c1_i32 : BitVec 32 := 1#32
  let v104 : BitVec 32 := Scalar.addi arg1 c1_i32
  let c8_i32 : BitVec 32 := 8#32
  let v105 : BitVec 32 := Scalar.subi c8_i32 v104
  let c1_i32_40 : BitVec 32 := 1#32
  let v107 : BitVec 32 := Scalar.divsi v105 c1_i32_40
  let v108 : BitVec 32 := Scalar.muli v107 c1_i32_40
  let v109 : BitVec 32 := Scalar.addi v104 v108
  let c1_i32_42 : BitVec 32 := 1#32
  let arg16 : BitVec 32 := Scf.iv v109 c1_i32_42 k0_t3
  let c512_i32_57 : BitVec 32 := 512#32
  let v131 : BitVec 32 := Scalar.muli arg16 c512_i32_57
  let v132 : BitVec 32 := v131
  let v142 : Index := Scalar.indexCast v132
  let c0_63 : Index := 0#32
  ![0, v142.toNat, 0]
def k0_off15 (i : grid0.Coords) (k0_t3 : Fin (k0_t3_loop i).trips) : Fin 2 → Nat :=
  let arg1 : BitVec 32 := BitVec.ofNat 32 (i 1).val
  let c1_i32 : BitVec 32 := 1#32
  let v104 : BitVec 32 := Scalar.addi arg1 c1_i32
  let c8_i32 : BitVec 32 := 8#32
  let v105 : BitVec 32 := Scalar.subi c8_i32 v104
  let c1_i32_40 : BitVec 32 := 1#32
  let v107 : BitVec 32 := Scalar.divsi v105 c1_i32_40
  let v108 : BitVec 32 := Scalar.muli v107 c1_i32_40
  let v109 : BitVec 32 := Scalar.addi v104 v108
  let c1_i32_42 : BitVec 32 := 1#32
  let arg16 : BitVec 32 := Scf.iv v109 c1_i32_42 k0_t3
  let c512_i32_57 : BitVec 32 := 512#32
  let v131 : BitVec 32 := Scalar.muli arg16 c512_i32_57
  let v132 : BitVec 32 := v131
  let v173 : Index := Scalar.indexCast v132
  let c128_74 : Index := 128#32
  ![v173.toNat, 128]
def k0_off16 (i : grid0.Coords) (k0_t3 : Fin (k0_t3_loop i).trips) : Fin 3 → Nat :=
  let c1_78 : Index := 1#32
  let arg1 : BitVec 32 := BitVec.ofNat 32 (i 1).val
  let c1_i32 : BitVec 32 := 1#32
  let v104 : BitVec 32 := Scalar.addi arg1 c1_i32
  let c8_i32 : BitVec 32 := 8#32
  let v105 : BitVec 32 := Scalar.subi c8_i32 v104
  let c1_i32_40 : BitVec 32 := 1#32
  let v107 : BitVec 32 := Scalar.divsi v105 c1_i32_40
  let v108 : BitVec 32 := Scalar.muli v107 c1_i32_40
  let v109 : BitVec 32 := Scalar.addi v104 v108
  let c1_i32_42 : BitVec 32 := 1#32
  let arg16 : BitVec 32 := Scf.iv v109 c1_i32_42 k0_t3
  let c512_i32_57 : BitVec 32 := 512#32
  let v131 : BitVec 32 := Scalar.muli arg16 c512_i32_57
  let v132 : BitVec 32 := v131
  let v182 : Index := Scalar.indexCast v132
  let c0_79 : Index := 0#32
  ![1, v182.toNat, 0]
def k0_cond2 (i : grid0.Coords) : BitVec 1 :=
  let arg1 : BitVec 32 := BitVec.ofNat 32 (i 1).val
  let c7_i32 : BitVec 32 := 7#32
  let v128 : BitVec 1 := Scalar.cmpi .eq arg1 c7_i32
  let v129 : BitVec 32 := Scalar.extui v128
  let c0_i32_56 : BitVec 32 := 0#32
  let v130 : BitVec 1 := Scalar.cmpi .ne v129 c0_i32_56
  v130

@[reducible] def k0_t4_loop : Scf.Loop 32 :=
  let c0_i32_57 : BitVec 32 := 0#32
  let c8_i32_58 : BitVec 32 := 8#32
  let v131 : BitVec 32 := Scalar.addi c0_i32_57 c8_i32_58
  let c1_i32_59 : BitVec 32 := 1#32
  ⟨c0_i32_57, v131, c1_i32_59⟩
def k0_mult5 (k0_t4 : Fin k0_t4_loop.trips) : BitVec 32 :=
  let c0_i32_57 : BitVec 32 := 0#32
  let c1_i32_59 : BitVec 32 := 1#32
  let arg16 : BitVec 32 := Scf.iv c0_i32_57 c1_i32_59 k0_t4
  let c512_i32_61 : BitVec 32 := 512#32
  let v132 : BitVec 32 := Scalar.muli arg16 c512_i32_61
  v132
def k0_off17 (k0_t4 : Fin k0_t4_loop.trips) : Fin 2 → Nat :=
  let c0_i32_57 : BitVec 32 := 0#32
  let c1_i32_59 : BitVec 32 := 1#32
  let arg16 : BitVec 32 := Scf.iv c0_i32_57 c1_i32_59 k0_t4
  let c512_i32_61 : BitVec 32 := 512#32
  let v132 : BitVec 32 := Scalar.muli arg16 c512_i32_61
  let v133 : BitVec 32 := v132
  let v134 : Index := Scalar.indexCast v133
  let c0_62 : Index := 0#32
  ![v134.toNat, 0]
def k0_off18 (k0_t4 : Fin k0_t4_loop.trips) : Fin 2 → Nat :=
  let c0_i32_57 : BitVec 32 := 0#32
  let c1_i32_59 : BitVec 32 := 1#32
  let arg16 : BitVec 32 := Scf.iv c0_i32_57 c1_i32_59 k0_t4
  let c512_i32_61 : BitVec 32 := 512#32
  let v132 : BitVec 32 := Scalar.muli arg16 c512_i32_61
  let v133 : BitVec 32 := v132
  let v147 : Index := Scalar.indexCast v133
  let c0_66 : Index := 0#32
  ![v147.toNat, 0]
def k0_off19 (k0_t4 : Fin k0_t4_loop.trips) : Fin 2 → Nat :=
  let c0_i32_57 : BitVec 32 := 0#32
  let c1_i32_59 : BitVec 32 := 1#32
  let arg16 : BitVec 32 := Scf.iv c0_i32_57 c1_i32_59 k0_t4
  let c512_i32_61 : BitVec 32 := 512#32
  let v132 : BitVec 32 := Scalar.muli arg16 c512_i32_61
  let v133 : BitVec 32 := v132
  let v173 : Index := Scalar.indexCast v133
  let c128_72 : Index := 128#32
  ![v173.toNat, 128]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4096x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S4096x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S2x4096x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S4096x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S4096x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S4096x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S512x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S512x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== KernelIdeal.lean ====
variable {F : FTy → Type} [FloatOps F] [Named F]
def κ : String → Option EReal := fun
  | "attn_scale" => some (((Real.sqrt 96)⁻¹ : ℝ) : EReal)
  | "exp2_scale" => some (((Real.sqrt 96)⁻¹ * (Real.log 2)⁻¹ : ℝ) : EReal)
  | "log2_e" => some (((Real.log 2)⁻¹ : ℝ) : EReal)
  | _ => none
-- ==== ReferenceIdeal.lean ====
abbrev S4096x8x96 : Shape := ⟨3, ![4096, 8, 96]⟩
abbrev S4096x8x64 : Shape := ⟨3, ![4096, 8, 64]⟩
abbrev S4096x16 : Shape := ⟨2, ![4096, 16]⟩
abbrev S4096x512 : Shape := ⟨2, ![4096, 512]⟩
abbrev S4096x8x32 : Shape := ⟨3, ![4096, 8, 32]⟩
abbrev S4096x1x16 : Shape := ⟨3, ![4096, 1, 16]⟩
abbrev S4096x8x16 : Shape := ⟨3, ![4096, 8, 16]⟩
abbrev S8x4096x4096 : Shape := ⟨3, ![8, 4096, 4096]⟩
abbrev S_ : Shape := ⟨0, ![]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S8x4096 : Shape := ⟨2, ![8, 4096]⟩
abbrev S8x4096x1 : Shape := ⟨3, ![8, 4096, 1]⟩
abbrev S8x64x4096 : Shape := ⟨3, ![8, 64, 4096]⟩
abbrev S8x4096x96 : Shape := ⟨3, ![8, 4096, 96]⟩
abbrev S4096x8x128 : Shape := ⟨3, ![4096, 8, 128]⟩
abbrev S4096x4x2x128 : Shape := ⟨4, ![4096, 4, 2, 128]⟩
abbrev S4096x4x128 : Shape := ⟨3, ![4096, 4, 128]⟩
abbrev S4096x1024 : Shape := ⟨2, ![4096, 1024]⟩
abbrev S4x4096x128 : Shape := ⟨3, ![4, 4096, 128]⟩

abbrev nBuf : Space → Nat
  | .hbm => 158
  | .vmem => 0
  | .smem => 0
  | _ => 0

abbrev hbmTy0_0 (i : Nat) : BufTy := match i % 128 with
  | 0 => ⟨S4096x8x96, .f32⟩
  | 1 => ⟨S4096x8x96, .f32⟩
  | 2 => ⟨S4096x8x64, .f32⟩
  | 3 => ⟨S4096x16, .f32⟩
  | 4 => ⟨S4096x16, .f32⟩
  | 5 => ⟨S4096x512, .f32⟩
  | 6 => ⟨S4096x8x32, .f32⟩
  | 7 => ⟨S4096x1x16, .f32⟩
  | 8 => ⟨S4096x1x16, .f32⟩
  | 9 => ⟨S4096x8x16, .f32⟩
  | 10 => ⟨S4096x8x16, .f32⟩
  | 11 => ⟨S4096x8x16, .f32⟩
  | 12 => ⟨S4096x8x16, .f32⟩
  | 13 => ⟨S4096x8x16, .f32⟩
  | 14 => ⟨S4096x8x16, .f32⟩
  | 15 => ⟨S4096x8x16, .f32⟩
  | 16 => ⟨S4096x8x16, .f32⟩
  | 17 => ⟨S4096x8x16, .f32⟩
  | 18 => ⟨S4096x8x16, .f32⟩
  | 19 => ⟨S4096x8x16, .f32⟩
  | 20 => ⟨S4096x8x16, .f32⟩
  | 21 => ⟨S4096x8x32, .f32⟩
  | 22 => ⟨S4096x8x64, .f32⟩
  | 23 => ⟨S4096x8x96, .f32⟩
  | 24 => ⟨S8x4096x4096, .f32⟩
  | 25 => ⟨S_, .f32⟩
  | 26 => ⟨S_, .f32⟩
  | 27 => ⟨S8x4096x4096, .f32⟩
  | 28 => ⟨S8x4096x4096, .f32⟩
  | 29 => ⟨S4096, .i32⟩
  | 30 => ⟨S4096x1, .i32⟩
  | 31 => ⟨S1x4096, .i32⟩
  | 32 => ⟨S4096x4096, .i32⟩
  | 33 => ⟨S4096x4096, .i32⟩
  | 34 => ⟨S4096x4096, .i1⟩
  | 35 => ⟨S_, .f32⟩
  | 36 => ⟨S_, .f32⟩
  | 37 => ⟨S8x4096x4096, .i1⟩
  | 38 => ⟨S8x4096x4096, .f32⟩
  | 39 => ⟨S8x4096x4096, .f32⟩
  | 40 => ⟨S_, .f32⟩
  | 41 => ⟨S8x4096x4096, .f32⟩
  | 42 => ⟨S_, .f32⟩
  | 43 => ⟨S8x4096, .f32⟩
  | 44 => ⟨S8x4096x1, .f32⟩
  | 45 => ⟨S8x4096x4096, .f32⟩
  | 46 => ⟨S8x4096x4096, .i1⟩
  | 47 => ⟨S8x4096x4096, .f32⟩
  | 48 => ⟨S_, .f32⟩
  | 49 => ⟨S8x4096, .f32⟩
  | 50 => ⟨S_, .f32⟩
  | 51 => ⟨S8x4096, .f32⟩
  | 52 => ⟨S8x4096, .f32⟩
  | 53 => ⟨S_, .f32⟩
  | 54 => ⟨S8x4096, .f32⟩
  | 55 => ⟨S8x4096, .i1⟩
  | 56 => ⟨S_, .f32⟩
  | 57 => ⟨S8x4096, .f32⟩
  | 58 => ⟨S8x4096, .i1⟩
  | 59 => ⟨S_, .f32⟩
  | 60 => ⟨S8x4096, .f32⟩
  | 61 => ⟨S_, .f32⟩
  | 62 => ⟨S8x4096, .f32⟩
  | 63 => ⟨S_, .f32⟩
  | 64 => ⟨S8x4096, .f32⟩
  | 65 => ⟨S8x4096, .f32⟩
  | 66 => ⟨S8x4096, .f32⟩
  | 67 => ⟨S8x4096x1, .f32⟩
  | 68 => ⟨S8x4096x4096, .f32⟩
  | 69 => ⟨S8x4096x4096, .f32⟩
  | 70 => ⟨S8x4096x4096, .f32⟩
  | 71 => ⟨S_, .f32⟩
  | 72 => ⟨S8x4096, .f32⟩
  | 73 => ⟨S8x4096x1, .f32⟩
  | 74 => ⟨S8x4096x4096, .f32⟩
  | 75 => ⟨S8x4096x4096, .f32⟩
  | 76 => ⟨S8x4096x1, .f32⟩
  | 77 => ⟨S_, .f32⟩
  | 78 => ⟨S8x4096x1, .f32⟩
  | 79 => ⟨S8x4096x1, .f32⟩
  | 80 => ⟨S8x64x4096, .f32⟩
  | 81 => ⟨S4096x8x64, .f32⟩
  | 82 => ⟨S4096x512, .f32⟩
  | 83 => ⟨S4096x8x64, .f32⟩
  | 84 => ⟨S8x64x4096, .f32⟩
  | 85 => ⟨S8x4096x4096, .f32⟩
  | 86 => ⟨S8x64x4096, .f32⟩
  | 87 => ⟨S4096x8x64, .f32⟩
  | 88 => ⟨S8x4096x4096, .f32⟩
  | 89 => ⟨S8x4096x4096, .f32⟩
  | 90 => ⟨S8x4096x4096, .f32⟩
  | 91 => ⟨S_, .f32⟩
  | 92 => ⟨S8x4096, .f32⟩
  | 93 => ⟨S8x4096x1, .f32⟩
  | 94 => ⟨S8x4096x1, .f32⟩
  | 95 => ⟨S8x4096x4096, .f32⟩
  | 96 => ⟨S8x4096x4096, .f32⟩
  | 97 => ⟨S_, .f32⟩
  | 98 => ⟨S8x4096, .f32⟩
  | 99 => ⟨S8x4096x4096, .f32⟩
  | 100 => ⟨S8x4096x4096, .f32⟩
  | 101 => ⟨S8x4096x4096, .f32⟩
  | 102 => ⟨S_, .f32⟩
  | 103 => ⟨S8x4096x4096, .f32⟩
  | 104 => ⟨S8x4096x4096, .f32⟩
  | 105 => ⟨S8x4096x4096, .f32⟩
  | 106 => ⟨S8x4096x4096, .f32⟩
  | 107 => ⟨S8x4096x96, .f32⟩
  | 108 => ⟨S4096x8x96, .f32⟩
  | 109 => ⟨S8x4096x96, .f32⟩
  | 110 => ⟨S4096x8x96, .f32⟩
  | 111 => ⟨S4096x8x64, .f32⟩
  | 112 => ⟨S4096x8x32, .f32⟩
  | 113 => ⟨S_, .f32⟩
  | 114 => ⟨S4096x8x96, .f32⟩
  | 115 => ⟨S4096x8x16, .f32⟩
  | 116 => ⟨S4096x8x16, .f32⟩
  | 117 => ⟨S4096x8x16, .f32⟩
  | 118 => ⟨S4096x8x16, .f32⟩
  | 119 => ⟨S4096x8x16, .f32⟩
  | 120 => ⟨S4096x8x16, .f32⟩
  | 121 => ⟨S4096x8x16, .f32⟩
  | 122 => ⟨S4096x8x16, .f32⟩
  | 123 => ⟨S4096x8x16, .f32⟩
  | 124 => ⟨S4096x8x16, .f32⟩
  | 125 => ⟨S4096x8x16, .f32⟩
  | 126 => ⟨S4096x8x16, .f32⟩
  | 127 => ⟨S4096x8x16, .f32⟩
  | _ => ⟨S4096x8x96, .f32⟩

abbrev hbmTy0_1 (i : Nat) : BufTy := match i % 128 with
  | 0 => ⟨S_, .f32⟩
  | 1 => ⟨S4096x8x32, .f32⟩
  | 2 => ⟨S_, .f32⟩
  | 3 => ⟨S4096x8x32, .f32⟩
  | 4 => ⟨S4096x8x32, .f32⟩
  | 5 => ⟨S_, .f32⟩
  | 6 => ⟨S4096x8x96, .f32⟩
  | 7 => ⟨S4096x8x96, .f32⟩
  | 8 => ⟨S_, .i32⟩
  | 9 => ⟨S_, .f32⟩
  | 10 => ⟨S4096x8x128, .f32⟩
  | 11 => ⟨S4096x4x2x128, .f32⟩
  | 12 => ⟨S_, .f32⟩
  | 13 => ⟨S4096x4x128, .f32⟩
  | 14 => ⟨S_, .i32⟩
  | 15 => ⟨S_, .f32⟩
  | 16 => ⟨S4096x8x128, .f32⟩
  | 17 => ⟨S4096x1024, .f32⟩
  | 18 => ⟨S4096x1024, .bf16⟩
  | 19 => ⟨S_, .i32⟩
  | 20 => ⟨S_, .f32⟩
  | 21 => ⟨S4096x8x128, .f32⟩
  | 22 => ⟨S4096x1024, .f32⟩
  | 23 => ⟨S4096x1024, .bf16⟩
  | 24 => ⟨S_, .i32⟩
  | 25 => ⟨S_, .f32⟩
  | 26 => ⟨S4096x8x128, .f32⟩
  | 27 => ⟨S4096x1024, .f32⟩
  | 28 => ⟨S4096x1024, .bf16⟩
  | 29 => ⟨S4x4096x128, .f32⟩
  | _ => ⟨S4096x8x96, .f32⟩

abbrev hbmTy (i : Nat) : BufTy := match i / 128 with
  | 0 => hbmTy0_0 i
  | 1 => hbmTy0_1 i
  | _ => ⟨S4096x8x96, .f32⟩

abbrev bufTy : (tb : Table) → Fin (tcTables nBuf tb) → BufTy
  | .hbm, ⟨i, _⟩ => hbmTy i
  | _, _ => ⟨S4096x8x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_cst_0 : Ref sig .tc := ⟨.hbm, 35, rfl⟩
abbrev main_call0_v0 : Ref sig .tc := ⟨.hbm, 36, rfl⟩
abbrev main_v28_1 : Ref sig .tc := ⟨.hbm, 37, rfl⟩
abbrev main_call0_v2 : Ref sig .tc := ⟨.hbm, 38, rfl⟩
abbrev main_v28_0 : Ref sig .tc := ⟨.hbm, 39, rfl⟩
abbrev main_call0_cst : Ref sig .tc := ⟨.hbm, 40, rfl⟩
abbrev main_v28_2 : Ref sig .tc := ⟨.hbm, 41, rfl⟩
abbrev main_cst_1 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_2 : Ref sig .tc := ⟨.hbm, 48, rfl⟩
abbrev main_v34 : Ref sig .tc := ⟨.hbm, 49, rfl⟩
abbrev main_cst_3 : Ref sig .tc := ⟨.hbm, 50, rfl⟩
abbrev main_v35 : Ref sig .tc := ⟨.hbm, 51, rfl⟩
abbrev main_v36 : Ref sig .tc := ⟨.hbm, 52, rfl⟩
abbrev main_cst_4 : Ref sig .tc := ⟨.hbm, 53, rfl⟩
abbrev main_v37 : Ref sig .tc := ⟨.hbm, 54, rfl⟩
abbrev main_v38 : Ref sig .tc := ⟨.hbm, 55, rfl⟩
abbrev main_cst_5 : Ref sig .tc := ⟨.hbm, 56, rfl⟩
abbrev main_v39 : Ref sig .tc := ⟨.hbm, 57, rfl⟩
abbrev main_v40 : Ref sig .tc := ⟨.hbm, 58, rfl⟩
abbrev main_cst_6 : Ref sig .tc := ⟨.hbm, 59, rfl⟩
abbrev main_v41 : Ref sig .tc := ⟨.hbm, 60, rfl⟩
abbrev main_cst_7 : Ref sig .tc := ⟨.hbm, 61, rfl⟩
abbrev main_v42 : Ref sig .tc := ⟨.hbm, 62, rfl⟩
abbrev main_cst_8 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_cst_9 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_cst_10 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_cst_11 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_cst_12 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_call1_cst : Ref sig .tc := ⟨.hbm, 102, rfl⟩
abbrev main_call1_v0 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_cst_13 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_cst_14 : Ref sig .tc := ⟨.hbm, 128, rfl⟩
abbrev main_v100 : Ref sig .tc := ⟨.hbm, 129, rfl⟩
abbrev main_cst_15 : Ref sig .tc := ⟨.hbm, 130, rfl⟩
abbrev main_v101 : Ref sig .tc := ⟨.hbm, 131, rfl⟩
abbrev main_v102 : Ref sig .tc := ⟨.hbm, 132, rfl⟩
abbrev main_cst_16 : Ref sig .tc := ⟨.hbm, 133, rfl⟩
abbrev main_v103 : Ref sig .tc := ⟨.hbm, 134, rfl⟩
abbrev main_v104 : Ref sig .tc := ⟨.hbm, 135, rfl⟩
abbrev main_c : Ref sig .tc := ⟨.hbm, 136, rfl⟩
abbrev main_call2_v0 : Ref sig .tc := ⟨.hbm, 137, rfl⟩
abbrev main_v105 : Ref sig .tc := ⟨.hbm, 138, rfl⟩
abbrev main_v106 : Ref sig .tc := ⟨.hbm, 139, rfl⟩
abbrev main_cst_17 : Ref sig .tc := ⟨.hbm, 140, rfl⟩
abbrev main_v107 : Ref sig .tc := ⟨.hbm, 141, rfl⟩
abbrev main_c_18 : Ref sig .tc := ⟨.hbm, 142, rfl⟩
abbrev main_call3_v0 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_c_19 : Ref sig .tc := ⟨.hbm, 147, rfl⟩
abbrev main_call4_v0 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_c_20 : Ref sig .tc := ⟨.hbm, 152, rfl⟩
abbrev main_call5_v0 : Ref sig .tc := ⟨.hbm, 153, rfl⟩
abbrev main_v114 : Ref sig .tc := ⟨.hbm, 154, rfl⟩
abbrev main_v115 : Ref sig .tc := ⟨.hbm, 155, rfl⟩
abbrev main_v116 : Ref sig .tc := ⟨.hbm, 156, rfl⟩
abbrev main_v117 : Ref sig .tc := ⟨.hbm, 157, rfl⟩

abbrev nD : Nat := 1
abbrev τ : Topo := Topo.v7x

variable {F : FTy → Type} [FloatOps F]
-- ==== Ff2Dx.lean ====
abbrev S4096x4096 : Shape := ⟨2, ![4096, 4096]⟩
abbrev S4096x1024 : Shape := ⟨2, ![4096, 1024]⟩
abbrev S1024x1024 : Shape := ⟨2, ![1024, 1024]⟩

abbrev nBuf : Space → Nat
  | .hbm => 7
  | .vmem => 8
  | .smem => 0
  | _ => 0

abbrev bufTy : (tb : Table) → Fin (tcTables nBuf tb) → BufTy
  | .hbm, ⟨0, _⟩ => ⟨S4096x4096, .f32⟩
  | .hbm, ⟨1, _⟩ => ⟨S4096x1024, .f32⟩
  | .hbm, ⟨2, _⟩ => ⟨S4096x1024, .f32⟩
  | .hbm, ⟨3, _⟩ => ⟨S4096x1024, .bf16⟩
  | .hbm, ⟨4, _⟩ => ⟨S4096x1024, .bf16⟩
  | .hbm, ⟨5, _⟩ => ⟨S4096x4096, .bf16⟩
  | .hbm, ⟨6, _⟩ => ⟨S4096x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Ff2DxReferenceIdeal.lean ====
abbrev S4096x4096 : Shape := ⟨2, ![4096, 4096]⟩
abbrev S4096x1024 : Shape := ⟨2, ![4096, 1024]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x1024, .f32⟩
  | .hbm, ⟨2, _⟩ => ⟨S4096x1024, .f32⟩
  | .hbm, ⟨3, _⟩ => ⟨S_, .f32⟩
  | .hbm, ⟨4, _⟩ => ⟨S4096x4096, .f32⟩
  | .hbm, ⟨5, _⟩ => ⟨S4096x4096, .f32⟩
  | .hbm, ⟨6, _⟩ => ⟨S_, .f32⟩
  | .hbm, ⟨7, _⟩ => ⟨S4096x4096, .f32⟩
  | .hbm, ⟨8, _⟩ => ⟨S4096x4096, .i1⟩
  | .hbm, ⟨9, _⟩ => ⟨S_, .f32⟩
  | .hbm, ⟨10, _⟩ => ⟨S4096x4096, .f32⟩
  | .hbm, ⟨11, _⟩ => ⟨S4096x4096, .f32⟩
  | .hbm, ⟨12, _⟩ => ⟨S_, .f32⟩
  | .hbm, ⟨13, _⟩ => ⟨S4096x4096, .f32⟩
  | .hbm, ⟨14, _⟩ => ⟨S4096x4096, .f32⟩
  | .hbm, ⟨15, _⟩ => ⟨S4096x1024, .f32⟩
  | .hbm, ⟨16, _⟩ => ⟨S4096x4096, .f32⟩
  | .hbm, ⟨17, _⟩ => ⟨S4096x4096, .f32⟩
  | .hbm, ⟨18, _⟩ => ⟨S_, .f32⟩
  | .hbm, ⟨19, _⟩ => ⟨S4096x4096, .f32⟩
  | .hbm, ⟨20, _⟩ => ⟨S4096x4096, .f32⟩
  | .hbm, ⟨21, _⟩ => ⟨S4096x4096, .bf16⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩

abbrev nD : Nat := 1
abbrev τ : Topo := Topo.v7x

variable {F : FTy → Type} [FloatOps F]
-- ==== Ff2Dw.lean ====
abbrev S4096x4096 : Shape := ⟨2, ![4096, 4096]⟩
abbrev S4096x1024 : Shape := ⟨2, ![4096, 1024]⟩
abbrev S_ : Shape := ⟨0, ![]⟩
abbrev S2048x1024 : Shape := ⟨2, ![2048, 1024]⟩
abbrev S1024x1024 : Shape := ⟨2, ![1024, 1024]⟩

abbrev nBuf : Space → Nat
  | .hbm => 9
  | .vmem => 7
  | .smem => 0
  | _ => 0

abbrev bufTy : (tb : Table) → Fin (tcTables nBuf tb) → BufTy
  | .hbm, ⟨0, _⟩ => ⟨S4096x4096, .f32⟩
  | .hbm, ⟨1, _⟩ => ⟨S4096x1024, .f32⟩
  | .hbm, ⟨2, _⟩ => ⟨S_, .f32⟩
  | .hbm, ⟨3, _⟩ => ⟨S4096x4096, .f32⟩
  | .hbm, ⟨4, _⟩ => ⟨S4096x4096, .f32⟩
  | .hbm, ⟨5, _⟩ => ⟨S4096x4096, .f32⟩
  | .hbm, ⟨6, _⟩ => ⟨S4096x4096, .bf16⟩
  | .hbm, ⟨7, _⟩ => ⟨S4096x1024, .bf16⟩
  | .hbm, ⟨8, _⟩ => ⟨S4096x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond3 (i : grid0.Coords) : BitVec 1 :=
  let arg2 : BitVec 32 := BitVec.ofNat 32 (i 2).val
  let c1_i32_3 : BitVec 32 := 1#32
  let v8 : BitVec 1 := Scalar.cmpi .eq arg2 c1_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Ff2DwReferenceIdeal.lean ====
abbrev S4096x4096 : Shape := ⟨2, ![4096, 4096]⟩
abbrev S4096x1024 : Shape := ⟨2, ![4096, 1024]⟩
abbrev S_ : Shape := ⟨0, ![]⟩
abbrev S1024x4096 : Shape := ⟨2, ![1024, 4096]⟩

abbrev nBuf : Space → Nat
  | .hbm => 12
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x1024, .f32⟩
  | .hbm, ⟨2, _⟩ => ⟨S_, .f32⟩
  | .hbm, ⟨3, _⟩ => ⟨S4096x1024, .f32⟩
  | .hbm, ⟨4, _⟩ => ⟨S_, .f32⟩
  | .hbm, ⟨5, _⟩ => ⟨S4096x4096, .f32⟩
  | .hbm, ⟨6, _⟩ => ⟨S4096x4096, .f32⟩
  | .hbm, ⟨7, _⟩ => ⟨S4096x4096, .f32⟩
  | .hbm, ⟨8, _⟩ => ⟨S4096x1024, .f32⟩
  | .hbm, ⟨9, _⟩ => ⟨S1024x4096, .f32⟩
  | .hbm, ⟨10, _⟩ => ⟨S4096x1024, .f32⟩
  | .hbm, ⟨11, _⟩ => ⟨S4096x1024, .bf16⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]
-- ==== Ff1Dw.lean ====
abbrev S4096x1024 : Shape := ⟨2, ![4096, 1024]⟩
abbrev S4096x4096 : Shape := ⟨2, ![4096, 4096]⟩
abbrev S4x1024x1024 : Shape := ⟨3, ![4, 1024, 1024]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x4096, .f32⟩
  | .hbm, ⟨2, _⟩ => ⟨S4096x1024, .bf16⟩
  | .hbm, ⟨3, _⟩ => ⟨S4096x4096, .bf16⟩
  | .hbm, ⟨4, _⟩ => ⟨S4x1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 2], ![false, false, false]⟩

def k0_cond3 (i : grid0.Coords) : BitVec 1 :=
  let arg2 : BitVec 32 := BitVec.ofNat 32 (i 2).val
  let c1_i32_3 : BitVec 32 := 1#32
  let v8 : BitVec 1 := Scalar.cmpi .eq arg2 c1_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Ff1DwReferenceIdeal.lean ====
abbrev S4096x1024 : Shape := ⟨2, ![4096, 1024]⟩
abbrev S4096x4096 : Shape := ⟨2, ![4096, 4096]⟩
abbrev S_ : Shape := ⟨0, ![]⟩
abbrev S1024x4096 : Shape := ⟨2, ![1024, 4096]⟩
abbrev S1024x4x1024 : Shape := ⟨3, ![1024, 4, 1024]⟩
abbrev S4x1024x1024 : Shape := ⟨3, ![4, 1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x4096, .f32⟩
  | .hbm, ⟨2, _⟩ => ⟨S_, .f32⟩
  | .hbm, ⟨3, _⟩ => ⟨S1024x4096, .f32⟩
  | .hbm, ⟨4, _⟩ => ⟨S4096x4096, .f32⟩
  | .hbm, ⟨5, _⟩ => ⟨S4096x1024, .f32⟩
  | .hbm, ⟨6, _⟩ => ⟨S1024x4096, .f32⟩
  | .hbm, ⟨7, _⟩ => ⟨S1024x4x1024, .f32⟩
  | .hbm, ⟨8, _⟩ => ⟨S4x1024x1024, .f32⟩
  | .hbm, ⟨9, _⟩ => ⟨S4x1024x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Ff1Dx.lean ====
abbrev S4096x4096 : Shape := ⟨2, ![4096, 4096]⟩
abbrev S1024x4096 : Shape := ⟨2, ![1024, 4096]⟩
abbrev S1024x4x1024 : Shape := ⟨3, ![1024, 4, 1024]⟩
abbrev S4x1024x1024 : Shape := ⟨3, ![4, 1024, 1024]⟩
abbrev S4096x1024 : Shape := ⟨2, ![4096, 1024]⟩
abbrev S1024x1024 : Shape := ⟨2, ![1024, 1024]⟩
abbrev S1x1024x1024 : Shape := ⟨3, ![1, 1024, 1024]⟩

abbrev nBuf : Space → Nat
  | .hbm => 7
  | .vmem => 7
  | .smem => 0
  | _ => 0

abbrev bufTy : (tb : Table) → Fin (tcTables nBuf tb) → BufTy
  | .hbm, ⟨0, _⟩ => ⟨S4096x4096, .f32⟩
  | .hbm, ⟨1, _⟩ => ⟨S1024x4096, .f32⟩
  | .hbm, ⟨2, _⟩ => ⟨S1024x4x1024, .f32⟩
  | .hbm, ⟨3, _⟩ => ⟨S4x1024x1024, .f32⟩
  | .hbm, ⟨4, _⟩ => ⟨S4x1024x1024, .bf16⟩
  | .hbm, ⟨5, _⟩ => ⟨S4096x4096, .bf16⟩
  | .hbm, ⟨6, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond3 (i : grid0.Coords) : BitVec 1 :=
  let arg2 : BitVec 32 := BitVec.ofNat 32 (i 2).val
  let c3_i32_3 : BitVec 32 := 3#32
  let v8 : BitVec 1 := Scalar.cmpi .eq arg2 c3_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Ff1DxReferenceIdeal.lean ====
abbrev S4096x4096 : Shape := ⟨2, ![4096, 4096]⟩
abbrev S1024x4096 : Shape := ⟨2, ![1024, 4096]⟩
abbrev S_ : Shape := ⟨0, ![]⟩
abbrev S4096x1024 : Shape := ⟨2, ![4096, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S1024x4096, .f32⟩
  | .hbm, ⟨2, _⟩ => ⟨S_, .f32⟩
  | .hbm, ⟨3, _⟩ => ⟨S4096x1024, .f32⟩
  | .hbm, ⟨4, _⟩ => ⟨S4096x4096, .f32⟩
  | .hbm, ⟨5, _⟩ => ⟨S4096x1024, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Ff1.lean ====
abbrev S4096x1024 : Shape := ⟨2, ![4096, 1024]⟩
abbrev S1024x4096 : Shape := ⟨2, ![1024, 4096]⟩
abbrev S1024x4x1024 : Shape := ⟨3, ![1024, 4, 1024]⟩
abbrev S4x1024x1024 : Shape := ⟨3, ![4, 1024, 1024]⟩
abbrev S4096x4096 : Shape := ⟨2, ![4096, 4096]⟩
abbrev S1024x1024 : Shape := ⟨2, ![1024, 1024]⟩
abbrev S1x1024x1024 : Shape := ⟨3, ![1, 1024, 1024]⟩

abbrev nBuf : Space → Nat
  | .hbm => 8
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S1024x4096, .f32⟩
  | .hbm, ⟨2, _⟩ => ⟨S1024x4x1024, .f32⟩
  | .hbm, ⟨3, _⟩ => ⟨S4x1024x1024, .f32⟩
  | .hbm, ⟨4, _⟩ => ⟨S4x1024x1024, .bf16⟩
  | .hbm, ⟨5, _⟩ => ⟨S4096x1024, .bf16⟩
  | .hbm, ⟨6, _⟩ => ⟨S4096x4096, .bf16⟩
  | .hbm, ⟨7, _⟩ => ⟨S4096x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4_0 : Ref sig .tc := ⟨.hbm, 6, rfl⟩
abbrev main_v4_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Ff1ReferenceIdeal.lean ====
abbrev S4096x1024 : Shape := ⟨2, ![4096, 1024]⟩
abbrev S1024x4096 : Shape := ⟨2, ![1024, 4096]⟩
abbrev S4096x4096 : Shape := ⟨2, ![4096, 4096]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x4096, .f32⟩
  | .hbm, ⟨2, _⟩ => ⟨S4096x4096, .f32⟩
  | .hbm, ⟨3, _⟩ => ⟨S4096x4096, .bf16⟩
  | .hbm, ⟨4, _⟩ => ⟨S_, .f32⟩
  | .hbm, ⟨5, _⟩ => ⟨S4096x4096, .f32⟩
  | .hbm, ⟨6, _⟩ => ⟨S4096x4096, .f32⟩
  | .hbm, ⟨7, _⟩ => ⟨S4096x4096, .f32⟩
  | .hbm, ⟨8, _⟩ => ⟨S4096x4096, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_call0_cst : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Ff2.lean ====
abbrev S4096x4096 : Shape := ⟨2, ![4096, 4096]⟩
abbrev S4096x1024 : Shape := ⟨2, ![4096, 1024]⟩
abbrev S1x1024 : Shape := ⟨2, ![1, 1024]⟩
abbrev S_ : Shape := ⟨0, ![]⟩
abbrev S1024x1024 : Shape := ⟨2, ![1024, 1024]⟩

abbrev nBuf : Space → Nat
  | .hbm => 12
  | .vmem => 12
  | .smem => 0
  | _ => 0

abbrev bufTy : (tb : Table) → Fin (tcTables nBuf tb) → BufTy
  | .hbm, ⟨0, _⟩ => ⟨S4096x4096, .f32⟩
  | .hbm, ⟨1, _⟩ => ⟨S4096x1024, .f32⟩
  | .hbm, ⟨2, _⟩ => ⟨S4096x1024, .f32⟩
  | .hbm, ⟨3, _⟩ => ⟨S1x1024, .f32⟩
  | .hbm, ⟨4, _⟩ => ⟨S_, .f32⟩
  | .hbm, ⟨5, _⟩ => ⟨S4096x4096, .f32⟩
  | .hbm, ⟨6, _⟩ => ⟨S4096x4096, .f32⟩
  | .hbm, ⟨7, _⟩ => ⟨S4096x4096, .f32⟩
  | .hbm, ⟨8, _⟩ => ⟨S4096x4096, .bf16⟩
  | .hbm, ⟨9, _⟩ => ⟨S4096x1024, .bf16⟩
  | .hbm, ⟨10, _⟩ => ⟨S4096x1024, .bf16⟩
  | .hbm, ⟨11, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1024x1024, .bf16⟩
  | .local _ .vmem, ⟨8, _⟩ => ⟨S1024x1024, .bf16⟩
  | .local _ .vmem, ⟨9, _⟩ => ⟨S1024x1024, .f32⟩
  | .local _ .vmem, ⟨10, _⟩ => ⟨S1024x1024, .f32⟩
  | .local _ .vmem, ⟨11, _⟩ => ⟨S1024x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨3, ![4, 1, 4], ![false, false, false]⟩

def k0_cond3 (i : grid0.Coords) : BitVec 1 :=
  let arg2 : BitVec 32 := BitVec.ofNat 32 (i 2).val
  let c3_i32_3 : BitVec 32 := 3#32
  let v8 : BitVec 1 := Scalar.cmpi .eq arg2 c3_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== Ff2ReferenceIdeal.lean ====
abbrev S4096x4096 : Shape := ⟨2, ![4096, 4096]⟩
abbrev S4096x1024 : Shape := ⟨2, ![4096, 1024]⟩
abbrev S1x1024 : Shape := ⟨2, ![1, 1024]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x1024, .f32⟩
  | .hbm, ⟨2, _⟩ => ⟨S4096x1024, .f32⟩
  | .hbm, ⟨3, _⟩ => ⟨S1x1024, .f32⟩
  | .hbm, ⟨4, _⟩ => ⟨S_, .f32⟩
  | .hbm, ⟨5, _⟩ => ⟨S4096x4096, .f32⟩
  | .hbm, ⟨6, _⟩ => ⟨S4096x4096, .f32⟩
  | .hbm, ⟨7, _⟩ => ⟨S4096x4096, .f32⟩
  | .hbm, ⟨8, _⟩ => ⟨S4096x1024, .f32⟩
  | .hbm, ⟨9, _⟩ => ⟨S4096x1024, .bf16⟩
  | .hbm, ⟨10, _⟩ => ⟨S4096x1024, .f32⟩
  | .hbm, ⟨11, _⟩ => ⟨S4096x1024, .f32⟩
  | .hbm, ⟨12, _⟩ => ⟨S4096x1024, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_cst : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩

abbrev nD : Nat := 1
abbrev τ : Topo := Topo.v7x

variable {F : FTy → Type} [FloatOps F]
-- ==== Proof.Tiles.lean ====
/- Tiles of the kernel's buffers: what a load of a 512 × 128 tile (or of a column of 512 rows) reads, and what a store of
   one leaves, as functions of the buffer's contents alone. -/
module

public import proofs.«01_k».proof.Proof.Gen.KernelIdeal.Frame
public import Idealize.ShloMosaic.Lib.Pipeline.FrameBody
public import Idealize.ShloMosaic.Lib.WritesUnit
public import Idealize.ShloMosaic.Lib.WholeRead
public import Idealize.ShloMosaic.Lib.ValueIdx

@[expose] public section

noncomputable section

namespace Cert.KernelIdeal.Att

open Idealize.ShloMosaic Idealize.ShloMosaic.ValueIdx

variable {Val : EltTy → Type} {e : EltTy}

/-- Rows `512 r …` and lanes `128 g …` of a 4096 × 256 array. -/
def tile (X : S4096x256.Idx → Val e) (r g : ℕ) : S512x128.Idx → Val e :=
  fun z => X (ix2 ⟨(512 * r + (z 0).val) % 4096, Nat.mod_lt _ (by decide)⟩ ⟨(128 * g + (z 1).val) % 256, Nat.mod_lt _ (by decide)⟩)

/-- Rows `512 r …` of a 4096 × 128 array. -/
def rows (X : S4096x128.Idx → Val e) (r : ℕ) : S512x128.Idx → Val e :=
  fun z => X (ix2 ⟨(512 * r + (z 0).val) % 4096, Nat.mod_lt _ (by decide)⟩ ⟨(z 1).val, (z 1).isLt⟩)

/-- Lanes `128 g …` of a 512 × 256 array. -/
def half (X : S512x256.Idx → Val e) (g : ℕ) : S512x128.Idx → Val e :=
  fun z => X (ix2 ⟨(z 0).val, (z 0).isLt⟩ ⟨(128 * g + (z 1).val) % 256, Nat.mod_lt _ (by decide)⟩)

/-- Rows `512 r …` of the column of head `g`. -/
def col (X : S2x4096x1.Idx → Val e) (g r : ℕ) : S1x512x1.Idx → Val e :=
  fun z => X (ix3 ⟨g % 2, Nat.mod_lt _ (by decide)⟩ ⟨(512 * r + (z 1).val) % 4096, Nat.mod_lt _ (by decide)⟩ 0)

/-- The 4096 × 256 array `X` with the tile at `r`, `g` replaced by `w`. -/
def put (X : S4096x256.Idx → Val e) (r g : ℕ) (w : S512x128.Idx → Val e) : S4096x256.Idx → Val e :=
  fun y => if (y 0).val / 512 = r ∧ (y 1).val / 128 = g then
    w (ix2 ⟨(y 0).val % 512, Nat.mod_lt _ (by decide)⟩ ⟨(y 1).val % 128, Nat.mod_lt _ (by decide)⟩) else X y

/-- The column array `X` with the rows of block `r` of head `g` replaced by `w`. -/
def putCol (X : S2x4096x1.Idx → Val e) (g r : ℕ) (w : S1x512x1.Idx → Val e) : S2x4096x1.Idx → Val e :=
  fun y => if (y 0).val = g ∧ (y 1).val / 512 = r then
    w (ix3 0 ⟨(y 1).val % 512, Nat.mod_lt _ (by decide)⟩ 0) else X y

/-- Two 512 × 128 halves side by side. -/
def join (a b : S512x128.Idx → Val e) : S512x256.Idx → Val e :=
  fun y => if (y 1).val / 128 = 0 then a (ix2 ⟨(y 0).val, (y 0).isLt⟩ ⟨(y 1).val % 128, Nat.mod_lt _ (by decide)⟩)
    else b (ix2 ⟨(y 0).val, (y 0).isLt⟩ ⟨(y 1).val % 128, Nat.mod_lt _ (by decide)⟩)

variable {sig : RefSig} {κ : Kind} {sp : Space}

/-- A load of a 512 × 128 tile of a 4096 × 256 buffer reads that tile. -/
theorem readAt_tile (v : View sig κ sp S4096x256 e) (f : v.ty.Contents Val) {off : Fin 2 → ℕ} (inb : ∀ a, off a + S512x128.size a ≤ S4096x256.size a)
    (r g : ℕ) (ho : off = ![512 * r, 128 * g]) :
    v.readAt Val (Rect.unit (s := S4096x256) off S512x128.size inb).toLoadRect f = tile (v.read Val f) r g := by
  subst ho
  funext z
  have h0 := (z 0).isLt
  have h1 := (z 1).isLt
  have i0 := inb 0
  have i1 := inb 1
  simp at h0 h1 i0 i1
  refine congrArg (v.read Val f) (funext fun a => Fin.ext ?_)
  fin_cases a
  · show 512 * r + 1 * (z 0).val = (512 * r + (z 0).val) % 4096
    rw [Nat.mod_eq_of_lt (by omega)]; omega
  · show 128 * g + 1 * (z 1).val = (128 * g + (z 1).val) % 256
    rw [Nat.mod_eq_of_lt (by omega)]; omega

/-- A load of 512 rows of a 4096 × 128 buffer reads those rows. -/
theorem readAt_rows (v : View sig κ sp S4096x128 e) (f : v.ty.Contents Val) {off : Fin 2 → ℕ} (inb : ∀ a, off a + S512x128.size a ≤ S4096x128.size a)
    (r : ℕ) (ho : off = ![512 * r, 0]) :
    v.readAt Val (Rect.unit (s := S4096x128) off S512x128.size inb).toLoadRect f = rows (v.read Val f) r := by
  subst ho
  funext z
  have h0 := (z 0).isLt
  have i0 := inb 0
  simp at h0 i0
  refine congrArg (v.read Val f) (funext fun a => Fin.ext ?_)
  fin_cases a
  · show 512 * r + 1 * (z 0).val = (512 * r + (z 0).val) % 4096
    rw [Nat.mod_eq_of_lt (by omega)]; omega
  · show 0 + 1 * (z 1).val = (z 1).val
    omega

/-- A load of a half of a 512 × 256 buffer reads that half. -/
theorem readAt_half (v : View sig κ sp S512x256 e) (f : v.ty.Contents Val) {off : Fin 2 → ℕ} (inb : ∀ a, off a + S512x128.size a ≤ S512x256.size a)
    (g : ℕ) (ho : off = ![0, 128 * g]) :
    v.readAt Val (Rect.unit (s := S512x256) off S512x128.size inb).toLoadRect f = half (v.read Val f) g := by
  subst ho
  funext z
  have h1 := (z 1).isLt
  have i1 := inb 1
  simp at h1 i1
  refine congrArg (v.read Val f) (funext fun a => Fin.ext ?_)
  fin_cases a
  · show 0 + 1 * (z 0).val = (z 0).val
    omega
  · show 128 * g + 1 * (z 1).val = (128 * g + (z 1).val) % 256
    rw [Nat.mod_eq_of_lt (by omega)]; omega

/-- A load of 512 rows of a column buffer reads those rows. -/
theorem readAt_col (v : View sig κ sp S2x4096x1 e) (f : v.ty.Contents Val) {off : Fin 3 → ℕ} (inb : ∀ a, off a + S1x512x1.size a ≤ S2x4096x1.size a)
    (g r : ℕ) (ho : off = ![g, 512 * r, 0]) :
    v.readAt Val (Rect.unit (s := S2x4096x1) off S1x512x1.size inb).toLoadRect f = col (v.read Val f) g r := by
  subst ho
  funext z
  have h0 := (z 0).isLt
  have h1 := (z 1).isLt
  have h2 := (z 2).isLt
  have i0 := inb 0
  have i1 := inb 1
  simp at h0 h1 h2 i0 i1
  refine congrArg (v.read Val f) (funext fun a => Fin.ext ?_)
  fin_cases a
  · show g + 1 * (z 0).val = g % 2
    rw [Nat.mod_eq_of_lt (by omega), h0]; simp
  · show 512 * r + 1 * (z 1).val = (512 * r + (z 1).val) % 4096
    rw [Nat.mod_eq_of_lt (by omega)]; omega
  · show 0 + 1 * (z 2).val = 0
    rw [h2]; simp

/-- After a store of a tile, the buffer reads as before with that tile replaced. -/
theorem read_put (v : View sig κ sp S4096x256 e) (f : v.ty.Contents Val) {off : Fin 2 → ℕ} (inb : ∀ a, off a + S512x128.size a ≤ S4096x256.size a)
    (w : S512x128.Idx → Val e) (L : List (View.Piece Val S4096x256 e)) (r g : ℕ) (ho : off = ![512 * r, 128 * g]) :
    v.read Val (v.writes Val f ((⟨Rect.unit (s := S4096x256) off S512x128.size inb, w⟩ : View.Piece Val S4096x256 e) :: L))
      = put (v.read Val (v.writes Val f L)) r g w := by
  funext y
  have h0 := (y 0).isLt
  have h1 := (y 1).isLt
  simp at h0 h1
  unfold put
  by_cases h : (y 0).val / 512 = r ∧ (y 1).val / 128 = g
  · rw [if_pos h]
    refine View.read_writes_cons_unit_of_mem v f inb w L y (ix2 ⟨(y 0).val % 512, Nat.mod_lt _ (by decide)⟩ ⟨(y 1).val % 128, Nat.mod_lt _ (by decide)⟩) ho fun a => ?_
    fin_cases a
    · show (y 0).val = 512 * r + (y 0).val % 512
      omega
    · show (y 1).val = 128 * g + (y 1).val % 128
      omega
  · rw [if_neg h]
    by_cases ha : (y 0).val / 512 = r
    · refine View.read_writes_cons_unit_of_not_mem v f inb w L y ho 1 ?_
      show (y 1).val < 128 * g ∨ 128 * g + 128 ≤ (y 1).val
      omega
    · refine View.read_writes_cons_unit_of_not_mem v f inb w L y ho 0 ?_
      show (y 0).val < 512 * r ∨ 512 * r + 512 ≤ (y 0).val
      omega

/-- After a store of 512 rows of a column, the buffer reads as before with those rows replaced. -/
theorem read_putCol (v : View sig κ sp S2x4096x1 e) (f : v.ty.Contents Val) {off : Fin 3 → ℕ} (inb : ∀ a, off a + S1x512x1.size a ≤ S2x4096x1.size a)
    (w : S1x512x1.Idx → Val e) (L : List (View.Piece Val S2x4096x1 e)) (g r : ℕ) (ho : off = ![g, 512 * r, 0]) :
    v.read Val (v.writes Val f ((⟨Rect.unit (s := S2x4096x1) off S1x512x1.size inb, w⟩ : View.Piece Val S2x4096x1 e) :: L))
      = putCol (v.read Val (v.writes Val f L)) g r w := by
  funext y
  have h0 := (y 0).isLt
  have h1 := (y 1).isLt
  have h2 := (y 2).isLt
  simp at h0 h1 h2
  unfold putCol
  by_cases h : (y 0).val = g ∧ (y 1).val / 512 = r
  · rw [if_pos h]
    refine View.read_writes_cons_unit_of_mem v f inb w L y (ix3 0 ⟨(y 1).val % 512, Nat.mod_lt _ (by decide)⟩ 0) ho fun a => ?_
    fin_cases a
    · show (y 0).val = g + 0
      omega
    · show (y 1).val = 512 * r + (y 1).val % 512
      omega
    · show (y 2).val = 0 + 0
      rw [h2]; rfl
  · rw [if_neg h]
    by_cases ha : (y 0).val = g
    · refine View.read_writes_cons_unit_of_not_mem v f inb w L y ho 1 ?_
      show (y 1).val < 512 * r ∨ 512 * r + 512 ≤ (y 1).val
      omega
    · refine View.read_writes_cons_unit_of_not_mem v f inb w L y ho 0 ?_
      show (y 0).val < g ∨ g + 1 ≤ (y 0).val
      omega

/-- After stores of both halves, the buffer reads the two halves side by side. -/
theorem read_join (v : View sig κ sp S512x256 e) (f : v.ty.Contents Val) {off off' : Fin 2 → ℕ} (inb : ∀ a, off a + S512x128.size a ≤ S512x256.size a)
    (inb' : ∀ a, off' a + S512x128.size a ≤ S512x256.size a) (w w' : S512x128.Idx → Val e) (L : List (View.Piece Val S512x256 e))
    (ho : off = ![0, 128]) (ho' : off' = ![0, 0]) :
    v.read Val (v.writes Val f ((⟨Rect.unit (s := S512x256) off S512x128.size inb, w⟩ : View.Piece Val S512x256 e)
        :: (⟨Rect.unit (s := S512x256) off' S512x128.size inb', w'⟩ : View.Piece Val S512x256 e) :: L)) = join w' w := by
  funext y
  have h0 := (y 0).isLt
  have h1 := (y 1).isLt
  simp at h0 h1
  unfold join
  by_cases h : (y 1).val / 128 = 0
  · rw [if_pos h, View.read_writes_cons_unit_of_not_mem v f inb w _ y ho 1 (by show (y 1).val < 128 ∨ _; omega)]
    refine View.read_writes_cons_unit_of_mem v f inb' w' L y (ix2 ⟨(y 0).val, (y 0).isLt⟩ ⟨(y 1).val % 128, Nat.mod_lt _ (by decide)⟩) ho' fun a => ?_
    fin_cases a
    · show (y 0).val = 0 + (y 0).val
      omega
    · show (y 1).val = 0 + (y 1).val % 128
      omega
  · rw [if_neg h]
    refine View.read_writes_cons_unit_of_mem v f inb w _ y (ix2 ⟨(y 0).val, (y 0).isLt⟩ ⟨(y 1).val % 128, Nat.mod_lt _ (by decide)⟩) ho fun a => ?_
    fin_cases a
    · show (y 0).val = 0 + (y 0).val
      omega
    · show (y 1).val = 128 + (y 1).val % 128
      omega

end Cert.KernelIdeal.Att

end
-- ==== Proof.Trips.lean ====
/- The trips of the kernel's loops as functions of the buffers' contents: the products of the outputs with their gradients, the
   walk over the query blocks below the diagonal, and the turning back of the query gradients. -/
module

public import proofs.«01_k».proof.Proof.Tiles
public import proofs.«01_k».proof.Proof.Gen.KernelIdeal.Skeleton
public import proofs.«01_k».proof.Proof.Gen.KernelIdeal.Loops

@[expose] public section

set_option maxRecDepth 16384

noncomputable section

namespace Cert.KernelIdeal.Att

open Idealize.ShloMosaic Idealize.ShloMosaic.TcCoe Idealize.ShloMosaic.ValueIdx
open Cert.KernelIdeal.Gen

variable {F : FTy → Type} [FloatOps F] [Named F]

/-- The two heads' running gradients of the keys and of the values. -/
abbrev Acc (F : FTy → Type) : Type :=
  FVec F S512x128 .f32 × FVec F S512x128 .f32 × FVec F S512x128 .f32 × FVec F S512x128 .f32

/-- Per query row and head of the pair, the sum over the lanes of output gradient times output. -/
def delta (dy o : Vec F S4096x256 .bf16) : Vec F S2x4096x1 .f32 := fun y =>
  if (y 0).val = 0 then
    k0_pay24 (tile dy ((y 1).val / 512) 0) (tile o ((y 1).val / 512) 0) (ix3 0 ⟨(y 1).val % 512, Nat.mod_lt _ (by decide)⟩ 0)
  else k0_pay25 (tile dy ((y 1).val / 512) 1) (tile o ((y 1).val / 512) 1) (ix3 0 ⟨(y 1).val % 512, Nat.mod_lt _ (by decide)⟩ 0)

section walk
variable (Q O : Vec F S4096x256 .bf16) (l d : Vec F S2x4096x1 .f32) (v4 v6 v8 v10 : FVec F S512x128 .bf16)

/-- What query block `r`, below the diagonal, adds to the running gradients of the keys and values. -/
def stepAcc (r : ℕ) (a : Acc F) : Acc F :=
  (k0_pay11 v4 v6 a.1 (tile Q r 0) (tile O r 0) (col l 0 r) (col d 0 r),
   k0_pay10 v4 a.2.1 (tile Q r 0) (tile O r 0) (col l 0 r),
   k0_pay52 v8 v10 a.2.2.1 (tile Q r 1) (tile O r 1) (col l 1 r) (col d 1 r),
   k0_pay51 v8 a.2.2.2 (tile Q r 1) (tile O r 1) (col l 1 r))

/-- What it adds to the query gradients. -/
def stepDq (r : ℕ) (D : Vec F S4096x256 .f32) : Vec F S4096x256 .f32 :=
  put (put D r 0 (k0_pay12 v4 v6 (tile Q r 0) (tile O r 0) (col l 0 r) (col d 0 r) (tile D r 0)))
    r 1 (k0_pay53 v8 v10 (tile Q r 1) (tile O r 1) (col l 1 r) (col d 1 r) (tile D r 1))

/-- The running gradients after `k` query blocks from block `r` on. -/
def accN (r : ℕ) (a : Acc F) : ℕ → Acc F
  | 0 => a
  | k + 1 => stepAcc Q O l d v4 v6 v8 v10 (r + k) (accN r a k)

/-- The query gradients after `k` query blocks from block `r` on. -/
def dqN (r : ℕ) (D : Vec F S4096x256 .f32) : ℕ → Vec F S4096x256 .f32
  | 0 => D
  | k + 1 => stepDq Q O l d v4 v6 v8 v10 (r + k) (dqN r D k)

end walk

/-- A row block of the query gradients turned back, and rounded. -/
def turned (cs sn : Vec F S4096x128 .f32) (D : Vec F S4096x256 .f32) : Vec F S4096x256 .bf16 := fun y =>
  if (y 1).val / 128 = 0 then
    k0_pay22 (rows sn ((y 0).val / 512)) (rows cs ((y 0).val / 512)) (tile D ((y 0).val / 512) 0)
      (ix2 ⟨(y 0).val % 512, Nat.mod_lt _ (by decide)⟩ ⟨(y 1).val % 128, Nat.mod_lt _ (by decide)⟩)
  else k0_pay5 (k0_pay20 (rows sn ((y 0).val / 512))) (k0_pay21 (rows cs ((y 0).val / 512))) (tile D ((y 0).val / 512) 1)
      (ix2 ⟨(y 0).val % 512, Nat.mod_lt _ (by decide)⟩ ⟨(y 1).val % 128, Nat.mod_lt _ (by decide)⟩)

theorem trips_t1 : k0_t1_loop.trips = 8 := by decide +kernel
theorem trips_t2 : ∀ i : grid0.Coords, (k0_t2_loop i).trips = 7 - (i 1).val := by decide +kernel
theorem trips_t3 : ∀ i : grid0.Coords, (k0_t3_loop i).trips = 0 := by decide +kernel
theorem trips_t4 : k0_t4_loop.trips = 8 := by decide +kernel

variable (c : Dev nD) (bd : Option Variants.none.V) (i : grid0.Coords)
  (arg2 : Memref sig .tc .vmem S4096x256 .bf16) (harg2 : arg2.IsWhole)
  (arg3 : Memref sig .tc .vmem S512x256 .bf16) (harg3 : arg3.IsWhole)
  (arg4 : Memref sig .tc .vmem S512x256 .bf16) (harg4 : arg4.IsWhole)
  (arg5 : Memref sig .tc .vmem S4096x256 .bf16) (harg5 : arg5.IsWhole)
  (arg6 : Memref sig .tc .vmem S4096x256 .bf16) (harg6 : arg6.IsWhole)
  (arg7 : Memref sig .tc .vmem S2x4096x1 .f32) (harg7 : arg7.IsWhole)
  (arg8 : Memref sig .tc .vmem S4096x128 .f32) (harg8 : arg8.IsWhole)
  (arg9 : Memref sig .tc .vmem S4096x128 .f32) (harg9 : arg9.IsWhole)
  (arg10 : Memref sig .tc .vmem S4096x256 .bf16) (harg10 : arg10.IsWhole)
  (arg11 : Memref sig .tc .vmem S512x256 .bf16) (harg11 : arg11.IsWhole)
  (arg12 : Memref sig .tc .vmem S512x256 .bf16) (harg12 : arg12.IsWhole)
  (arg13 : Memref sig .tc .vmem S1x512x128 .f32) (harg13 : arg13.IsWhole)
  (arg14 : Memref sig .tc .vmem S4096x256 .f32) (harg14 : arg14.IsWhole)
  (arg15 : Memref sig .tc .vmem S2x4096x1 .f32) (harg15 : arg15.IsWhole)

/-- The first loop's stores, read back: the rows of the blocks before `k` hold the sums, the others what they held. -/
theorem read_t1 (h : k0_cond1 i = 1#1) (X5 : BufTy.Contents (Elt F) arg5.view.ty) (X6 : BufTy.Contents (Elt F) arg6.view.ty)
    (f : BufTy.Contents (Elt F) arg15.view.ty) : ∀ k : ℕ, k ≤ 8 → ∀ y : S2x4096x1.Idx,
    arg15.view.read (Elt F) (arg15.view.writes (Elt F) f (pb_k0_t1 (F := F) Variants.none c bd i arg2 harg2 arg3 harg3 arg4 harg4 arg5 harg5 arg6 harg6 arg7 harg7 arg8 harg8 arg9 harg9 arg10 harg10 arg11 harg11 arg12 harg12 arg13 harg13 arg14 harg14 arg15 harg15 h X5 X6 k)) y
      = if (y 1).val / 512 < k then delta (arg5.view.read (Elt F) X5) (arg6.view.read (Elt F) X6) y else arg15.view.read (Elt F) f y := by
  intro k
  induction k with
  | zero => intro _ y; rw [if_neg (by omega)]; rfl
  | succ k ih =>
    intro hk y
    rw [pb_k0_t1_succ (F := F) Variants.none c bd i arg2 harg2 arg3 harg3 arg4 harg4 arg5 harg5 arg6 harg6 arg7 harg7 arg8 harg8 arg9 harg9 arg10 harg10 arg11 harg11 arg12 harg12 arg13 harg13 arg14 harg14 arg15 harg15 h X5 X6 ⟨k, by rw [trips_t1]; omega⟩]
    unfold tripL_k0_t1 trip_k0_t1
    simp only [List.cons_append, List.nil_append]
    rw [read_putCol _ _ _ _ _ 1 k (k0_off4_eq _), read_putCol _ _ _ _ _ 0 k (k0_off2_eq _)]
    rw [readAt_tile _ _ _ k 0 (k0_off1_eq _), readAt_tile _ _ _ k 0 (k0_off1_eq _), readAt_tile _ _ _ k 1 (k0_off3_eq _), readAt_tile _ _ _ k 1 (k0_off3_eq _)]
    have h0 : (y 0).val < 2 := (y 0).isLt
    have h1 : (y 1).val < 4096 := (y 1).isLt
    unfold putCol
    by_cases hb : (y 1).val / 512 = k
    · by_cases hg : (y 0).val = 0
      · rw [if_neg (by omega), if_pos ⟨hg, hb⟩, if_pos (by omega)]
        unfold delta
        rw [if_pos hg, hb]
      · rw [if_pos ⟨by omega, hb⟩, if_pos (by omega)]
        unfold delta
        rw [if_neg hg, hb]
    · rw [if_neg (by omega), if_neg (by omega), ih (by omega) y]
      by_cases hlt : (y 1).val / 512 < k
      · rw [if_pos hlt, if_pos (by omega)]
      · rw [if_neg hlt, if_neg (by omega)]

/-- The last loop's stores, read back: the rows of the blocks before `k` hold the turned query gradients. -/
theorem read_t4 (h : k0_cond2 i = 1#1) (X8 : BufTy.Contents (Elt F) arg8.view.ty) (X9 : BufTy.Contents (Elt F) arg9.view.ty)
    (X14 : BufTy.Contents (Elt F) arg14.view.ty) (f : BufTy.Contents (Elt F) arg10.view.ty) : ∀ k : ℕ, k ≤ 8 → ∀ y : S4096x256.Idx,
    arg10.view.read (Elt F) (arg10.view.writes (Elt F) f (pb_k0_t4 (F := F) Variants.none c bd i arg2 harg2 arg3 harg3 arg4 harg4 arg5 harg5 arg6 harg6 arg7 harg7 arg8 harg8 arg9 harg9 arg10 harg10 arg11 harg11 arg12 harg12 arg13 harg13 arg14 harg14 arg15 harg15 h X8 X9 X14 k)) y
      = if (y 0).val / 512 < k then turned (arg8.view.read (Elt F) X8) (arg9.view.read (Elt F) X9) (arg14.view.read (Elt F) X14) y
        else arg10.view.read (Elt F) f y := by
  intro k
  induction k with
  | zero => intro _ y; rw [if_neg (by omega)]; rfl
  | succ k ih =>
    intro hk y
    rw [pb_k0_t4_succ (F := F) Variants.none c bd i arg2 harg2 arg3 harg3 arg4 harg4 arg5 harg5 arg6 harg6 arg7 harg7 arg8 harg8 arg9 harg9 arg10 harg10 arg11 harg11 arg12 harg12 arg13 harg13 arg14 harg14 arg15 harg15 h X8 X9 X14 ⟨k, by rw [trips_t4]; omega⟩]
    unfold tripL_k0_t4 trip_k0_t4
    simp only [List.cons_append, List.nil_append]
    rw [read_put _ _ _ _ _ k 1 (k0_off19_eq _), read_put _ _ _ _ _ k 0 (k0_off18_eq _)]
    have h0 : (y 0).val < 4096 := (y 0).isLt
    have h1 : (y 1).val < 256 := (y 1).isLt
    change put (Val := Elt F) (e := .bf16) (put _ k 0 (k0_pay22 (View.readAt (Elt F) arg9.view (Rect.unit (s := S4096x128) (k0_off17 _) S512x128.size _).toLoadRect X9)
        (View.readAt (Elt F) arg8.view (Rect.unit (s := S4096x128) (k0_off17 _) S512x128.size _).toLoadRect X8)
        (View.readAt (Elt F) arg14.view (Rect.unit (s := S4096x256) (k0_off18 _) S512x128.size _).toLoadRect X14))) k 1
      (k0_pay5 (k0_pay20 (View.readAt (Elt F) arg9.view (Rect.unit (s := S4096x128) (k0_off17 _) S512x128.size _).toLoadRect X9))
        (k0_pay21 (View.readAt (Elt F) arg8.view (Rect.unit (s := S4096x128) (k0_off17 _) S512x128.size _).toLoadRect X8)) _) y = _
    rw [readAt_rows _ _ _ k (k0_off17_eq _), readAt_rows _ _ _ k (k0_off17_eq _), readAt_tile _ _ _ k 0 (k0_off18_eq _)]
    rw [readAt_tile _ _ _ k 1 (k0_off19_eq _)]
    unfold put
    by_cases hb : (y 0).val / 512 = k
    · by_cases hg : (y 1).val / 128 = 0
      · rw [if_neg (by omega), if_pos ⟨hb, hg⟩, if_pos (by omega)]
        unfold turned
        rw [if_pos hg, hb]
      · rw [if_pos ⟨hb, by omega⟩, if_pos (by omega)]
        unfold turned
        rw [if_neg hg, hb]
    · rw [if_neg (by omega), if_neg (by omega), ih (by omega) y]
      by_cases hlt : (y 0).val / 512 < k
      · rw [if_pos hlt, if_pos (by omega)]
      · rw [if_neg hlt, if_neg (by omega)]

theorem off9 (k : Fin (k0_t2_loop i).trips) : k0_off9 i k = ![512 * ((i 1).val + 1 + k.val), 128 * 0] := by
  rw [k0_off9_eq]; congr 1; omega
theorem off10 (k : Fin (k0_t2_loop i).trips) : k0_off10 i k = ![0, 512 * ((i 1).val + 1 + k.val), 0] := by
  rw [k0_off10_eq]; congr 2; omega
theorem off11 (k : Fin (k0_t2_loop i).trips) : k0_off11 i k = ![512 * ((i 1).val + 1 + k.val), 128 * 1] := by
  rw [k0_off11_eq]; congr 1; omega
theorem off12 (k : Fin (k0_t2_loop i).trips) : k0_off12 i k = ![1, 512 * ((i 1).val + 1 + k.val), 0] := by
  rw [k0_off12_eq]; congr 2; omega

/-- The walk below the diagonal, read back: the running gradients and the query gradients before trip `k`. -/
theorem read_t2 (arg1 : BitVec 32) (v4 v6 v8 v10 : FVec F S512x128 .bf16) (v11 : FVec F S512x128 .f32) (v13 : BitVec 32) (v46 v48 : FVec F S512x128 .f32) (v61 v64 : FVec F S512x128 .bf16) (v75 : FVec F S512x512 .f32) (v78 : IVec S512x512 1) (cst_30 : F .f32) (v104 : BitVec 32) (X2 : BufTy.Contents (Elt F) arg2.view.ty) (X5 : BufTy.Contents (Elt F) arg5.view.ty)
    (X7 : BufTy.Contents (Elt F) arg7.view.ty) (X15 : BufTy.Contents (Elt F) arg15.view.ty) (G : BufTy.Contents (Elt F) arg14.view.ty) (a : Acc F) :
    ∀ k : ℕ, k ≤ 7 - (i 1).val →
    (st_k0_t2 (F := F) Variants.none c bd i arg2 harg2 arg3 harg3 arg4 harg4 arg5 harg5 arg6 harg6 arg7 harg7 arg8 harg8 arg9 harg9 arg10 harg10 arg11 harg11 arg12 harg12 arg13 harg13 arg14 harg14 arg15 harg15 arg1 v4 v6 v8 v10 v11 v13 v46 v48 v61 v64 v75 v78 cst_30 v104 X2 X5 X7 X15 G a k).1
      = accN (arg2.view.read (Elt F) X2) (arg5.view.read (Elt F) X5) (arg7.view.read (Elt F) X7) (arg15.view.read (Elt F) X15) v4 v6 v8 v10 ((i 1).val + 1) a k
    ∧ arg14.view.read (Elt F) (arg14.view.writes (Elt F) G (st_k0_t2 (F := F) Variants.none c bd i arg2 harg2 arg3 harg3 arg4 harg4 arg5 harg5 arg6 harg6 arg7 harg7 arg8 harg8 arg9 harg9 arg10 harg10 arg11 harg11 arg12 harg12 arg13 harg13 arg14 harg14 arg15 harg15 arg1 v4 v6 v8 v10 v11 v13 v46 v48 v61 v64 v75 v78 cst_30 v104 X2 X5 X7 X15 G a k).2)
      = dqN (arg2.view.read (Elt F) X2) (arg5.view.read (Elt F) X5) (arg7.view.read (Elt F) X7) (arg15.view.read (Elt F) X15) v4 v6 v8 v10 ((i 1).val + 1)
          (arg14.view.read (Elt F) G) k := by
  intro k
  induction k with
  | zero => intro _; exact ⟨rfl, rfl⟩
  | succ k ih =>
    intro hk
    obtain ⟨ih1, ih2⟩ := ih (by omega)
    have hs := st_k0_t2_succ (F := F) Variants.none c bd i arg2 harg2 arg3 harg3 arg4 harg4 arg5 harg5 arg6 harg6 arg7 harg7 arg8 harg8 arg9 harg9 arg10 harg10 arg11 harg11 arg12 harg12 arg13 harg13 arg14 harg14 arg15 harg15 arg1 v4 v6 v8 v10 v11 v13 v46 v48 v61 v64 v75 v78 cst_30 v104 X2 X5 X7 X15 G a ⟨k, by rw [trips_t2]; omega⟩
    rw [hs]
    unfold tripL_k0_t2 tripR_k0_t2 trip_k0_t2
    dsimp only
    simp only [List.cons_append, List.nil_append]
    rw [read_put _ _ _ _ _ ((i 1).val + 1 + k) 1 (off11 i _), read_put _ _ _ _ _ ((i 1).val + 1 + k) 0 (off9 i _)]
    unfold trip_k0_t2.sl.r trip_k0_t2.sl.r_1 trip_k0_t2.sl.r_2 trip_k0_t2.sl.v204
    rw [readAt_tile arg2.view _ _ _ 0 (off9 i _), readAt_tile arg5.view _ _ _ 0 (off9 i _), readAt_tile arg14.view _ _ _ 0 (off9 i _),
      readAt_col arg7.view _ _ 0 _ (off10 i _), readAt_col arg15.view _ _ 0 _ (off10 i _),
      readAt_tile arg2.view _ _ _ 1 (off11 i _), readAt_tile arg5.view _ _ _ 1 (off11 i _), readAt_tile arg14.view _ _ _ 1 (off11 i _),
      readAt_col arg7.view _ _ 1 _ (off12 i _), readAt_col arg15.view _ _ 1 _ (off12 i _), ih1, ih2]
    exact ⟨rfl, rfl⟩

/-- The whole walk below the diagonal leaves the running gradients of the blocks there. -/
theorem st2_acc (arg1 : BitVec 32) (v4 v6 v8 v10 : FVec F S512x128 .bf16) (v11 : FVec F S512x128 .f32) (v13 : BitVec 32) (v46 v48 : FVec F S512x128 .f32) (v61 v64 : FVec F S512x128 .bf16) (v75 : FVec F S512x512 .f32) (v78 : IVec S512x512 1) (cst_30 : F .f32) (v104 : BitVec 32) (x0 x3 : Vec F S4096x256 .bf16) (x5 dl : Vec F S2x4096x1 .f32) (G : BufTy.Contents (Elt F) arg14.view.ty) (a : Acc F) :
    (st_k0_t2 (F := F) Variants.none c bd i arg2 harg2 arg3 harg3 arg4 harg4 arg5 harg5 arg6 harg6 arg7 harg7 arg8 harg8 arg9 harg9 arg10 harg10 arg11 harg11 arg12 harg12 arg13 harg13 arg14 harg14 arg15 harg15 arg1 v4 v6 v8 v10 v11 v13 v46 v48 v61 v64 v75 v78 cst_30 v104 (harg2.unread x0) (harg5.unread x3) (harg7.unread x5) (harg15.unread dl) G a
      (Scf.trips (k0_t2_loop i).lb (k0_t2_loop i).ub (k0_t2_loop i).st)).1
      = accN x0 x3 x5 dl v4 v6 v8 v10 ((i 1).val + 1) a (7 - (i 1).val) := by
  change (st_k0_t2 (F := F) Variants.none c bd i arg2 harg2 arg3 harg3 arg4 harg4 arg5 harg5 arg6 harg6 arg7 harg7 arg8 harg8 arg9 harg9 arg10 harg10 arg11 harg11 arg12 harg12 arg13 harg13 arg14 harg14 arg15 harg15 arg1 v4 v6 v8 v10 v11 v13 v46 v48 v61 v64 v75 v78 cst_30 v104 (harg2.unread x0) (harg5.unread x3) (harg7.unread x5) (harg15.unread dl) G a
      (k0_t2_loop i).trips).1 = _
  rw [trips_t2]
  have h := (read_t2 c bd i arg2 harg2 arg3 harg3 arg4 harg4 arg5 harg5 arg6 harg6 arg7 harg7 arg8 harg8 arg9 harg9 arg10 harg10 arg11 harg11 arg12 harg12 arg13 harg13 arg14 harg14 arg15 harg15 arg1 v4 v6 v8 v10 v11 v13 v46 v48 v61 v64 v75 v78 cst_30 v104 (harg2.unread x0) (harg5.unread x3) (harg7.unread x5) (harg15.unread dl) G a _ (le_refl _)).1
  rw [harg2.read_unread, harg5.read_unread, harg7.read_unread, harg15.read_unread] at h
  exact h

/-- The same of the walk with its stores. -/
theorem st2_pair (arg1 : BitVec 32) (v4 v6 v8 v10 : FVec F S512x128 .bf16) (v11 : FVec F S512x128 .f32) (v13 : BitVec 32) (v46 v48 : FVec F S512x128 .f32) (v61 v64 : FVec F S512x128 .bf16) (v75 : FVec F S512x512 .f32) (v78 : IVec S512x512 1) (cst_30 : F .f32) (v104 : BitVec 32) (x0 x3 : Vec F S4096x256 .bf16) (x5 dl : Vec F S2x4096x1 .f32) (G : BufTy.Contents (Elt F) arg14.view.ty) (a : Acc F) :
    (st_k0_t2 (F := F) Variants.none c bd i arg2 harg2 arg3 harg3 arg4 harg4 arg5 harg5 arg6 harg6 arg7 harg7 arg8 harg8 arg9 harg9 arg10 harg10 arg11 harg11 arg12 harg12 arg13 harg13 arg14 harg14 arg15 harg15 arg1 v4 v6 v8 v10 v11 v13 v46 v48 v61 v64 v75 v78 cst_30 v104 (harg2.unread x0) (harg5.unread x3) (harg7.unread x5) (harg15.unread dl) G a
      (Scf.trips (k0_t2_loop i).lb (k0_t2_loop i).ub (k0_t2_loop i).st))
      = (accN x0 x3 x5 dl v4 v6 v8 v10 ((i 1).val + 1) a (7 - (i 1).val),
        (st_k0_t2 (F := F) Variants.none c bd i arg2 harg2 arg3 harg3 arg4 harg4 arg5 harg5 arg6 harg6 arg7 harg7 arg8 harg8 arg9 harg9 arg10 harg10 arg11 harg11 arg12 harg12 arg13 harg13 arg14 harg14 arg15 harg15 arg1 v4 v6 v8 v10 v11 v13 v46 v48 v61 v64 v75 v78 cst_30 v104 (harg2.unread x0) (harg5.unread x3) (harg7.unread x5) (harg15.unread dl) G a
      (Scf.trips (k0_t2_loop i).lb (k0_t2_loop i).ub (k0_t2_loop i).st)).2) :=
  Prod.ext (st2_acc c bd i arg2 harg2 arg3 harg3 arg4 harg4 arg5 harg5 arg6 harg6 arg7 harg7 arg8 harg8 arg9 harg9 arg10 harg10 arg11 harg11 arg12 harg12 arg13 harg13 arg14 harg14 arg15 harg15 arg1 v4 v6 v8 v10 v11 v13 v46 v48 v61 v64 v75 v78 cst_30 v104 x0 x3 x5 dl G a) rfl

/-- It leaves the query gradients of the blocks there. -/
theorem st2_dq (arg1 : BitVec 32) (v4 v6 v8 v10 : FVec F S512x128 .bf16) (v11 : FVec F S512x128 .f32) (v13 : BitVec 32) (v46 v48 : FVec F S512x128 .f32) (v61 v64 : FVec F S512x128 .bf16) (v75 : FVec F S512x512 .f32) (v78 : IVec S512x512 1) (cst_30 : F .f32) (v104 : BitVec 32) (x0 x3 : Vec F S4096x256 .bf16) (x5 dl : Vec F S2x4096x1 .f32) (G : BufTy.Contents (Elt F) arg14.view.ty) (a : Acc F) :
    arg14.view.read (Elt F) (arg14.view.writes (Elt F) G (st_k0_t2 (F := F) Variants.none c bd i arg2 harg2 arg3 harg3 arg4 harg4 arg5 harg5 arg6 harg6 arg7 harg7 arg8 harg8 arg9 harg9 arg10 harg10 arg11 harg11 arg12 harg12 arg13 harg13 arg14 harg14 arg15 harg15 arg1 v4 v6 v8 v10 v11 v13 v46 v48 v61 v64 v75 v78 cst_30 v104 (harg2.unread x0) (harg5.unread x3) (harg7.unread x5) (harg15.unread dl) G a
      (Scf.trips (k0_t2_loop i).lb (k0_t2_loop i).ub (k0_t2_loop i).st)).2)
      = dqN x0 x3 x5 dl v4 v6 v8 v10 ((i 1).val + 1) (arg14.view.read (Elt F) G) (7 - (i 1).val) := by
  change arg14.view.read (Elt F) (arg14.view.writes (Elt F) G (st_k0_t2 (F := F) Variants.none c bd i arg2 harg2 arg3 harg3 arg4 harg4 arg5 harg5 arg6 harg6 arg7 harg7 arg8 harg8 arg9 harg9 arg10 harg10 arg11 harg11 arg12 harg12 arg13 harg13 arg14 harg14 arg15 harg15 arg1 v4 v6 v8 v10 v11 v13 v46 v48 v61 v64 v75 v78 cst_30 v104 (harg2.unread x0) (harg5.unread x3) (harg7.unread x5) (harg15.unread dl) G a
      (k0_t2_loop i).trips).2) = _
  rw [trips_t2]
  have h := (read_t2 c bd i arg2 harg2 arg3 harg3 arg4 harg4 arg5 harg5 arg6 harg6 arg7 harg7 arg8 harg8 arg9 harg9 arg10 harg10 arg11 harg11 arg12 harg12 arg13 harg13 arg14 harg14 arg15 harg15 arg1 v4 v6 v8 v10 v11 v13 v46 v48 v61 v64 v75 v78 cst_30 v104 (harg2.unread x0) (harg5.unread x3) (harg7.unread x5) (harg15.unread dl) G a _ (le_refl _)).2
  rw [harg2.read_unread, harg5.read_unread, harg7.read_unread, harg15.read_unread] at h
  exact h

/-- The remainder loop makes no trip. -/
theorem st3_eq (arg1 : BitVec 32) (v4 v6 v8 v10 : FVec F S512x128 .bf16) (v11 : FVec F S512x128 .f32) (v13 : BitVec 32) (v46 v48 : FVec F S512x128 .f32) (v61 v64 : FVec F S512x128 .bf16) (v75 : FVec F S512x512 .f32) (v78 : IVec S512x512 1) (cst_30 : F .f32) (v104 : BitVec 32) (x0 x3 : Vec F S4096x256 .bf16) (x5 dl : Vec F S2x4096x1 .f32) (G : BufTy.Contents (Elt F) arg14.view.ty) (a : Acc F) :
    (st_k0_t3 (F := F) Variants.none c bd i arg2 harg2 arg3 harg3 arg4 harg4 arg5 harg5 arg6 harg6 arg7 harg7 arg8 harg8 arg9 harg9 arg10 harg10 arg11 harg11 arg12 harg12 arg13 harg13 arg14 harg14 arg15 harg15 arg1 v4 v6 v8 v10 v11 v13 v46 v48 v61 v64 v75 v78 cst_30 v104 (harg2.unread x0) (harg5.unread x3) (harg7.unread x5) (harg15.unread dl) G a
      (Scf.trips (k0_t3_loop i).lb (k0_t3_loop i).ub (k0_t3_loop i).st)) = (a, []) := by
  change (st_k0_t3 (F := F) Variants.none c bd i arg2 harg2 arg3 harg3 arg4 harg4 arg5 harg5 arg6 harg6 arg7 harg7 arg8 harg8 arg9 harg9 arg10 harg10 arg11 harg11 arg12 harg12 arg13 harg13 arg14 harg14 arg15 harg15 arg1 v4 v6 v8 v10 v11 v13 v46 v48 v61 v64 v75 v78 cst_30 v104 (harg2.unread x0) (harg5.unread x3) (harg7.unread x5) (harg15.unread dl) G a
      (k0_t3_loop i).trips) = _
  rw [trips_t3]
  rfl

end Cert.KernelIdeal.Att

end
-- ==== Proof.Block.lean ====
/- What one key block leaves: the gradients of its keys and values, and the query gradients it adds to. -/
module

public import proofs.«01_k».proof.Proof.Trips

@[expose] public section

noncomputable section

namespace Cert.KernelIdeal.Att

open Idealize.ShloMosaic Idealize.ShloMosaic.ValueIdx
open Cert.KernelIdeal.Gen

variable {F : FTy → Type} [FloatOps F] [Named F]

section block
variable (x0 : Vec F S4096x256 .bf16) (x1 x2 : Vec F S512x256 .bf16) (x3 : Vec F S4096x256 .bf16)
  (x5 : Vec F S2x4096x1 .f32) (dl : Vec F S2x4096x1 .f32) (r : ℕ)

/-- The block's keys of the pair's first head, … -/
def kA : FVec F S512x128 .bf16 := k0_pay26 (half x1 0)
/-- … its values, … -/
def vA : FVec F S512x128 .bf16 := k0_pay27 (half x2 0)
/-- … the second head's keys, … -/
def kB : FVec F S512x128 .bf16 := k0_pay28 (half x1 1)
/-- … and its values. -/
def vB : FVec F S512x128 .bf16 := k0_pay29 (half x2 1)

/-- The masked weights of the diagonal block of the first head. -/
def pA : FVec F S512x512 .f32 := k0_pay33 (half x1 0) (tile x0 r 0) (col x5 0 r)
/-- The weights of the diagonal block of the second head, before the mask. -/
def pB : FVec F S512x512 .f32 := k0_pay40 (kB x1) (tile x0 r 1) (col x5 1 r)

/-- The gradients of the block's keys and values after the diagonal block. -/
def diagAcc : Acc F :=
  (k0_pay36 (vA x2) k0_pay30 (k0_pay31 (tile x0 r 0)) (k0_pay32 (tile x3 r 0)) (pA x0 x1 x5 r) (constant S512x512 .f32 0x00000000#32) (col dl 0 r),
   k0_pay35 k0_pay30 (k0_pay32 (tile x3 r 0)) (pA x0 x1 x5 r),
   k0_pay45 (vB x2) k0_pay30 (k0_pay38 (tile x0 r 1)) (k0_pay39 (tile x3 r 1)) (pB x0 x1 x5 r) k0_pay41 (Scalar.ofBits .f32 0x00000000#32) (col dl 1 r),
   k0_pay44 k0_pay30 (k0_pay39 (tile x3 r 1)) (pB x0 x1 x5 r) k0_pay41 (Scalar.ofBits .f32 0x00000000#32))

/-- The query gradients after the diagonal block. -/
def diagDq (D : Vec F S4096x256 .f32) : Vec F S4096x256 .f32 :=
  put (put D r 0 (k0_pay37 (kA x1) (vA x2) (k0_pay32 (tile x3 r 0)) (pA x0 x1 x5 r) (constant S512x512 .f32 0x00000000#32) (col dl 0 r) (tile D r 0)))
    r 1 (k0_pay46 (kB x1) (vB x2) (k0_pay39 (tile x3 r 1)) (pB x0 x1 x5 r) k0_pay41 (Scalar.ofBits .f32 0x00000000#32) (col dl 1 r) (tile D r 1))

/-- The gradients of the block's keys and values, before the last scaling. -/
def sums : Acc F := accN x0 x3 x5 dl (kA x1) (vA x2) (kB x1) (vB x2) (r + 1) (diagAcc x0 x1 x2 x3 x5 dl r) (7 - r)

/-- The query gradients after the block. -/
def dqNext (D : Vec F S4096x256 .f32) : Vec F S4096x256 .f32 :=
  dqN x0 x3 x5 dl (kA x1) (vA x2) (kB x1) (vB x2) (r + 1) (diagDq x0 x1 x2 x3 x5 dl r D) (7 - r)

/-- The gradient of the block's keys, rounded. -/
def dkOut : Vec F S512x256 .bf16 := join (k0_pay62 (sums x0 x1 x2 x3 x5 dl r).1) (k0_pay2 (sums x0 x1 x2 x3 x5 dl r).2.2.1)

/-- The gradient of the block's values, rounded. -/
def dvOut : Vec F S512x256 .bf16 := join (k0_pay63 (sums x0 x1 x2 x3 x5 dl r).2.1) (k0_pay3 (sums x0 x1 x2 x3 x5 dl r).2.2.2)

/-- The sum of the two heads' gradients of the keys. -/
def dksOut : Vec F S1x512x128 .f32 := k0_pay4 (sums x0 x1 x2 x3 x5 dl r).2.2.1 (k0_pay61 (sums x0 x1 x2 x3 x5 dl r).1)

end block

end Cert.KernelIdeal.Att

end
-- ==== Proof.Start.lean ====
/- The start of the kernel's body: at the first key block the query gradients are zeroed and the products of the outputs with their
   gradients are taken; then the block's keys and values are loaded. -/
module

public import proofs.«01_k».proof.Proof.Block
public import proofs.«01_k».proof.Proof.Gen.KernelIdeal.Skeleton
public import proofs.«01_k».proof.Proof.Gen.KernelIdeal.Loops
public import proofs.«01_k».proof.Proof.Gen.KernelIdeal.Points
public import Idealize.ShloMosaic.Lib.Pipeline.FrameBody
public import Idealize.ShloMosaic.Lib.Tactic
public import Idealize.ShloMosaic.Lib.VecWindow

@[expose] public section

set_option maxRecDepth 16384

noncomputable section

namespace Cert.KernelIdeal.Att

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F] [Named F]

local notation "𝕄" => MT nD τ sig Unit (Elt F) ℕ (UR sig nD τ) ℕ

/-- What the first part of the body hands to the rest. -/
abbrev StartTy (F : FTy → Type) : Type :=
  Σ' (_ : BitVec 32) (_ : FVec F S512x128 .bf16) (_ : FVec F S512x128 .bf16) (_ : FVec F S512x128 .bf16) (_ : FVec F S512x128 .bf16)
    (_ : FVec F S512x128 .f32) (_ : BitVec 32) (_ : FVec F S512x128 .bf16) (_ : FVec F S512x128 .bf16) (_ : FVec F S512x512 .f32), FVec F S512x512 .f32

variable (c : Dev nD) (i : grid0.Coords)
  (arg2 : Memref sig .tc .vmem S4096x256 .bf16) (harg2 : arg2.IsWhole)
  (arg3 : Memref sig .tc .vmem S512x256 .bf16) (harg3 : arg3.IsWhole)
  (arg4 : Memref sig .tc .vmem S512x256 .bf16) (harg4 : arg4.IsWhole)
  (arg5 : Memref sig .tc .vmem S4096x256 .bf16) (harg5 : arg5.IsWhole)
  (arg6 : Memref sig .tc .vmem S4096x256 .bf16) (harg6 : arg6.IsWhole)
  (arg7 : Memref sig .tc .vmem S2x4096x1 .f32) (harg7 : arg7.IsWhole)
  (arg8 : Memref sig .tc .vmem S4096x128 .f32) (harg8 : arg8.IsWhole)
  (arg9 : Memref sig .tc .vmem S4096x128 .f32) (harg9 : arg9.IsWhole)
  (arg10 : Memref sig .tc .vmem S4096x256 .bf16) (harg10 : arg10.IsWhole)
  (arg11 : Memref sig .tc .vmem S512x256 .bf16) (harg11 : arg11.IsWhole)
  (arg12 : Memref sig .tc .vmem S512x256 .bf16) (harg12 : arg12.IsWhole)
  (arg13 : Memref sig .tc .vmem S1x512x128 .f32) (harg13 : arg13.IsWhole)
  (arg14 : Memref sig .tc .vmem S4096x256 .f32) (harg14 : arg14.IsWhole)
  (arg15 : Memref sig .tc .vmem S2x4096x1 .f32) (harg15 : arg15.IsWhole)
  (x0 : Vec F S4096x256 .bf16) (x1 x2 : Vec F S512x256 .bf16) (x3 x4 : Vec F S4096x256 .bf16)
  (x5 : Vec F S2x4096x1 .f32) (x6 x7 : Vec F S4096x128 .f32)
  (xs0 : Vec F S4096x256 .f32) (xs1 : Vec F S2x4096x1 .f32)

set_option maxHeartbeats 1000000 in
/-- Past the first key block: the scratches are as they were. -/
theorem start_mid (hc : ¬ k0_cond1 i = 1#1) (E : Set ℕ) (K : StartTy F → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7
        ∗ owns (c : Thread nD τ) arg14 fullShare xs0 ∗ owns (c : Thread nD τ) arg15 fullShare xs1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7
          ∗ owns (c : Thread nD τ) arg14 fullShare xs0 ∗ owns (c : Thread nD τ) arg15 fullShare xs1) -∗ K ⟨BitVec.ofNat 32 (i 1).val, kA x1, vA x2, kB x1, vB x2, k0_pay30, Scalar.muli (BitVec.ofNat 32 (i 1).val) 512#32, k0_pay31 (tile x0 (i 1).val 0), k0_pay32 (tile x3 (i 1).val 0), pA x0 x1 x5 (i 1).val, constant S512x512 .f32 0x00000000#32⟩))
      ⊢ wp frame (wpE (defs₀ (F := F)) Variants.none c none) E (k0_part4 i arg2 harg2 arg3 harg3 arg4 harg4 arg5 harg5 arg6 harg6 arg7 harg7 arg8 harg8 arg9 harg9 arg10 harg10 arg11 harg11 arg12 harg12 arg13 harg13 arg14 harg14 arg15 harg15) K := by
    simp only [k0_part4_eq_skeleton]; unfold k0_part4_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    obtain rfl := harg14.eq_unread hfs0; obtain rfl := harg15.eq_unread hfs1
    sl_exec (disch := sl_exact hc)
    sl_step
    rw [readAt_half arg3.view _ _ 0 rfl, readAt_half arg3.view _ _ 1 rfl, readAt_half arg4.view _ _ 0 rfl, readAt_half arg4.view _ _ 1 rfl,
      readAt_tile arg2.view _ _ (i 1).val 0 (k0_off5_eq i), readAt_tile arg5.view _ _ (i 1).val 0 (k0_off5_eq i),
      readAt_col arg7.view _ _ 0 (i 1).val (k0_off6_eq i), harg2.read_unread, harg3.read_unread, harg4.read_unread, harg5.read_unread, harg7.read_unread]
    unfold start_mid.sl.v12 start_mid.sl.cst_15 kA vA kB vB pA
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [HS0]
    · iexists _; isplitr; swap; · iexact HS0
      ipureintro
      exact hfs0
    iexists _; isplitr; swap; · iexact HS1
    ipureintro
    exact hfs1

set_option maxHeartbeats 1000000 in
/-- At the first key block: the query gradients are zero, and the products of the outputs with their gradients are taken. -/
theorem start_first (hc : k0_cond1 i = 1#1) (E : Set ℕ) (K : StartTy F → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7
        ∗ owns (c : Thread nD τ) arg14 fullShare xs0 ∗ owns (c : Thread nD τ) arg15 fullShare xs1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7
          ∗ owns (c : Thread nD τ) arg14 fullShare k0_pay23 ∗ owns (c : Thread nD τ) arg15 fullShare (delta x3 x4)) -∗ K ⟨BitVec.ofNat 32 (i 1).val, kA x1, vA x2, kB x1, vB x2, k0_pay30, Scalar.muli (BitVec.ofNat 32 (i 1).val) 512#32, k0_pay31 (tile x0 (i 1).val 0), k0_pay32 (tile x3 (i 1).val 0), pA x0 x1 x5 (i 1).val, constant S512x512 .f32 0x00000000#32⟩))
      ⊢ wp frame (wpE (defs₀ (F := F)) Variants.none c none) E (k0_part4 i arg2 harg2 arg3 harg3 arg4 harg4 arg5 harg5 arg6 harg6 arg7 harg7 arg8 harg8 arg9 harg9 arg10 harg10 arg11 harg11 arg12 harg12 arg13 harg13 arg14 harg14 arg15 harg15) K := by
    simp only [k0_part4_eq_skeleton]; unfold k0_part4_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    obtain rfl := harg14.eq_unread hfs0; obtain rfl := harg15.eq_unread hfs1
    sl_exec (disch := sl_exact hc)
    sl_step
    rw [readAt_half arg3.view _ _ 0 rfl, readAt_half arg3.view _ _ 1 rfl, readAt_half arg4.view _ _ 0 rfl, readAt_half arg4.view _ _ 1 rfl,
      readAt_tile arg2.view _ _ (i 1).val 0 (k0_off5_eq i), readAt_tile arg5.view _ _ (i 1).val 0 (k0_off5_eq i),
      readAt_col arg7.view _ _ 0 (i 1).val (k0_off6_eq i), harg2.read_unread, harg3.read_unread, harg4.read_unread, harg5.read_unread, harg7.read_unread]
    unfold start_first.sl.v12 start_first.sl.cst_15 kA vA kB vB pA
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [HS0]
    · iexists _; isplitr; swap; · iexact HS0
      ipureintro
      exact View.read_writes_full _ _ _ _ _
    iexists _; isplitr; swap; · iexact HS1
    ipureintro
    change arg15.view.read (Elt F) (arg15.view.writes (Elt F) (harg15.unread xs1)
      (pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 hc (harg5.unread x3) (harg6.unread x4) k0_t1_loop.trips)) = _
    rw [trips_t1]
    funext y
    have h1 : (y 1).val < 4096 := (y 1).isLt
    rw [read_t1 c none i arg2 harg2 arg3 harg3 arg4 harg4 arg5 harg5 arg6 harg6 arg7 harg7 arg8 harg8 arg9 harg9 arg10 harg10 arg11 harg11 arg12 harg12 arg13 harg13 arg14 harg14 arg15 harg15 hc _ _ _ 8 (le_refl _) y, if_pos (by omega), hf3, hf4]

/-- The start of the body at any key block. -/
theorem start_run (E : Set ℕ) (K : StartTy F → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7
        ∗ owns (c : Thread nD τ) arg14 fullShare xs0 ∗ owns (c : Thread nD τ) arg15 fullShare xs1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7
          ∗ owns (c : Thread nD τ) arg14 fullShare (if k0_cond1 i = 1#1 then k0_pay23 else xs0) ∗ owns (c : Thread nD τ) arg15 fullShare (if k0_cond1 i = 1#1 then delta x3 x4 else xs1)) -∗ K ⟨BitVec.ofNat 32 (i 1).val, kA x1, vA x2, kB x1, vB x2, k0_pay30, Scalar.muli (BitVec.ofNat 32 (i 1).val) 512#32, k0_pay31 (tile x0 (i 1).val 0), k0_pay32 (tile x3 (i 1).val 0), pA x0 x1 x5 (i 1).val, constant S512x512 .f32 0x00000000#32⟩))
      ⊢ wp frame (wpE (defs₀ (F := F)) Variants.none c none) E (k0_part4 i arg2 harg2 arg3 harg3 arg4 harg4 arg5 harg5 arg6 harg6 arg7 harg7 arg8 harg8 arg9 harg9 arg10 harg10 arg11 harg11 arg12 harg12 arg13 harg13 arg14 harg14 arg15 harg15) K := by
  by_cases hc : k0_cond1 i = 1#1
  · rw [if_pos hc, if_pos hc]
    exact start_first c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 xs0 xs1 hc E K
  · rw [if_neg hc, if_neg hc]
    exact start_mid c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 xs0 xs1 hc E K

end Cert.KernelIdeal.Att

end
-- ==== Proof.Run.lean ====
/- One run of the kernel's body: what every buffer holds afterwards. -/
module

public import proofs.«01_k».proof.Proof.Start
public import proofs.«01_k».proof.Proof.Gen.KernelIdeal.Skeleton
public import proofs.«01_k».proof.Proof.Gen.KernelIdeal.Loops
public import proofs.«01_k».proof.Proof.Gen.KernelIdeal.Points
public import Idealize.ShloMosaic.Lib.Pipeline.FrameBody
public import Idealize.ShloMosaic.Lib.Tactic
public import Idealize.ShloMosaic.Lib.VecWindow

@[expose] public section

set_option maxRecDepth 16384

noncomputable section

namespace Cert.KernelIdeal.Att

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F] [Named F]

local notation "𝕄" => MT nD τ sig Unit (Elt F) ℕ (UR sig nD τ) ℕ

variable (c : Dev nD) (i : grid0.Coords)
  (arg2 : Memref sig .tc .vmem S4096x256 .bf16) (harg2 : arg2.IsWhole)
  (arg3 : Memref sig .tc .vmem S512x256 .bf16) (harg3 : arg3.IsWhole)
  (arg4 : Memref sig .tc .vmem S512x256 .bf16) (harg4 : arg4.IsWhole)
  (arg5 : Memref sig .tc .vmem S4096x256 .bf16) (harg5 : arg5.IsWhole)
  (arg6 : Memref sig .tc .vmem S4096x256 .bf16) (harg6 : arg6.IsWhole)
  (arg7 : Memref sig .tc .vmem S2x4096x1 .f32) (harg7 : arg7.IsWhole)
  (arg8 : Memref sig .tc .vmem S4096x128 .f32) (harg8 : arg8.IsWhole)
  (arg9 : Memref sig .tc .vmem S4096x128 .f32) (harg9 : arg9.IsWhole)
  (arg10 : Memref sig .tc .vmem S4096x256 .bf16) (harg10 : arg10.IsWhole)
  (arg11 : Memref sig .tc .vmem S512x256 .bf16) (harg11 : arg11.IsWhole)
  (arg12 : Memref sig .tc .vmem S512x256 .bf16) (harg12 : arg12.IsWhole)
  (arg13 : Memref sig .tc .vmem S1x512x128 .f32) (harg13 : arg13.IsWhole)
  (arg14 : Memref sig .tc .vmem S4096x256 .f32) (harg14 : arg14.IsWhole)
  (arg15 : Memref sig .tc .vmem S2x4096x1 .f32) (harg15 : arg15.IsWhole)
  (x0 : Vec F S4096x256 .bf16) (x1 x2 : Vec F S512x256 .bf16) (x3 x4 : Vec F S4096x256 .bf16)
  (x5 : Vec F S2x4096x1 .f32) (x6 x7 : Vec F S4096x128 .f32)
  (xs0 : Vec F S4096x256 .f32) (xs1 : Vec F S2x4096x1 .f32)

/-- The products of the outputs with their gradients, as the body has them at its point. -/
def dlAt (i : grid0.Coords) (x3 x4 : Vec F S4096x256 .bf16) (xs1 : Vec F S2x4096x1 .f32) : Vec F S2x4096x1 .f32 :=
  if k0_cond1 i = 1#1 then delta x3 x4 else xs1

/-- The query gradients after the body at its point. -/
def dqAt (i : grid0.Coords) (x0 : Vec F S4096x256 .bf16) (x1 x2 : Vec F S512x256 .bf16) (x3 : Vec F S4096x256 .bf16) (x5 : Vec F S2x4096x1 .f32)
    (dl : Vec F S2x4096x1 .f32) (xs0 : Vec F S4096x256 .f32) : Vec F S4096x256 .f32 :=
  dqNext x0 x1 x2 x3 x5 dl (i 1).val (if k0_cond1 i = 1#1 then k0_pay23 else xs0)

set_option maxHeartbeats 4000000 in
/-- The body runs: the inputs stay, the three outputs of the key block and the two scratches hold what the block leaves, and at the last key
    block the turned query gradients are stored. -/
theorem body_run (E : Set ℕ) (K : PUnit → sProp 𝕄) (xi8 : Vec F S4096x256 .bf16) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7
        ∗ owns (c : Thread nD τ) arg10 fullShare xi8 ∗ (∃ d, owns (c : Thread nD τ) arg11 fullShare d) ∗ (∃ d, owns (c : Thread nD τ) arg12 fullShare d) ∗ (∃ d, owns (c : Thread nD τ) arg13 fullShare d) ∗ owns (c : Thread nD τ) arg14 fullShare xs0 ∗ owns (c : Thread nD τ) arg15 fullShare xs1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7
          ∗ owns (c : Thread nD τ) arg10 fullShare (if k0_cond2 i = 1#1 then turned x6 x7 (dqAt i x0 x1 x2 x3 x5 (dlAt i x3 x4 xs1) xs0) else xi8)
          ∗ owns (c : Thread nD τ) arg11 fullShare (dkOut x0 x1 x2 x3 x5 (dlAt i x3 x4 xs1) (i 1).val)
          ∗ owns (c : Thread nD τ) arg12 fullShare (dvOut x0 x1 x2 x3 x5 (dlAt i x3 x4 xs1) (i 1).val)
          ∗ owns (c : Thread nD τ) arg13 fullShare (dksOut x0 x1 x2 x3 x5 (dlAt i x3 x4 xs1) (i 1).val)
          ∗ owns (c : Thread nD τ) arg14 fullShare (dqAt i x0 x1 x2 x3 x5 (dlAt i x3 x4 xs1) xs0) ∗ owns (c : Thread nD τ) arg15 fullShare (dlAt i x3 x4 xs1)) -∗ K ⟨⟩))
      ⊢ wp frame (wpE (defs₀ (F := F)) Variants.none c none) E (cc0_attn_bwd i arg2 harg2 arg3 harg3 arg4 harg4 arg5 harg5 arg6 harg6 arg7 harg7 arg8 harg8 arg9 harg9 arg10 harg10 arg11 harg11 arg12 harg12 arg13 harg13 arg14 harg14 arg15 harg15) K := by
    simp only [cc0_attn_bwd_eq_skeleton]; unfold cc0_attn_bwd_skel
    rw [wp_bind]
    iintro ⟨H0, H1, H2, H3, H4, H5, H6, H7, H8, H9, H10, H11, HS0, HS1, Hk⟩
    iapply (start_run c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 xs0 xs1 E _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HS0]; · iexact HS0
    isplitl [HS1]; · iexact HS1
    unfold dqAt
    rw [show (if k0_cond1 i = 1#1 then delta x3 x4 else xs1) = dlAt i x3 x4 xs1 from rfl]
    generalize dlAt i x3 x4 xs1 = dl
    generalize (if k0_cond1 i = 1#1 then k0_pay23 else xs0) = D
    simp only [k0_part5_eq_skeleton, k0_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, ⟨%fs1, %hfs1, HS1⟩⟩
    icases H8 with ⟨%f8, %hf8, H8⟩
    icases H9 with ⟨%d9, %f9, -, H9⟩
    icases H10 with ⟨%d10, %f10, -, H10⟩
    icases H11 with ⟨%d11, %f11, -, H11⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8
    obtain rfl := harg14.eq_unread hfs0; obtain rfl := harg15.eq_unread hfs1
    dsimp only
    set_option sl_exec.stopBefore "k0_cond2" in sl_exec
    by_cases hc1 : k0_cond2 i = 1#1
    · rw [if_pos hc1]
      sl_exec (disch := sl_exact hc1)
      sl_step
      iapply Hk
      isplitl [H0]
      · iexists _; isplitr; · ipureintro; exact harg2.read_unread _
        iexact H0
      isplitl [H1]
      · iexists _; isplitr; · ipureintro; exact harg3.read_unread _
        iexact H1
      isplitl [H2]
      · iexists _; isplitr; · ipureintro; exact harg4.read_unread _
        iexact H2
      isplitl [H3]
      · iexists _; isplitr; · ipureintro; exact harg5.read_unread _
        iexact H3
      isplitl [H4]
      · iexists _; isplitr; · ipureintro; exact harg6.read_unread _
        iexact H4
      isplitl [H5]
      · iexists _; isplitr; · ipureintro; exact harg7.read_unread _
        iexact H5
      isplitl [H6]
      · iexists _; isplitr; · ipureintro; exact harg8.read_unread _
        iexact H6
      isplitl [H7]
      · iexists _; isplitr; · ipureintro; exact harg9.read_unread _
        iexact H7
      isplitl [H8]
      · iexists _; isplitr; swap; · iexact H8
        ipureintro
        refine funext fun y => ?_
        have h0 : (y 0).val < 4096 := (y 0).isLt
        rw [show ∀ X : BufTy.Contents (Elt F) arg14.view.ty, arg10.view.read (Elt F) (arg10.view.writes (Elt F) (harg10.unread xi8)
              (pb_k0_t4 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 hc1 (harg8.unread x6) (harg9.unread x7) X (Scf.trips k0_t4_loop.lb k0_t4_loop.ub k0_t4_loop.st))) y
              = turned x6 x7 (arg14.view.read (Elt F) X) y from fun X => by
            change arg10.view.read (Elt F) (arg10.view.writes (Elt F) (harg10.unread xi8)
              (pb_k0_t4 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 hc1 (harg8.unread x6) (harg9.unread x7) X k0_t4_loop.trips)) y = _
            rw [trips_t4, read_t4 c none i arg2 harg2 arg3 harg3 arg4 harg4 arg5 harg5 arg6 harg6 arg7 harg7 arg8 harg8 arg9 harg9 arg10 harg10 arg11 harg11 arg12 harg12 arg13 harg13 arg14 harg14 arg15 harg15 hc1 _ _ _ _ 8 (le_refl _) y, if_pos (by omega), hf6, hf7]]
        refine congrFun (congrArg (turned x6 x7) ?_) y
        rw [st3_eq, List.nil_append, View.writes_append]
        rw [st2_dq, read_put _ _ _ _ _ (i 1).val 1 (k0_off7_eq i), read_put _ _ _ _ _ (i 1).val 0 (k0_off5_eq i), View.writes_nil]
        unfold body_run.sl.r_3 body_run.sl.r_4 body_run.sl.cst_30 body_run.sl.v95
        simp only [readAt_tile arg2.view _ _ (i 1).val 1 (k0_off7_eq i), readAt_tile arg5.view _ _ (i 1).val 1 (k0_off7_eq i),
          readAt_tile arg14.view _ _ (i 1).val 1 (k0_off7_eq i), readAt_tile arg14.view _ _ (i 1).val 0 (k0_off5_eq i),
          readAt_col arg7.view _ _ 1 (i 1).val (k0_off8_eq i), readAt_col arg15.view _ _ 1 (i 1).val (k0_off8_eq i),
          readAt_col arg15.view _ _ 0 (i 1).val (k0_off6_eq i), harg2.read_unread, harg5.read_unread, harg7.read_unread, harg14.read_unread, harg15.read_unread]
        rfl
      isplitl [H9]
      · iexists _; isplitr; swap; · iexact H9
        ipureintro
        rw [read_join _ _ _ _ _ _ _ rfl rfl]
        unfold body_run.sl.r_5
        rw [st3_eq, st2_pair]
        unfold body_run.sl.r body_run.sl.r_1 body_run.sl.r_2 body_run.sl.r_3 body_run.sl.r_4 body_run.sl.cst_30
        simp only [readAt_tile arg2.view _ _ (i 1).val 1 (k0_off7_eq i), readAt_tile arg5.view _ _ (i 1).val 1 (k0_off7_eq i),
          readAt_tile arg14.view _ _ (i 1).val 1 (k0_off7_eq i), readAt_tile arg14.view _ _ (i 1).val 0 (k0_off5_eq i),
          readAt_col arg7.view _ _ 1 (i 1).val (k0_off8_eq i), readAt_col arg15.view _ _ 1 (i 1).val (k0_off8_eq i),
          readAt_col arg15.view _ _ 0 (i 1).val (k0_off6_eq i), harg2.read_unread, harg5.read_unread, harg7.read_unread, harg14.read_unread, harg15.read_unread]
        rfl
      isplitl [H10]
      · iexists _; isplitr; swap; · iexact H10
        ipureintro
        rw [read_join _ _ _ _ _ _ _ rfl rfl]
        unfold body_run.sl.r_6 body_run.sl.r_8
        rw [st3_eq, st2_pair]
        unfold body_run.sl.r body_run.sl.r_1 body_run.sl.r_2 body_run.sl.r_3 body_run.sl.r_4 body_run.sl.cst_30
        simp only [readAt_tile arg2.view _ _ (i 1).val 1 (k0_off7_eq i), readAt_tile arg5.view _ _ (i 1).val 1 (k0_off7_eq i),
          readAt_tile arg14.view _ _ (i 1).val 1 (k0_off7_eq i), readAt_tile arg14.view _ _ (i 1).val 0 (k0_off5_eq i),
          readAt_col arg7.view _ _ 1 (i 1).val (k0_off8_eq i), readAt_col arg15.view _ _ 1 (i 1).val (k0_off8_eq i),
          readAt_col arg15.view _ _ 0 (i 1).val (k0_off6_eq i), harg2.read_unread, harg5.read_unread, harg7.read_unread, harg14.read_unread, harg15.read_unread]
        rfl
      isplitl [H11]
      · iexists _; isplitr; swap; · iexact H11
        ipureintro
        refine (View.read_writes_full _ _ _ _ _).trans ?_
        unfold body_run.sl.r_5 body_run.sl.r_7
        rw [st3_eq, st2_pair]
        unfold body_run.sl.r body_run.sl.r_1 body_run.sl.r_2 body_run.sl.r_3 body_run.sl.r_4 body_run.sl.cst_30
        simp only [readAt_tile arg2.view _ _ (i 1).val 1 (k0_off7_eq i), readAt_tile arg5.view _ _ (i 1).val 1 (k0_off7_eq i),
          readAt_tile arg14.view _ _ (i 1).val 1 (k0_off7_eq i), readAt_tile arg14.view _ _ (i 1).val 0 (k0_off5_eq i),
          readAt_col arg7.view _ _ 1 (i 1).val (k0_off8_eq i), readAt_col arg15.view _ _ 1 (i 1).val (k0_off8_eq i),
          readAt_col arg15.view _ _ 0 (i 1).val (k0_off6_eq i), harg2.read_unread, harg5.read_unread, harg7.read_unread, harg14.read_unread, harg15.read_unread]
        rfl
      isplitl [HS0]
      · iexists _; isplitr; swap; · iexact HS0
        ipureintro
        rw [st3_eq, List.nil_append, View.writes_append]
        rw [st2_dq, read_put _ _ _ _ _ (i 1).val 1 (k0_off7_eq i), read_put _ _ _ _ _ (i 1).val 0 (k0_off5_eq i), View.writes_nil]
        unfold body_run.sl.r_3 body_run.sl.r_4 body_run.sl.cst_30 body_run.sl.v95
        simp only [readAt_tile arg2.view _ _ (i 1).val 1 (k0_off7_eq i), readAt_tile arg5.view _ _ (i 1).val 1 (k0_off7_eq i),
          readAt_tile arg14.view _ _ (i 1).val 1 (k0_off7_eq i), readAt_tile arg14.view _ _ (i 1).val 0 (k0_off5_eq i),
          readAt_col arg7.view _ _ 1 (i 1).val (k0_off8_eq i), readAt_col arg15.view _ _ 1 (i 1).val (k0_off8_eq i),
          readAt_col arg15.view _ _ 0 (i 1).val (k0_off6_eq i), harg2.read_unread, harg5.read_unread, harg7.read_unread, harg14.read_unread, harg15.read_unread]
        rfl
      iexists _; isplitr; · ipureintro; exact harg15.read_unread _
      iexact HS1
    · rw [if_neg hc1]
      sl_exec (disch := sl_exact hc1)
      sl_step
      iapply Hk
      isplitl [H0]
      · iexists _; isplitr; · ipureintro; exact harg2.read_unread _
        iexact H0
      isplitl [H1]
      · iexists _; isplitr; · ipureintro; exact harg3.read_unread _
        iexact H1
      isplitl [H2]
      · iexists _; isplitr; · ipureintro; exact harg4.read_unread _
        iexact H2
      isplitl [H3]
      · iexists _; isplitr; · ipureintro; exact harg5.read_unread _
        iexact H3
      isplitl [H4]
      · iexists _; isplitr; · ipureintro; exact harg6.read_unread _
        iexact H4
      isplitl [H5]
      · iexists _; isplitr; · ipureintro; exact harg7.read_unread _
        iexact H5
      isplitl [H6]
      · iexists _; isplitr; · ipureintro; exact harg8.read_unread _
        iexact H6
      isplitl [H7]
      · iexists _; isplitr; · ipureintro; exact harg9.read_unread _
        iexact H7
      isplitl [H8]
      · iexists _; isplitr; swap; · iexact H8
        ipureintro
        exact hf8
      isplitl [H9]
      · iexists _; isplitr; swap; · iexact H9
        ipureintro
        rw [read_join _ _ _ _ _ _ _ rfl rfl]
        unfold body_run.sl.r_5
        rw [st3_eq, st2_pair]
        unfold body_run.sl.r body_run.sl.r_1 body_run.sl.r_2 body_run.sl.r_3 body_run.sl.r_4 body_run.sl.cst_30
        simp only [readAt_tile arg2.view _ _ (i 1).val 1 (k0_off7_eq i), readAt_tile arg5.view _ _ (i 1).val 1 (k0_off7_eq i),
          readAt_tile arg14.view _ _ (i 1).val 1 (k0_off7_eq i), readAt_tile arg14.view _ _ (i 1).val 0 (k0_off5_eq i),
          readAt_col arg7.view _ _ 1 (i 1).val (k0_off8_eq i), readAt_col arg15.view _ _ 1 (i 1).val (k0_off8_eq i),
          readAt_col arg15.view _ _ 0 (i 1).val (k0_off6_eq i), harg2.read_unread, harg5.read_unread, harg7.read_unread, harg14.read_unread, harg15.read_unread]
        rfl
      isplitl [H10]
      · iexists _; isplitr; swap; · iexact H10
        ipureintro
        rw [read_join _ _ _ _ _ _ _ rfl rfl]
        unfold body_run.sl.r_6 body_run.sl.r_8
        rw [st3_eq, st2_pair]
        unfold body_run.sl.r body_run.sl.r_1 body_run.sl.r_2 body_run.sl.r_3 body_run.sl.r_4 body_run.sl.cst_30
        simp only [readAt_tile arg2.view _ _ (i 1).val 1 (k0_off7_eq i), readAt_tile arg5.view _ _ (i 1).val 1 (k0_off7_eq i),
          readAt_tile arg14.view _ _ (i 1).val 1 (k0_off7_eq i), readAt_tile arg14.view _ _ (i 1).val 0 (k0_off5_eq i),
          readAt_col arg7.view _ _ 1 (i 1).val (k0_off8_eq i), readAt_col arg15.view _ _ 1 (i 1).val (k0_off8_eq i),
          readAt_col arg15.view _ _ 0 (i 1).val (k0_off6_eq i), harg2.read_unread, harg5.read_unread, harg7.read_unread, harg14.read_unread, harg15.read_unread]
        rfl
      isplitl [H11]
      · iexists _; isplitr; swap; · iexact H11
        ipureintro
        refine (View.read_writes_full _ _ _ _ _).trans ?_
        unfold body_run.sl.r_5 body_run.sl.r_7
        rw [st3_eq, st2_pair]
        unfold body_run.sl.r body_run.sl.r_1 body_run.sl.r_2 body_run.sl.r_3 body_run.sl.r_4 body_run.sl.cst_30
        simp only [readAt_tile arg2.view _ _ (i 1).val 1 (k0_off7_eq i), readAt_tile arg5.view _ _ (i 1).val 1 (k0_off7_eq i),
          readAt_tile arg14.view _ _ (i 1).val 1 (k0_off7_eq i), readAt_tile arg14.view _ _ (i 1).val 0 (k0_off5_eq i),
          readAt_col arg7.view _ _ 1 (i 1).val (k0_off8_eq i), readAt_col arg15.view _ _ 1 (i 1).val (k0_off8_eq i),
          readAt_col arg15.view _ _ 0 (i 1).val (k0_off6_eq i), harg2.read_unread, harg5.read_unread, harg7.read_unread, harg14.read_unread, harg15.read_unread]
        rfl
      isplitl [HS0]
      · iexists _; isplitr; swap; · iexact HS0
        ipureintro
        rw [st3_eq, List.nil_append, View.writes_append]
        rw [st2_dq, read_put _ _ _ _ _ (i 1).val 1 (k0_off7_eq i), read_put _ _ _ _ _ (i 1).val 0 (k0_off5_eq i), View.writes_nil]
        unfold body_run.sl.r_3 body_run.sl.r_4 body_run.sl.cst_30 body_run.sl.v95
        simp only [readAt_tile arg2.view _ _ (i 1).val 1 (k0_off7_eq i), readAt_tile arg5.view _ _ (i 1).val 1 (k0_off7_eq i),
          readAt_tile arg14.view _ _ (i 1).val 1 (k0_off7_eq i), readAt_tile arg14.view _ _ (i 1).val 0 (k0_off5_eq i),
          readAt_col arg7.view _ _ 1 (i 1).val (k0_off8_eq i), readAt_col arg15.view _ _ 1 (i 1).val (k0_off8_eq i),
          readAt_col arg15.view _ _ 0 (i 1).val (k0_off6_eq i), harg2.read_unread, harg5.read_unread, harg7.read_unread, harg14.read_unread, harg15.read_unread]
        rfl
      iexists _; isplitr; · ipureintro; exact harg15.read_unread _
      iexact HS1

end Cert.KernelIdeal.Att

end
-- ==== Proof.Sweep.lean ====
/- The whole sweep of the grid: what the buffers hold before and after every point, and the run of the program. -/
module

public import proofs.«01_k».proof.Proof.Run
public import proofs.«01_k».proof.Proof.Gen.KernelIdeal.Frame
public import Idealize.ShloMosaic.Lib.Claim
public import Idealize.ShloMosaic.Lib.WordCmp
public import Idealize.ShloMosaic.Lib.Ring

@[expose] public section

set_option maxRecDepth 16384

noncomputable section

namespace Cert.KernelIdeal.Att

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)
open Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- Key block `t % 8` of head pair `t / 8`: the second coordinate of point `t`. -/
theorem key_block (t : Fin cfg0.N) : (grid0.coords t 1).val = t.val % 8 := by
  have e : (grid0.coords t 1).val = t.val / 1 % 8 := Pipeline.Grid.coords_val t 1 (by decide) rfl
  rw [e, Nat.div_one]

/-- The body starts a head pair afresh at the first key block. -/
theorem first_block : ∀ t : Fin cfg0.N, k0_cond1 (grid0.coords t) = 1#1 ↔ t.val % 8 = 0 := by decide +kernel

/-- The body writes the query gradients at the last key block. -/
theorem last_block : ∀ t : Fin cfg0.N, k0_cond2 (grid0.coords t) = 1#1 ↔ t.val % 8 = 7 := by decide +kernel

/-- Before the last key block the window of the query gradients is not written. -/
theorem idle_dq : ∀ t : Fin cfg0.N, ¬ t.val % 8 = 7 → cfg0.idle 8 (grid0.coords t) = true := by decide +kernel

/-- Before the last key block the window of the query gradients stays where it is. -/
theorem kept_dq : ∀ t : Fin cfg0.N, ¬ t.val % 8 = 7 → (cfg0.win 8).flush t = false := by decide +kernel

/-- At the last key block the window of the query gradients is written. -/
theorem live_dq : ∀ t : Fin cfg0.N, t.val % 8 = 7 → cfg0.idle 8 (grid0.coords t) = false := by decide +kernel

/-- The buffer of the running query gradients. -/
abbrev dqBuf : Memref sig .tc .vmem S4096x256 .f32 := Memref.whole cc0_scratch0

/-- The buffer of the products of the outputs with their gradients. -/
abbrev dlBuf : Memref sig .tc .vmem S2x4096x1 .f32 := Memref.whole cc0_scratch1

/-- What the two scratch buffers hold after point `t`, from what they held before it. -/
def nextState (c : Dev nD) (t : Fin cfg0.N) (s : Vec F S4096x256 .f32 × Vec F S2x4096x1 .f32) :
    Vec F S4096x256 .f32 × Vec F S2x4096x1 .f32 :=
  (dqAt (grid0.coords t) (iblk m c 0 t) (iblk m c 1 t) (iblk m c 2 t) (iblk m c 3 t) (iblk m c 5 t) (dlAt (grid0.coords t) (iblk m c 3 t) (iblk m c 4 t) s.2) s.1,
    dlAt (grid0.coords t) (iblk m c 3 t) (iblk m c 4 t) s.2)

/-- What the two scratch buffers hold after point `n`. The first point forgets what they held before it. -/
def state (c : Dev nD) : (n : ℕ) → n < cfg0.N → Vec F S4096x256 .f32 × Vec F S2x4096x1 .f32
  | 0, h => nextState m c ⟨0, h⟩ (k0_pay23, iblk m c 5 ⟨0, h⟩)
  | n + 1, h => nextState m c ⟨n + 1, h⟩ (state c n (Nat.lt_of_succ_lt h))

/-- At the first key block the state before the point does not matter. -/
theorem nextState_first (c : Dev nD) (t : Fin cfg0.N) (h : t.val % 8 = 0) (s s' : Vec F S4096x256 .f32 × Vec F S2x4096x1 .f32) :
    nextState m c t s = nextState m c t s' := by
  unfold nextState dqAt dlAt
  simp only [if_pos ((first_block t).mpr h)]

/-- The state after a first point, from any state before it. -/
theorem state_first (c : Dev nD) (t : Fin cfg0.N) (h : t.val % 8 = 0) (s : Vec F S4096x256 .f32 × Vec F S2x4096x1 .f32) :
    state m c t.val t.isLt = nextState m c t s := by
  obtain ⟨n, hn⟩ := t
  cases n with
  | zero => exact nextState_first m c ⟨0, hn⟩ h _ _
  | succ n => exact nextState_first m c ⟨n + 1, hn⟩ h _ _

/-- The state after a point that is not the very first, from the state after the point before. -/
theorem state_step (c : Dev nD) (t : Fin cfg0.N) (h : t.val ≠ 0) :
    state m c t.val t.isLt = nextState m c t (state m c (t.val - 1) (by have := t.isLt; omega)) := by
  obtain ⟨n, hn⟩ := t
  cases n with
  | zero => exact absurd rfl h
  | succ n => rfl

/-- The block of query gradients written at point `t`, when it is the last of its head pair. -/
def dqBlock (c : Dev nD) (t : Fin cfg0.N) : Vec F S4096x256 .bf16 :=
  turned (iblk m c 6 t) (iblk m c 7 t) (state m c t.val t.isLt).1

/-- The block of key gradients written at point `t`. -/
def dkBlock (c : Dev nD) (t : Fin cfg0.N) : Vec F S512x256 .bf16 :=
  dkOut (iblk m c 0 t) (iblk m c 1 t) (iblk m c 2 t) (iblk m c 3 t) (iblk m c 5 t) (state m c t.val t.isLt).2 (grid0.coords t 1).val

/-- The block of value gradients written at point `t`. -/
def dvBlock (c : Dev nD) (t : Fin cfg0.N) : Vec F S512x256 .bf16 :=
  dvOut (iblk m c 0 t) (iblk m c 1 t) (iblk m c 2 t) (iblk m c 3 t) (iblk m c 5 t) (state m c t.val t.isLt).2 (grid0.coords t 1).val

/-- The block of key gradients summed over the pair written at point `t`. -/
def dksBlock (c : Dev nD) (t : Fin cfg0.N) : Vec F S1x512x128 .f32 :=
  dksOut (iblk m c 0 t) (iblk m c 1 t) (iblk m c 2 t) (iblk m c 3 t) (iblk m c 5 t) (state m c t.val t.isLt).2 (grid0.coords t 1).val

/-- What holds between the points: the scratch buffers at their state (at anything before the first point). -/
def between (c : Dev nD) : (n : ℕ) → n ≤ cfg0.N → sProp 𝕄
  | 0, _ => Pipeline.ΦA spec0 c
  | n + 1, hn => iprop(iprop(owns (c : Thread nD τ) dqBuf fullShare (state m c n hn).1 ∗ owns (c : Thread nD τ) dlBuf fullShare (state m c n hn).2) ∗ (∃ r, prngReg c r))

theorem between_zero (c : Dev nD) (n : ℕ) (h : n ≤ cfg0.N) (hz : n = 0) : between m c n h = Pipeline.ΦA spec0 c := by
  subst hz; rfl

theorem between_succ (c : Dev nD) (n : ℕ) (hn : n < cfg0.N) :
    between m c (n + 1) hn = iprop(iprop(owns (c : Thread nD τ) dqBuf fullShare (state m c n hn).1 ∗ owns (c : Thread nD τ) dlBuf fullShare (state m c n hn).2) ∗ (∃ r, prngReg c r)) := rfl

theorem between_pos (c : Dev nD) (n : ℕ) (h : n ≤ cfg0.N) (hz : n ≠ 0) :
    between m c n h = iprop(iprop(owns (c : Thread nD τ) dqBuf fullShare (state m c (n - 1) (by omega)).1 ∗ owns (c : Thread nD τ) dlBuf fullShare (state m c (n - 1) (by omega)).2) ∗ (∃ r, prngReg c r)) := by
  cases n with
  | zero => exact absurd rfl hz
  | succ n => rfl

/-- The scratch buffers at anything. -/
theorem scratch_any (c : Dev nD) :
    (Pipeline.ΦA spec0 c : sProp 𝕄)
      = iprop(iprop((∃ d, owns (c : Thread nD τ) dqBuf fullShare d) ∗ (∃ d, owns (c : Thread nD τ) dlBuf fullShare d)) ∗ (∃ r, prngReg c r)) := by
  unfold Pipeline.ΦA; rw [scopedRest0_eq]; simp only [dqBuf, dlBuf, owns_whole]; rfl

/-- The proof data of the pipeline: inputs stay, outputs take the blocks above. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => dqBlock m c t
    | ⟨9, _⟩ => dkBlock m c t
    | ⟨10, _⟩ => dvBlock m c t
    | ⟨11, _⟩ => dksBlock m c t
  Φ t := between m c t.val (Nat.le_of_lt_succ t.isLt)
  q _ := fullShare
  owed _ := 0

theorem A_eq (c : Dev nD) (w : Fin cfg0.W) : (dats m 0 c).A w = V m c (Pipeline.arrRef spec0 w) := by
  dsimp only [dats]

theorem between_castSucc (c : Dev nD) (t : Fin cfg0.N) :
    (dats m 0 c).Φ t.castSucc = between m c t.val (Nat.le_of_lt t.isLt) := by
  dsimp only [dats]; exact Pipeline.Dat.Φ_castSucc (between m c) t

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = dqBlock m c t := by dsimp only [dats]
theorem after9 (c : Dev nD) (t : Fin cfg0.N) : (dats m 0 c).after 9 t = dkBlock m c t := by dsimp only [dats]
theorem after10 (c : Dev nD) (t : Fin cfg0.N) : (dats m 0 c).after 10 t = dvBlock m c t := by dsimp only [dats]
theorem after11 (c : Dev nD) (t : Fin cfg0.N) : (dats m 0 c).after 11 t = dksBlock m c t := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d
theorem before7 (c : Dev nD) (t : Fin cfg0.N) (d) : (dats m 0 c).before 7 t d = iblk m c 7 t :=
  before0_7_of m (dats m 0 c) (A_eq m c 7) (after7 m c) t d

/-- The buffer of window 0 at point `t`. -/
abbrev stage0 (t : Fin cfg0.N) : Memref sig .tc .vmem S4096x256 .bf16 := win0_0.stage (cfg0.slots t 0)
/-- The buffer of window 1 at point `t`. -/
abbrev stage1 (t : Fin cfg0.N) : Memref sig .tc .vmem S512x256 .bf16 := win0_1.stage (cfg0.slots t 1)
/-- The buffer of window 2 at point `t`. -/
abbrev stage2 (t : Fin cfg0.N) : Memref sig .tc .vmem S512x256 .bf16 := win0_2.stage (cfg0.slots t 2)
/-- The buffer of window 3 at point `t`. -/
abbrev stage3 (t : Fin cfg0.N) : Memref sig .tc .vmem S4096x256 .bf16 := win0_3.stage (cfg0.slots t 3)
/-- The buffer of window 4 at point `t`. -/
abbrev stage4 (t : Fin cfg0.N) : Memref sig .tc .vmem S4096x256 .bf16 := win0_4.stage (cfg0.slots t 4)
/-- The buffer of window 5 at point `t`. -/
abbrev stage5 (t : Fin cfg0.N) : Memref sig .tc .vmem S2x4096x1 .f32 := win0_5.stage (cfg0.slots t 5)
/-- The buffer of window 6 at point `t`. -/
abbrev stage6 (t : Fin cfg0.N) : Memref sig .tc .vmem S4096x128 .f32 := win0_6.stage (cfg0.slots t 6)
/-- The buffer of window 7 at point `t`. -/
abbrev stage7 (t : Fin cfg0.N) : Memref sig .tc .vmem S4096x128 .f32 := win0_7.stage (cfg0.slots t 7)
/-- The buffer of window 8 at point `t`. -/
abbrev stage8 (t : Fin cfg0.N) : Memref sig .tc .vmem S4096x256 .bf16 := win0_8.stage (cfg0.slots t 8)
/-- The buffer of window 9 at point `t`. -/
abbrev stage9 (t : Fin cfg0.N) : Memref sig .tc .vmem S512x256 .bf16 := win0_9.stage (cfg0.slots t 9)
/-- The buffer of window 10 at point `t`. -/
abbrev stage10 (t : Fin cfg0.N) : Memref sig .tc .vmem S512x256 .bf16 := win0_10.stage (cfg0.slots t 10)
/-- The buffer of window 11 at point `t`. -/
abbrev stage11 (t : Fin cfg0.N) : Memref sig .tc .vmem S1x512x128 .f32 := win0_11.stage (cfg0.slots t 11)

theorem leaves0 (c : Dev nD) (t : Fin cfg0.N) :
    (dats m 0 c).leavesExact 0 t = owns (c : Thread nD τ) (stage0 t) fullShare ((dats m 0 c).after 0 t) := by
  unfold Dat.leavesExact; rw [show cfg0.idle 0 (grid0.coords t) = false from rfl]
theorem leaves1 (c : Dev nD) (t : Fin cfg0.N) :
    (dats m 0 c).leavesExact 1 t = owns (c : Thread nD τ) (stage1 t) fullShare ((dats m 0 c).after 1 t) := by
  unfold Dat.leavesExact; rw [show cfg0.idle 1 (grid0.coords t) = false from rfl]
theorem leaves2 (c : Dev nD) (t : Fin cfg0.N) :
    (dats m 0 c).leavesExact 2 t = owns (c : Thread nD τ) (stage2 t) fullShare ((dats m 0 c).after 2 t) := by
  unfold Dat.leavesExact; rw [show cfg0.idle 2 (grid0.coords t) = false from rfl]
theorem leaves3 (c : Dev nD) (t : Fin cfg0.N) :
    (dats m 0 c).leavesExact 3 t = owns (c : Thread nD τ) (stage3 t) fullShare ((dats m 0 c).after 3 t) := by
  unfold Dat.leavesExact; rw [show cfg0.idle 3 (grid0.coords t) = false from rfl]
theorem leaves4 (c : Dev nD) (t : Fin cfg0.N) :
    (dats m 0 c).leavesExact 4 t = owns (c : Thread nD τ) (stage4 t) fullShare ((dats m 0 c).after 4 t) := by
  unfold Dat.leavesExact; rw [show cfg0.idle 4 (grid0.coords t) = false from rfl]
theorem leaves5 (c : Dev nD) (t : Fin cfg0.N) :
    (dats m 0 c).leavesExact 5 t = owns (c : Thread nD τ) (stage5 t) fullShare ((dats m 0 c).after 5 t) := by
  unfold Dat.leavesExact; rw [show cfg0.idle 5 (grid0.coords t) = false from rfl]
theorem leaves6 (c : Dev nD) (t : Fin cfg0.N) :
    (dats m 0 c).leavesExact 6 t = owns (c : Thread nD τ) (stage6 t) fullShare ((dats m 0 c).after 6 t) := by
  unfold Dat.leavesExact; rw [show cfg0.idle 6 (grid0.coords t) = false from rfl]
theorem leaves7 (c : Dev nD) (t : Fin cfg0.N) :
    (dats m 0 c).leavesExact 7 t = owns (c : Thread nD τ) (stage7 t) fullShare ((dats m 0 c).after 7 t) := by
  unfold Dat.leavesExact; rw [show cfg0.idle 7 (grid0.coords t) = false from rfl]
theorem leaves9 (c : Dev nD) (t : Fin cfg0.N) :
    (dats m 0 c).leavesExact 9 t = owns (c : Thread nD τ) (stage9 t) fullShare ((dats m 0 c).after 9 t) := by
  unfold Dat.leavesExact; rw [show cfg0.idle 9 (grid0.coords t) = false from rfl]
theorem leaves10 (c : Dev nD) (t : Fin cfg0.N) :
    (dats m 0 c).leavesExact 10 t = owns (c : Thread nD τ) (stage10 t) fullShare ((dats m 0 c).after 10 t) := by
  unfold Dat.leavesExact; rw [show cfg0.idle 10 (grid0.coords t) = false from rfl]
theorem leaves11 (c : Dev nD) (t : Fin cfg0.N) :
    (dats m 0 c).leavesExact 11 t = owns (c : Thread nD τ) (stage11 t) fullShare ((dats m 0 c).after 11 t) := by
  unfold Dat.leavesExact; rw [show cfg0.idle 11 (grid0.coords t) = false from rfl]
theorem leaves8 (c : Dev nD) (t : Fin cfg0.N) (h : t.val % 8 = 7) :
    (dats m 0 c).leavesExact 8 t = owns (c : Thread nD τ) (stage8 t) fullShare ((dats m 0 c).after 8 t) := by
  unfold Dat.leavesExact; rw [live_dq t h]

/-- Before point `t`. -/
def bodyPre (c : Dev nD) (t : Fin cfg0.N) : sProp 𝕄 :=
  iprop((dats m 0 c).Φ t.castSucc ∗ (dats m 0 c).owesAt () t.castSucc
    ∗ (∃ d, owns (c : Thread nD τ) (stage0 t) fullShare ((dats m 0 c).before 0 t d))
    ∗ (∃ d, owns (c : Thread nD τ) (stage1 t) fullShare ((dats m 0 c).before 1 t d))
    ∗ (∃ d, owns (c : Thread nD τ) (stage2 t) fullShare ((dats m 0 c).before 2 t d))
    ∗ (∃ d, owns (c : Thread nD τ) (stage3 t) fullShare ((dats m 0 c).before 3 t d))
    ∗ (∃ d, owns (c : Thread nD τ) (stage4 t) fullShare ((dats m 0 c).before 4 t d))
    ∗ (∃ d, owns (c : Thread nD τ) (stage5 t) fullShare ((dats m 0 c).before 5 t d))
    ∗ (∃ d, owns (c : Thread nD τ) (stage6 t) fullShare ((dats m 0 c).before 6 t d))
    ∗ (∃ d, owns (c : Thread nD τ) (stage7 t) fullShare ((dats m 0 c).before 7 t d))
    ∗ (∃ d, owns (c : Thread nD τ) (stage8 t) fullShare ((dats m 0 c).before 8 t d))
    ∗ (∃ d, owns (c : Thread nD τ) (stage9 t) fullShare ((dats m 0 c).before 9 t d))
    ∗ (∃ d, owns (c : Thread nD τ) (stage10 t) fullShare ((dats m 0 c).before 10 t d))
    ∗ (∃ d, owns (c : Thread nD τ) (stage11 t) fullShare ((dats m 0 c).before 11 t d)))

/-- After point `t`. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t)

set_option maxHeartbeats 4000000 in
/-- One point from given contents of the scratch buffers. -/
theorem point_run (c : Dev nD) (t : Fin cfg0.N) (s : Vec F S4096x256 .f32 × Vec F S2x4096x1 .f32)
    (hs : state m c t.val t.isLt = nextState m c t s) :
    iprop(iprop(iprop(owns (c : Thread nD τ) dqBuf fullShare s.1 ∗ owns (c : Thread nD τ) dlBuf fullShare s.2) ∗ (∃ r, prngReg c r))
      ∗ (dats m 0 c).owesAt () t.castSucc
      ∗ (∃ d, owns (c : Thread nD τ) (stage0 t) fullShare ((dats m 0 c).before 0 t d))
      ∗ (∃ d, owns (c : Thread nD τ) (stage1 t) fullShare ((dats m 0 c).before 1 t d))
      ∗ (∃ d, owns (c : Thread nD τ) (stage2 t) fullShare ((dats m 0 c).before 2 t d))
      ∗ (∃ d, owns (c : Thread nD τ) (stage3 t) fullShare ((dats m 0 c).before 3 t d))
      ∗ (∃ d, owns (c : Thread nD τ) (stage4 t) fullShare ((dats m 0 c).before 4 t d))
      ∗ (∃ d, owns (c : Thread nD τ) (stage5 t) fullShare ((dats m 0 c).before 5 t d))
      ∗ (∃ d, owns (c : Thread nD τ) (stage6 t) fullShare ((dats m 0 c).before 6 t d))
      ∗ (∃ d, owns (c : Thread nD τ) (stage7 t) fullShare ((dats m 0 c).before 7 t d))
      ∗ (∃ d, owns (c : Thread nD τ) (stage8 t) fullShare ((dats m 0 c).before 8 t d))
      ∗ (∃ d, owns (c : Thread nD τ) (stage9 t) fullShare ((dats m 0 c).before 9 t d))
      ∗ (∃ d, owns (c : Thread nD τ) (stage10 t) fullShare ((dats m 0 c).before 10 t d))
      ∗ (∃ d, owns (c : Thread nD τ) (stage11 t) fullShare ((dats m 0 c).before 11 t d)))
      ⊢ wp frame (wpE (defs₀ (F := F)) Variants.none c none) Set.univ (bodyAt0 t) (fun _ => bodyPost m c t) := by
  unfold bodyPost bodyAt0
  simp only [before0, before1, before2, before3, before4, before5, before6, before7]
  rw [show (dats m 0 c).owesAt () t.succ = (dats m 0 c).owesAt () t.castSucc from rfl]
  rw [show (dats m 0 c).Φ t.succ = between m c (t.val + 1) t.isLt from rfl, between_succ]
  rw [leaves0, after0, leaves1, after1, leaves2, after2, leaves3, after3, leaves4, after4, leaves5, after5, leaves6, after6, leaves7, after7, leaves9, after9, leaves10, after10, leaves11, after11]
  unfold dkBlock dvBlock dksBlock
  rw [hs]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (body_run c (grid0.coords t) (stage0 t) (hstage0_0 ((cfg0.slots t 0).cast nbuf0_0)) (stage1 t) (hstage0_1 ((cfg0.slots t 1).cast nbuf0_1)) (stage2 t) (hstage0_2 ((cfg0.slots t 2).cast nbuf0_2)) (stage3 t) (hstage0_3 ((cfg0.slots t 3).cast nbuf0_3)) (stage4 t) (hstage0_4 ((cfg0.slots t 4).cast nbuf0_4)) (stage5 t) (hstage0_5 ((cfg0.slots t 5).cast nbuf0_5)) (stage6 t) (hstage0_6 ((cfg0.slots t 6).cast nbuf0_6)) (stage7 t) (hstage0_7 ((cfg0.slots t 7).cast nbuf0_7)) (stage8 t) (hstage0_8 ((cfg0.slots t 8).cast nbuf0_8)) (stage9 t) (hstage0_9 ((cfg0.slots t 9).cast nbuf0_9)) (stage10 t) (hstage0_10 ((cfg0.slots t 10).cast nbuf0_10)) (stage11 t) (hstage0_11 ((cfg0.slots t 11).cast nbuf0_11)) dqBuf (Memref.isWhole_whole _) dlBuf (Memref.isWhole_whole _) (iblk m c 0 t) (iblk m c 1 t) (iblk m c 2 t) (iblk m c 3 t) (iblk m c 4 t) (iblk m c 5 t) (iblk m c 6 t) (iblk m c 7 t) s.1 s.2 Set.univ _ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  isplitl [HS0]; · iexact HS0
  isplitl [HS1]; · iexact HS1
  iintro ⟨H0, H1, H2, H3, H4, H5, H6, H7, H8, H9, H10, H11, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · by_cases h7 : t.val % 8 = 7
    · rw [leaves8 m c t h7, after8, if_pos ((last_block t).mpr h7)]
      unfold dqBlock
      rw [hs]
      iexact H8
    · rw [Dat.leavesExact_idle (dats m 0 c) 8 t (idle_dq t h7) (kept_dq t h7), if_neg (fun h => h7 ((last_block t).mp h))]
      iexists _; iexact H8
  isplitl [H9]; · iexact H9
  isplitl [H10]; · iexact H10
  iexact H11

set_option maxHeartbeats 4000000 in
/-- The body at every point takes what holds before the point to what holds after it. -/
theorem sound_body (c : Dev nD) (t : Fin cfg0.N) :
    bodyPre m c t ⊢ wp frame (wpE (defs₀ (F := F)) Variants.none c none) Set.univ (bodyAt0 t) (fun _ => bodyPost m c t) := by
  unfold bodyPre
  rw [between_castSucc m c t]
  by_cases hz : t.val = 0
  · rw [between_zero m c _ _ hz, scratch_any]
    iintro ⟨⟨⟨⟨%e0, HS0⟩, ⟨%e1, HS1⟩⟩, Hg⟩, H⟩
    iapply (point_run m c t (e0, e1) (state_first m c t (by rw [hz]) _))
    isplitl [HS0 HS1 Hg]
    · isplitl [HS0 HS1]
      · isplitl [HS0]
        · iexact HS0
        iexact HS1
      iexact Hg
    iexact H
  · rw [between_pos m c _ _ hz]
    exact point_run m c t _ (state_step m c t hz)

theorem body_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, body_row]
  exact triple_restated (sound_body m c t) rfl .rfl fun _ => .rfl

theorem enter (c : Dev nD) : Pipeline.ΦA spec0 c ⊢ (dats m 0 c).Φ 0 := by
  rw [show (dats m 0 c).Φ 0 = between m c 0 (Nat.zero_le _) from rfl, between_zero m c 0 _ rfl]

theorem leave (c : Dev nD) : (dats m 0 c).Φ (Fin.last cfg0.N) ⊢ Pipeline.ΦA spec0 c := by
  rw [show (dats m 0 c).Φ (Fin.last cfg0.N) = between m c (Fin.last cfg0.N).val (Nat.le_of_lt_succ (Fin.last cfg0.N).isLt) from rfl,
    between_pos m c _ _ (by rw [Fin.val_last]; have : cfg0.N = 32 := N_0; omega), scratch_any]
  iintro ⟨⟨HS0, HS1⟩, Hg⟩
  isplitl [HS0 HS1]
  · isplitl [HS0]
    · iexists _; iexact HS0
    iexists _; iexact HS1
  iexact Hg

-- the implicit arguments are found by unifying the conclusion, which takes unfolding plain definitions in a metavariable's type
set_option backward.isDefEq.respectTransparency.types false in
/-- The program runs to the end: the arrays hold what the windows wrote, every other buffer what the host lines left, no signal is pending. -/
theorem run_quiet : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := enter m) (hout := leave m)

/-- The program runs to the end: the arrays hold what the windows wrote. -/
theorem run_main : θ_run defs (onTc (τ := τ) (main (F := F))) (s₀ m ρ) (Pipeline.FramePost cfgs (dats m) 0 (V m)) :=
  (θ_run defs _ _).mono (fun _ h => h.1) (run_quiet m ρ)

/-- The program leaves its arguments as they were and no signal pending. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) (run_main m ρ)) ((θ_run defs _ _).mono (fun _ h => h.2) (run_quiet m ρ))

end Cert.KernelIdeal.Att

end
-- ==== Proof.Frames.lean ====
/- The frames of the two printings of the kernel. -/
module

public import proofs.«01_k».proof.Defs
public import proofs.«01_k».proof.Proof.Gen.Kernel
public import proofs.«01_k».proof.Proof.Sweep
public import proofs.«01_k».proof.Proof.Gen.ReferenceIdeal
public import proofs.«01_k».proof.Proof.Gen.ReferenceIdeal.Run

@[expose] public section

set_option maxRecDepth 16384

noncomputable section

namespace Cert.Proof

open Idealize.ShloMosaic Idealize.ShloMosaic.TcCoe

/-- The kernel at the extended reals leaves its arguments as they were. -/
theorem kernelIdeal_frame : Cert.quiescent_KernelIdeal (hKernelIdeal := Cert.KernelIdeal.Gen.facts) :=
  fun m ρ _ => Cert.KernelIdeal.Att.frame_main m ρ

/-- A named constant read at the float words: the word it is printed with. -/
@[reducible] def wordNamed : Named Bits := ⟨fun _ _ {_} b => b⟩

set_option maxHeartbeats 2000000 in
/-- The two printings' body tables are one table at the float words. -/
theorem bodies_eq : Cert.Kernel.defs₀ (F := Bits) = (letI := wordNamed; Cert.KernelIdeal.defs₀ (F := Bits)) := by
  unfold Cert.Kernel.defs₀ Cert.KernelIdeal.defs₀
  refine congrArg _ (funext fun l => ?_)
  match l with
  | 0 => rfl

/-- So are the tables with the pipelines. -/
theorem defs_eq : Cert.Kernel.defs (F := Bits) = (letI := wordNamed; Cert.KernelIdeal.defs (F := Bits)) :=
  letI := wordNamed; congrArg (Pipeline.defs (Cert.KernelIdeal.pcfgs (F := Bits))) bodies_eq

set_option maxHeartbeats 2000000 in
/-- The first window of the two host programs. -/
theorem main_eq0 : Cert.Kernel.main_part0 (F := Bits) = (letI := wordNamed; Cert.KernelIdeal.main_part0 (F := Bits)) := rfl

set_option maxHeartbeats 2000000 in
/-- The second window of the two host programs. -/
theorem main_eq1 : Cert.Kernel.main_part1 (F := Bits) = (letI := wordNamed; Cert.KernelIdeal.main_part1 (F := Bits)) := rfl

set_option maxHeartbeats 4000000 in
/-- The two host programs are one. -/
theorem main_eq : Cert.Kernel.main (F := Bits) = (letI := wordNamed; Cert.KernelIdeal.main (F := Bits)) :=
  letI := wordNamed; funext fun d => by
    unfold Cert.Kernel.main Cert.KernelIdeal.main
    rw [main_eq0, main_eq1]
    rfl

set_option maxHeartbeats 4000000 in
/-- The kernel at the float words is the same program: it leaves its arguments as they were. -/
theorem kernel_frame : Cert.quiescent_Kernel (hKernel := Cert.Kernel.Gen.facts) := by
  intro m ρ _
  letI := wordNamed
  rw [defs_eq, main_eq]
  exact (θ_run (Cert.KernelIdeal.defs (F := Bits)) _ _).mono (fun _ h => h) (Cert.KernelIdeal.Att.frame_main (F := Bits) m ρ)

/-- The reference leaves its arguments as they were. -/
theorem reference_frame : Cert.quiescent_ReferenceIdeal (hReferenceIdeal := Cert.ReferenceIdeal.Gen.facts) := by
  intro m ρ _
  exact (θ_run Cert.ReferenceIdeal.defs _ _).mono (fun r h => ⟨fun c => (h c).2.2.2.2, sem_eq_zero_of_no_sems (by decide) r.2⟩)
    (Cert.ReferenceIdeal.Value.run (F := Ideal) m ρ)

/-- Each named constant has in the table the value the certificate states for it. -/
theorem preserves : Cert.preserves_Kernel_KernelIdeal :=
  ⟨IdealRules.named_const.statement Cert.KernelIdeal.κ "exp2_scale" .f32 0x3E16C740#32 (((Real.sqrt 96)⁻¹ * (Real.log 2)⁻¹ : ℝ) : EReal) rfl,
    IdealRules.named_const.statement Cert.KernelIdeal.κ "log2_e" .f32 0x3FB8AA3B#32 (((Real.log 2)⁻¹ : ℝ) : EReal) rfl,
    IdealRules.named_const.statement Cert.KernelIdeal.κ "attn_scale" .f32 0x3DD105EC#32 (((Real.sqrt 96)⁻¹ : ℝ) : EReal) rfl⟩

end Cert.Proof

end
-- ==== Proof.Model.lean ====
/- The attention and its gradients over the real numbers, as plain formulas: what both programs compute. -/
module

public import Idealize.ShloMosaic.PureOps.Ideal.Laws
public import Idealize.ShloMosaic.Lib.IdealHost

@[expose] public section

noncomputable section

namespace Cert.Model

open Idealize.ShloMosaic

/-- A matrix of real numbers, as an array of extended reals. -/
def t2 {a b : ℕ} (f : Fin a → Fin b → ℝ) : (⟨2, ![a, b]⟩ : Shape).Idx → EReal := fun z => ((f (z 0) (z 1) : ℝ) : EReal)
/-- A three-axis array of real numbers, as an array of extended reals. -/
def t3 {a b c : ℕ} (f : Fin a → Fin b → Fin c → ℝ) : (⟨3, ![a, b, c]⟩ : Shape).Idx → EReal := fun z => ((f (z 0) (z 1) (z 2) : ℝ) : EReal)

theorem coe_sum {ι : Type} (s : Finset ι) (f : ι → ℝ) : ((∑ i ∈ s, f i : ℝ) : EReal) = ∑ i ∈ s, ((f i : ℝ) : EReal) :=
  map_sum (⟨⟨fun r : ℝ => (r : EReal), EReal.coe_zero⟩, EReal.coe_add⟩ : ℝ →+ EReal) f s

section
variable (a0 a1 : Fin 4096 → Fin 8 → Fin 96 → ℝ) (a2 : Fin 4096 → Fin 8 → Fin 64 → ℝ) (cs sn : Fin 4096 → Fin 16 → ℝ) (ct : Fin 4096 → Fin 512 → ℝ)

/-- The lane that the rotation joins with lane `c`. -/
def mate (c : Fin 96) : Fin 96 := if c.val < 80 then ⟨(c.val + 16) % 96, Nat.mod_lt _ (by decide)⟩ else ⟨(c.val - 16) % 96, Nat.mod_lt _ (by decide)⟩
/-- The rotation's table lane for lane `c`. -/
def lane (c : Fin 96) : Fin 16 := ⟨c.val % 16, Nat.mod_lt _ (by decide)⟩

/-- The rotated queries. -/
def qr (i : Fin 4096) (h : Fin 8) (c : Fin 96) : ℝ :=
  if c.val < 64 then a0 i h c
  else if c.val < 80 then a0 i h c * cs i (lane c) - a0 i h (mate c) * sn i (lane c)
  else a0 i h c * cs i (lane c) + a0 i h (mate c) * sn i (lane c)

/-- The scores. -/
def sc (h : Fin 8) (i j : Fin 4096) : ℝ := (∑ c, qr a0 cs sn i h c * a1 j h c) / Real.sqrt 96

/-- The exponentials of the scores, shifted by the row's maximum, on the triangle. -/
def ex (mx : Fin 8 → Fin 4096 → ℝ) (h : Fin 8) (i j : Fin 4096) : ℝ := if j ≤ i then Real.exp (sc a0 a1 cs sn h i j - mx h i) else 0
/-- The row sums of the exponentials. -/
def ls (mx : Fin 8 → Fin 4096 → ℝ) (h : Fin 8) (i : Fin 4096) : ℝ := ∑ j, ex a0 a1 cs sn mx h i j
/-- The weights. -/
def yy (mx : Fin 8 → Fin 4096 → ℝ) (h : Fin 8) (i j : Fin 4096) : ℝ := ex a0 a1 cs sn mx h i j / ls a0 a1 cs sn mx h i
/-- The output. -/
def oo (mx : Fin 8 → Fin 4096 → ℝ) (i : Fin 4096) (h : Fin 8) (e : Fin 64) : ℝ := ∑ j, a2 j h e * yy a0 a1 cs sn mx h i j
/-- The output's gradient by heads. -/
def co (i : Fin 4096) (h : Fin 8) (e : Fin 64) : ℝ := ct i ⟨(64 * h.val + e.val) % 512, Nat.mod_lt _ (by decide)⟩
/-- The gradients of the weights. -/
def dp (h : Fin 8) (i j : Fin 4096) : ℝ := ∑ e, co ct i h e * a2 j h e
/-- The row products. -/
def dl (mx : Fin 8 → Fin 4096 → ℝ) (h : Fin 8) (i : Fin 4096) : ℝ := ∑ j, yy a0 a1 cs sn mx h i j * dp a2 ct h i j
/-- The gradients of the scores. -/
def gs (mx : Fin 8 → Fin 4096 → ℝ) (h : Fin 8) (i j : Fin 4096) : ℝ :=
  yy a0 a1 cs sn mx h i j * (dp a2 ct h i j - dl a0 a1 a2 cs sn ct mx h i)
/-- The gradients of the values. -/
def gv (mx : Fin 8 → Fin 4096 → ℝ) (j : Fin 4096) (h : Fin 8) (e : Fin 64) : ℝ := ∑ i, co ct i h e * yy a0 a1 cs sn mx h i j
/-- The gradients of the keys. -/
def gk (mx : Fin 8 → Fin 4096 → ℝ) (j : Fin 4096) (h : Fin 8) (c : Fin 96) : ℝ :=
  ∑ i, gs a0 a1 a2 cs sn ct mx h i j / Real.sqrt 96 * qr a0 cs sn i h c
/-- The gradients of the rotated queries. -/
def gr (mx : Fin 8 → Fin 4096 → ℝ) (i : Fin 4096) (h : Fin 8) (c : Fin 96) : ℝ :=
  ∑ j, gs a0 a1 a2 cs sn ct mx h i j / Real.sqrt 96 * a1 j h c
/-- The gradients of the queries. -/
def gq (mx : Fin 8 → Fin 4096 → ℝ) (i : Fin 4096) (h : Fin 8) (c : Fin 96) : ℝ :=
  if c.val < 64 then gr a0 a1 a2 cs sn ct mx i h c
  else if c.val < 80 then gr a0 a1 a2 cs sn ct mx i h c * cs i (lane c) + gr a0 a1 a2 cs sn ct mx i h (mate c) * sn i (lane c)
  else gr a0 a1 a2 cs sn ct mx i h c * cs i (lane c) - gr a0 a1 a2 cs sn ct mx i h (mate c) * sn i (lane c)

/-- Lanes added up to 128 per head, and the heads side by side. -/
def flat {n : ℕ} (f : Fin 4096 → Fin 8 → Fin n → ℝ) (i : Fin 4096) (C : Fin 1024) : ℝ :=
  if hc : C.val % 128 < n then f i ⟨C.val / 128, by omega⟩ ⟨C.val % 128, hc⟩ else 0
/-- The sums over the two heads of a pair, lanes added up to 128. -/
def pairs {n : ℕ} (f : Fin 4096 → Fin 8 → Fin n → ℝ) (p : Fin 4) (i : Fin 4096) (c : Fin 128) : ℝ :=
  if hc : c.val < n then f i ⟨2 * p.val, by omega⟩ ⟨c.val, hc⟩ + f i ⟨2 * p.val + 1, by omega⟩ ⟨c.val, hc⟩ else 0
end

end Cert.Model
-- ==== Proof.RefVal.lean ====
/- What the reference computes on real arguments. -/
module

public import proofs.«01_k».proof.Proof.Model
public import proofs.«01_k».proof.Proof.Gen.ReferenceIdeal.Read
public import Idealize.ShloMosaic.Lib.Pointwise
public import Idealize.ShloMosaic.Lib.WordCmp

@[expose] public section

set_option maxRecDepth 16384

noncomputable section

namespace Cert.ReferenceIdeal.Att

open Cert.ReferenceIdeal Cert.ReferenceIdeal.Gen Cert.ReferenceIdeal.Read Idealize.ShloMosaic Cert.Model

theorem t2_at {a b : ℕ} (f : Fin a → Fin b → ℝ) (i : Fin a) (j : Fin b) : t2 f (ix2 i j) = ((f i j : ℝ) : EReal) := rfl
theorem t3_at {a b c : ℕ} (f : Fin a → Fin b → Fin c → ℝ) (i : Fin a) (j : Fin b) (k : Fin c) : t3 f (ix3 i j k) = ((f i j k : ℝ) : EReal) := rfl

theorem div_real (a b : ℝ) (h : b ≠ 0) : Ideal.div (a : EReal) (b : EReal) = ((a / b : ℝ) : EReal) := by
  unfold Ideal.div
  rw [if_neg (by exact_mod_cast h), ← EReal.coe_inv, ← EReal.coe_mul, div_eq_mul_inv]
theorem exp_real (a : ℝ) : Ideal.exp (a : EReal) = ((Real.exp a : ℝ) : EReal) := rfl
theorem exp_bot : Ideal.exp (⊥ : EReal) = 0 := rfl
theorem word96 : Ideal.ofBits FTy.f32 1119879168#32 = ((96 : ℝ) : EReal) := by
  simp [Ideal.ofBits, Ideal.ieee]
  rw [← EReal.coe_mul]
  congr 1
  norm_num
theorem wordBot : Ideal.ofBits FTy.f32 4286578688#32 = (⊥ : EReal) := by
  simp [Ideal.ofBits, Ideal.ieee]
theorem sqrt96 : Ideal.sqrt (Ideal.ofBits FTy.f32 1119879168#32) = ((Real.sqrt 96 : ℝ) : EReal) := by
  rw [word96]
  show (if (96 : ℝ) < 0 then (⊥ : EReal) else (Real.sqrt 96 : EReal)) = _
  rw [if_neg (by norm_num)]
theorem sqrt96_ne : Real.sqrt 96 ≠ 0 := (Real.sqrt_pos.mpr (by norm_num)).ne'

theorem sel_tri {α : Type} (i j : Fin 4096) (a b : α) :
    Scalar.select (IntOp.cmpi .sge (BitVec.ofNat 32 i.val) (BitVec.ofNat 32 j.val)) a b = if j ≤ i then a else b := by
  have hi := i.isLt
  have hj := j.isLt
  rw [WordCmp.cmpi_sge_ofNat (by omega) (by omega)]
  by_cases h : j ≤ i
  · have h' : j.val ≤ i.val := h
    simp [h, h', Scalar.select]
  · have h' : ¬ j.val ≤ i.val := h
    simp [h, h', Scalar.select]

/-- The greatest of finitely many values, one of them real and each real or least, is real. -/
theorem fold_max_real {n : ℕ} (f : Fin n → EReal) (hf : ∀ j, f j = ⊥ ∨ ∃ r : ℝ, f j = (r : EReal)) (h : ∃ j, ∃ r : ℝ, f j = (r : EReal)) :
    ∃ r : ℝ, Finset.fold max (⊥ : EReal) f Finset.univ = (r : EReal) := by
  have key : ∀ s : Finset (Fin n), (Finset.fold max (⊥ : EReal) f s = ⊥ ∧ ∀ j ∈ s, f j = ⊥) ∨ ∃ r : ℝ, Finset.fold max (⊥ : EReal) f s = (r : EReal) := by
    intro s
    induction s using Finset.induction_on with
    | empty => left; simp
    | insert a s ha ih =>
      rw [Finset.fold_insert ha]
      rcases ih with ⟨e, hb⟩ | ⟨r, e⟩
      · rcases hf a with h1 | ⟨r, h1⟩
        · left; refine ⟨by rw [e, h1]; simp, ?_⟩
          intro j hj
          rcases Finset.mem_insert.mp hj with rfl | hj
          · exact h1
          · exact hb j hj
        · right; exact ⟨r, by rw [e, h1]; simp⟩
      · right
        rcases hf a with h1 | ⟨q, h1⟩
        · exact ⟨r, by rw [e, h1]; simp⟩
        · exact ⟨max q r, by rw [e, h1]; exact (EReal.coe_strictMono.monotone.map_max).symm⟩
  rcases key Finset.univ with ⟨_, hb⟩ | h2
  · obtain ⟨j, r, hr⟩ := h
    rw [hb j (Finset.mem_univ j)] at hr
    exact absurd hr (EReal.bot_ne_coe r)
  · exact h2

theorem fin_eq {n : ℕ} (x : Fin n) (v : ℕ) (h : v < n) (e : v = x.val) : (⟨v, h⟩ : Fin n) = x := Fin.ext e
theorem mate_lo (c : Fin 96) (h : c.val < 80) : (mate c).val = (c.val + 16) % 96 := by unfold mate; rw [if_pos h]
theorem mate_hi (c : Fin 96) (h : ¬ c.val < 80) : (mate c).val = (c.val - 16) % 96 := by unfold mate; rw [if_neg h]
theorem rot_sub (f : Fin 96 → ℝ) (u v : Fin 16 → ℝ) {p q c m : Fin 96} {l n : Fin 16} (hp : p = c) (hq : q = m) (hl : l = n) :
    ((f p * u l - f q * v l : ℝ) : EReal) = ((f c * u n - f m * v n : ℝ) : EReal) := by subst hp; subst hq; subst hl; rfl
theorem rot_add (f : Fin 96 → ℝ) (u v : Fin 16 → ℝ) {p q c m : Fin 96} {l n : Fin 16} (hp : p = c) (hq : q = m) (hl : l = n) :
    ((f p * u l + f q * v l : ℝ) : EReal) = ((f c * u n + f m * v n : ℝ) : EReal) := by subst hp; subst hq; subst hl; rfl
theorem turn_add (f : Fin 96 → ℝ) (u v : Fin 16 → ℝ) {p q c m : Fin 96} {l n : Fin 16} (hp : p = c) (hq : q = m) (hl : l = n) :
    ((f q * v l + f p * u l : ℝ) : EReal) = ((f c * u n + f m * v n : ℝ) : EReal) := by subst hp; subst hq; subst hl; rw [add_comm]
theorem turn_sub (f : Fin 96 → ℝ) (u v : Fin 16 → ℝ) {p q c m : Fin 96} {l n : Fin 16} (hp : p = c) (hq : q = m) (hl : l = n) :
    ((f p * u l + -f q * v l : ℝ) : EReal) = ((f c * u n - f m * v n : ℝ) : EReal) := by subst hp; subst hq; subst hl; congr 1; ring
theorem pair_add (f : Fin 8 → ℝ) {p q c m : Fin 8} (hp : p = c) (hq : q = m) : ((f p + f q : ℝ) : EReal) = ((f c + f m : ℝ) : EReal) := by
  subst hp; subst hq; rfl
theorem lane_val (c : Fin 96) : (lane c).val = c.val % 16 := rfl
theorem pad0 : FloatOps.sitofp (F := Ideal) (FTy.f32) (0#32) = (0 : EReal) := by
  show (((0#32 : BitVec 32).toInt : ℝ) : EReal) = 0
  simp

section
variable (a0 a1 : Fin 4096 → Fin 8 → Fin 96 → ℝ) (a2 : Fin 4096 → Fin 8 → Fin 64 → ℝ) (cs sn : Fin 4096 → Fin 16 → ℝ) (ct : Fin 4096 → Fin 512 → ℝ)

theorem v17_real : val_main_v17 (F := Ideal) (t3 a0) (t2 cs) (t2 sn) = t3 (qr a0 cs sn) := by
  funext z
  idx_vars z
  pointwise [val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, t3_at, t2_at, qr]
  have hz := z2.isLt
  simp only [← EReal.coe_mul, ← EReal.coe_sub, ← EReal.coe_add]
  by_cases h : z2.val < 64
  · simp only [h, ↓reduceDIte, ↓reduceIte]
  · by_cases h2 : z2.val < 80
    · have g : z2.val - 64 < 16 := by omega
      have e1 : 64 + (z2.val - 64) = z2.val := by omega
      have e2 : 64 + (16 + (z2.val - 64)) = (z2.val + 16) % 96 := by omega
      have e3 : z2.val - 64 = z2.val % 16 := by omega
      simp only [h, h2, g, ↓reduceDIte, ↓reduceIte]
      exact rot_sub (a0 z0 z1) (cs z0) (sn z0) (Fin.ext e1) (Fin.ext ((e2 : _ = _).trans (mate_lo z2 h2).symm)) (Fin.ext e3)
    · have g : ¬ z2.val - 64 < 16 := by omega
      have e1 : 64 + (16 + (z2.val - 64 - 16)) = z2.val := by omega
      have e2 : 64 + (z2.val - 64 - 16) = (z2.val - 16) % 96 := by omega
      have e3 : z2.val - 64 - 16 = z2.val % 16 := by omega
      simp only [h, h2, g, ↓reduceDIte, ↓reduceIte]
      exact rot_add (a0 z0 z1) (cs z0) (sn z0) (Fin.ext e1) (Fin.ext ((e2 : _ = _).trans (mate_hi z2 h2).symm)) (Fin.ext e3)

theorem apply_ite_coe (p : Prop) [Decidable p] (a b : ℝ) : (if p then (a : EReal) else (b : EReal)) = ((if p then a else b : ℝ) : EReal) := by
  split <;> rfl

/-- The masked scores. -/
def ms : S8x4096x4096.Idx → EReal := fun z => if (z 2 : Fin 4096) ≤ (z 1 : Fin 4096) then ((sc a0 a1 cs sn (z 0) (z 1) (z 2) : ℝ) : EReal) else ⊥

theorem ms_at (h : Fin 8) (i j : Fin 4096) : ms a0 a1 cs sn (ix3 h i j) = if j ≤ i then ((sc a0 a1 cs sn h i j : ℝ) : EReal) else ⊥ := rfl

theorem v28_real : val_main_v28_0 (F := Ideal) (t3 a0) (t3 a1) (t2 cs) (t2 sn) = ms a0 a1 cs sn := by
  funext z
  idx_vars z
  pointwise [val_main_v28_0, val_main_call0_v2, val_main_v28_1, val_main_call0_v0, val_main_cst_0, val_main_v27, val_main_v26, val_main_v25, val_main_v24, val_main_v23, val_main_v22, val_main_v21, val_main_v20, val_main_v19, val_main_cst, val_main_v18, v17_real, t3_at, ms_at]
  rw [sel_tri, sqrt96]
  simp only [← EReal.coe_mul, ← coe_sum]
  rw [div_real _ _ sqrt96_ne]
  split
  · rfl
  · exact wordBot

theorem row_max : ∃ mx : Fin 8 → Fin 4096 → ℝ, val_main_v29 (F := Ideal) (t3 a0) (t3 a1) (t2 cs) (t2 sn) = t2 mx := by
  have key : ∀ (h : Fin 8) (i : Fin 4096), ∃ r : ℝ, val_main_v29 (F := Ideal) (t3 a0) (t3 a1) (t2 cs) (t2 sn) (ix2 h i) = (r : EReal) := by
    intro h i
    pointwise [val_main_v29, val_main_cst_1, v28_real, ms_at]
    rw [wordBot]
    refine fold_max_real _ (fun j => ?_) ⟨i, sc a0 a1 cs sn h i i, if_pos le_rfl⟩
    by_cases hj : j ≤ i
    · right; exact ⟨_, if_pos hj⟩
    · left; exact if_neg hj
  choose mx hmx using key
  refine ⟨mx, ?_⟩
  funext z
  idx_vars z
  exact hmx z0 z1

theorem score_grad (mx : Fin 8 → Fin 4096 → ℝ) (h : Fin 8) (i j : Fin 4096) (hl : ls a0 a1 cs sn mx h i ≠ 0) :
    (dp a2 ct h i j / ls a0 a1 cs sn mx h i + ∑ _x : Fin 1, -∑ x, dp a2 ct h i x * (1 / (ls a0 a1 cs sn mx h i * ls a0 a1 cs sn mx h i)) * ex a0 a1 cs sn mx h i x) * ex a0 a1 cs sn mx h i j
      = gs a0 a1 a2 cs sn ct mx h i j := by
  unfold gs dl yy
  have e : ∑ x, dp a2 ct h i x * (1 / (ls a0 a1 cs sn mx h i * ls a0 a1 cs sn mx h i)) * ex a0 a1 cs sn mx h i x
      = (∑ x, ex a0 a1 cs sn mx h i x / ls a0 a1 cs sn mx h i * dp a2 ct h i x) / ls a0 a1 cs sn mx h i := by
    rw [Finset.sum_div]
    refine Finset.sum_congr rfl fun x _ => ?_
    field_simp
  rw [e, Fin.sum_univ_one]
  ring

variable (mx : Fin 8 → Fin 4096 → ℝ) (hmx : val_main_v29 (F := Ideal) (t3 a0) (t3 a1) (t2 cs) (t2 sn) = t2 mx)

theorem ls_pos (h : Fin 8) (i : Fin 4096) : 0 < ls a0 a1 cs sn mx h i := by
  unfold ls
  refine Finset.sum_pos' (fun j _ => ?_) ⟨i, Finset.mem_univ i, ?_⟩
  · unfold ex; split
    · exact (Real.exp_pos _).le
    · exact le_rfl
  · unfold ex; rw [if_pos le_rfl]; exact Real.exp_pos _

include hmx

theorem v49_real : val_main_v49 (F := Ideal) (t3 a0) (t3 a1) (t2 cs) (t2 sn) = t3 (ex a0 a1 cs sn mx) := by
  funext z
  idx_vars z
  pointwise [val_main_v49, val_main_v48, val_main_v47, val_main_v46, val_main_v36, val_main_v35, val_main_cst_3, hmx, v28_real, ms_at, t2_at, t3_at, ex]
  rw [wordBot]
  split
  · rw [max_eq_right bot_le, ← EReal.coe_sub, exp_real]
  · rw [max_eq_right bot_le]; rfl

theorem v50_real : val_main_v50 (F := Ideal) (t3 a0) (t3 a1) (t2 cs) (t2 sn) = t2 (ls a0 a1 cs sn mx) := by
  funext z
  idx_vars z
  pointwise [val_main_v50, val_main_cst_9, v49_real a0 a1 cs sn mx hmx, t2_at, t3_at]
  rw [← coe_sum]; rfl

theorem v53_real : val_main_v53 (F := Ideal) (t3 a0) (t3 a1) (t2 cs) (t2 sn) = t3 (yy a0 a1 cs sn mx) := by
  funext z
  idx_vars z
  pointwise [val_main_v53, val_main_v52, val_main_v51, v50_real a0 a1 cs sn mx hmx, v49_real a0 a1 cs sn mx hmx, t2_at, t3_at]
  rw [div_real _ _ (ls_pos a0 a1 cs sn mx z0 z1).ne']; rfl

omit hmx in
theorem v61_real : val_main_v61 (F := Ideal) (t2 ct) = t3 (fun h e i => co ct i h e) := by
  funext z
  idx_vars z
  pointwise [val_main_v61, val_main_v60, t2_at, t3_at, co]
  have h0 := z0.isLt
  have h1 := z1.isLt
  rw [fin_eq (⟨(64 * z0.val + z1.val) % 512, Nat.mod_lt _ (by decide)⟩ : Fin 512) (z0.val * 64 + z1.val) _ (by show _ = (64 * z0.val + z1.val) % 512; omega)]

omit hmx in
theorem v62_real : val_main_v62 (F := Ideal) (t3 a2) (t2 ct) = t3 (dp a2 ct) := by
  funext z
  idx_vars z
  pointwise [val_main_v62, v61_real, t2_at, t3_at]
  simp only [← EReal.coe_mul, ← coe_sum]; rfl

theorem v77_real : val_main_v77 (F := Ideal) (t3 a0) (t3 a1) (t3 a2) (t2 cs) (t2 sn) (t2 ct) = t3 (gs a0 a1 a2 cs sn ct mx) := by
  funext z
  idx_vars z
  pointwise [val_main_v77, val_main_call1_v0, val_main_call1_cst, val_main_v28_1, val_main_v27, val_main_v26, val_main_v25, val_main_v24, val_main_v23, val_main_v22, val_main_v76, val_main_v75, val_main_v74, val_main_v73, val_main_cst_12, val_main_v72, val_main_v71, val_main_v70, val_main_v69, val_main_v68, val_main_cst_11, val_main_v67, val_main_v66, val_main_v65, val_main_v56, val_main_v55, val_main_cst_10, val_main_v54, val_main_v51, v62_real, v50_real a0 a1 cs sn mx hmx, v49_real a0 a1 cs sn mx hmx, t2_at, t3_at]
  have hl := ls_pos a0 a1 cs sn mx z0 z1
  rw [sel_tri]
  simp only [← EReal.coe_mul, ← EReal.coe_one]
  rw [div_real _ _ hl.ne', div_real _ _ (mul_pos hl hl).ne']
  simp only [← EReal.coe_mul, ← coe_sum, ← EReal.coe_neg, ← EReal.coe_add, ← EReal.coe_zero]
  rw [apply_ite_coe]
  congr 1
  by_cases h : z2 ≤ z1
  · rw [if_pos h]
    exact score_grad a0 a1 a2 cs sn ct mx z0 z1 z2 hl.ne'
  · rw [if_neg h]
    unfold gs yy ex
    rw [if_neg h]; simp

theorem v79_real : val_main_v79 (F := Ideal) (t3 a0) (t3 a1) (t3 a2) (t2 cs) (t2 sn) (t2 ct) = t3 (fun h i j => gs a0 a1 a2 cs sn ct mx h i j / Real.sqrt 96) := by
  funext z
  idx_vars z
  pointwise [val_main_v79, val_main_v78, val_main_v19, val_main_cst, v77_real a0 a1 a2 cs sn ct mx hmx, t3_at]
  rw [sqrt96, div_real _ _ sqrt96_ne]

theorem v81_real : val_main_v81 (F := Ideal) (t3 a0) (t3 a1) (t3 a2) (t2 cs) (t2 sn) (t2 ct) = t3 (gk a0 a1 a2 cs sn ct mx) := by
  funext z
  idx_vars z
  pointwise [val_main_v81, val_main_v80, v79_real a0 a1 a2 cs sn ct mx hmx, v17_real, t3_at]
  simp only [← EReal.coe_mul, ← coe_sum]; rfl

theorem v83_real : val_main_v83 (F := Ideal) (t3 a0) (t3 a1) (t3 a2) (t2 cs) (t2 sn) (t2 ct) = t3 (gr a0 a1 a2 cs sn ct mx) := by
  funext z
  idx_vars z
  pointwise [val_main_v83, val_main_v82, v79_real a0 a1 a2 cs sn ct mx hmx, t3_at]
  simp only [← EReal.coe_mul, ← coe_sum]; rfl

theorem v64_real : val_main_v64 (F := Ideal) (t3 a0) (t3 a1) (t2 cs) (t2 sn) (t2 ct) = t3 (gv a0 a1 cs sn ct mx) := by
  funext z
  idx_vars z
  pointwise [val_main_v64, val_main_v63, v53_real a0 a1 cs sn mx hmx, v61_real, t3_at]
  simp only [← EReal.coe_mul, ← coe_sum]; rfl

theorem v104_real : val_main_v104 (F := Ideal) (t3 a0) (t3 a1) (t3 a2) (t2 cs) (t2 sn) (t2 ct) = t3 (gq a0 a1 a2 cs sn ct mx) := by
  funext z
  idx_vars z
  pointwise [val_main_v104, val_main_v103, val_main_cst_16, val_main_v102, val_main_v101, val_main_cst_15, val_main_v100, val_main_cst_14, val_main_v99, val_main_v98, val_main_v97, val_main_v96, val_main_v95, val_main_v94, val_main_v93, val_main_v92, val_main_v91, val_main_v90, val_main_v89, val_main_v88, val_main_v87, val_main_v86, val_main_cst_13, val_main_v85, val_main_v84, val_main_v2, val_main_v1, v83_real a0 a1 a2 cs sn ct mx hmx, t3_at, t2_at]
  have hz := z2.isLt
  simp only [← EReal.coe_mul, ← EReal.coe_neg, ← EReal.coe_add, ← EReal.coe_sub]
  unfold gq
  by_cases h : z2.val < 64
  · have g : ¬ (64 ≤ z2.val ∧ z2.val - 64 < 32) := by omega
    simp only [h, g, ↓reduceDIte, ↓reduceIte, add_zero]
  · have g : 64 ≤ z2.val ∧ z2.val - 64 < 32 := by omega
    by_cases h2 : z2.val < 80
    · have g2 : z2.val - 64 < 16 := by omega
      have g3 : ¬ (16 ≤ z2.val - 64 ∧ z2.val - 64 - 16 < 16) := by omega
      have e1 : 64 + (z2.val - 64) = z2.val := by omega
      have e2 : 64 + (16 + (z2.val - 64)) = (z2.val + 16) % 96 := by omega
      have e3 : z2.val - 64 = z2.val % 16 := by omega
      simp only [h, h2, g, g2, g3, ↓reduceDIte, ↓reduceIte, zero_add, and_self]
      exact turn_add (gr a0 a1 a2 cs sn ct mx z0 z1) (cs z0) (sn z0) (Fin.ext e1) (Fin.ext ((e2 : _ = _).trans (mate_lo z2 h2).symm)) (Fin.ext e3)
    · have g2 : ¬ z2.val - 64 < 16 := by omega
      have g3 : 16 ≤ z2.val - 64 ∧ z2.val - 64 - 16 < 16 := by omega
      have e1 : 64 + (16 + (z2.val - 64 - 16)) = z2.val := by omega
      have e2 : 64 + (z2.val - 64 - 16) = (z2.val - 16) % 96 := by omega
      have e3 : z2.val - 64 - 16 = z2.val % 16 := by omega
      simp only [h, h2, g, g2, g3, ↓reduceDIte, ↓reduceIte, zero_add, add_zero, and_self]
      exact turn_sub (gr a0 a1 a2 cs sn ct mx z0 z1) (cs z0) (sn z0) (Fin.ext e1) (Fin.ext ((e2 : _ = _).trans (mate_hi z2 h2).symm)) (Fin.ext e3)

theorem v110_real : val_main_v110 (F := Ideal) (t3 a0) (t3 a1) (t3 a2) (t2 cs) (t2 sn) (t2 ct) = t2 (flat (gq a0 a1 a2 cs sn ct mx)) := by
  funext z
  idx_vars z
  pointwise [val_main_v110, val_main_v109, val_main_v108, val_main_call3_v0, val_main_c_18, v104_real a0 a1 a2 cs sn ct mx hmx, t3_at, t2_at]
  rw [pad0]
  unfold flat
  have h8 : z1.val / 128 < 8 := by have := z1.isLt; omega
  by_cases hc : z1.val % 128 < 96
  · rw [dif_pos ⟨h8, hc⟩, dif_pos hc]
  · rw [dif_neg (fun h => hc h.2), dif_neg hc]; rfl
theorem v113_real : val_main_v113 (F := Ideal) (t3 a0) (t3 a1) (t3 a2) (t2 cs) (t2 sn) (t2 ct) = t2 (flat (gk a0 a1 a2 cs sn ct mx)) := by
  funext z
  idx_vars z
  pointwise [val_main_v113, val_main_v112, val_main_v111, val_main_call4_v0, val_main_c_19, v81_real a0 a1 a2 cs sn ct mx hmx, t3_at, t2_at]
  rw [pad0]
  unfold flat
  have h8 : z1.val / 128 < 8 := by have := z1.isLt; omega
  by_cases hc : z1.val % 128 < 96
  · rw [dif_pos ⟨h8, hc⟩, dif_pos hc]
  · rw [dif_neg (fun h => hc h.2), dif_neg hc]; rfl
theorem v116_real : val_main_v116 (F := Ideal) (t3 a0) (t3 a1) (t2 cs) (t2 sn) (t2 ct) = t2 (flat (gv a0 a1 cs sn ct mx)) := by
  funext z
  idx_vars z
  pointwise [val_main_v116, val_main_v115, val_main_v114, val_main_call5_v0, val_main_c_20, v64_real a0 a1 cs sn ct mx hmx, t3_at, t2_at]
  rw [pad0]
  unfold flat
  have h8 : z1.val / 128 < 8 := by have := z1.isLt; omega
  by_cases hc : z1.val % 128 < 64
  · rw [dif_pos ⟨h8, hc⟩, dif_pos hc]
  · rw [dif_neg (fun h => hc h.2), dif_neg hc]; rfl
theorem v117_real : val_main_v117 (F := Ideal) (t3 a0) (t3 a1) (t3 a2) (t2 cs) (t2 sn) (t2 ct) = t3 (pairs (gk a0 a1 a2 cs sn ct mx)) := by
  funext z
  idx_vars z
  pointwise [val_main_v117, val_main_v107, val_main_v106, val_main_cst_17, val_main_v105, val_main_call2_v0, val_main_c, v81_real a0 a1 a2 cs sn ct mx hmx, t3_at, t2_at]
  rw [pad0]
  have h0 := z0.isLt
  unfold pairs
  rw [Fin.sum_univ_two]
  by_cases hc : z2.val < 96
  · rw [dif_pos ⟨by show z0.val * 2 + 0 < 8; omega, hc⟩, dif_pos ⟨by show z0.val * 2 + 1 < 8; omega, hc⟩, dif_pos hc, ← EReal.coe_add]
    exact pair_add (fun h => gk a0 a1 a2 cs sn ct mx z1 h ⟨z2.val, hc⟩) (Fin.ext (by show z0.val * 2 + 0 = 2 * z0.val; omega)) (Fin.ext (by show z0.val * 2 + 1 = 2 * z0.val + 1; omega))
  · rw [dif_neg (fun h => hc h.2), dif_neg (fun h => hc h.2), dif_neg hc, add_zero]; rfl
end
end Cert.ReferenceIdeal.Att
-- ==== Proof.Host.lean ====
/- What the host lines before the kernel leave in the kernel's operands. -/
module

public import proofs.«01_k».proof.Proof.RefVal
public import proofs.«01_k».proof.Proof.Sweep
public import Idealize.ShloMosaic.Lib.StableHlo.RunRead

@[expose] public section

set_option maxRecDepth 16384

noncomputable section

namespace Cert.KernelIdeal.Att

open Cert.KernelIdeal Cert.KernelIdeal.Gen Idealize.ShloMosaic Idealize.ShloMosaic.TcCoe Idealize.ShloMosaic.StableHlo Cert.Model

variable {F : FTy → Type} [FloatOps F] [Named F]

/-- The two rotated parts of the turned lanes, side by side. -/
def cat15 {α : Type} (a b : S4096x8x16.Idx → α) : S4096x8x32.Idx → α :=
  concatenate S4096x8x32 2 [⟨S4096x8x16, a⟩, ⟨S4096x8x16, b⟩] concatenates_S4096x8x16_S4096x8x16_S4096x8x32_d2
/-- The plain lanes and the turned lanes, side by side. -/
def cat17 {α : Type} (a : S4096x8x64.Idx → α) (b : S4096x8x32.Idx → α) : S4096x8x96.Idx → α :=
  concatenate S4096x8x96 2 [⟨S4096x8x64, a⟩, ⟨S4096x8x32, b⟩] concatenates_S4096x8x64_S4096x8x32_S4096x8x96_d2
/-- A table twice, side by side. -/
def cat58 {α : Type} (a b : S4096x16.Idx → α) : S4096x32.Idx → α :=
  concatenate S4096x32 1 [⟨S4096x16, a⟩, ⟨S4096x16, b⟩] concatenates_S4096x16_S4096x16_S4096x32_d1

theorem fold15 {α : Type} (a b : S4096x8x16.Idx → α) :
    concatenate S4096x8x32 2 [⟨S4096x8x16, a⟩, ⟨S4096x8x16, b⟩] concatenates_S4096x8x16_S4096x8x16_S4096x8x32_d2 = cat15 a b := rfl
theorem fold17 {α : Type} (a : S4096x8x64.Idx → α) (b : S4096x8x32.Idx → α) :
    concatenate S4096x8x96 2 [⟨S4096x8x64, a⟩, ⟨S4096x8x32, b⟩] concatenates_S4096x8x64_S4096x8x32_S4096x8x96_d2 = cat17 a b := rfl
theorem fold58 {α : Type} (a b : S4096x16.Idx → α) :
    concatenate S4096x32 1 [⟨S4096x16, a⟩, ⟨S4096x16, b⟩] concatenates_S4096x16_S4096x16_S4096x32_d1 = cat58 a b := rfl

variable (m : (ℓ : Loc nD τ sig) → Buf (Elt F) ℓ) (c : Dev nD)

section
variable (x0 x1 : (⟨S4096x8x96, .f32⟩ : BufTy).Contents (Elt F)) (x2 : (⟨S4096x8x64, .f32⟩ : BufTy).Contents (Elt F)) (x3 x4 : (⟨S4096x16, .f32⟩ : BufTy).Contents (Elt F))
/-- The exponentials of the scores less the row's maximum. -/
def hostE : (⟨S8x4096x4096, .f32⟩ : BufTy).Contents (Elt F) :=
  Host.exp (subf (ReferenceIdeal.Read.val_main_v28_0 (F := F) x0 x1 x3 x4) (broadcastInDim S8x4096x4096 ![0, 1, 2] bcast_S8x4096x1_S8x4096x4096_0_1_2 (broadcastInDim S8x4096x1 ![0, 1] bcast_S8x4096_S8x4096x1_0_1 (ReferenceIdeal.Read.val_main_v29 (F := F) x0 x1 x3 x4))))
/-- Their row sums, as a column. -/
def hostL : (⟨S8x4096x1, .f32⟩ : BufTy).Contents (Elt F) :=
  broadcastInDim S8x4096x1 ![0, 1] bcast_S8x4096_S8x4096x1_0_1 (Host.reduceAdd (hostE x0 x1 x3 x4) (constant S_ .f32 0x00000000#32) reducesTo_S8x4096x4096_S8x4096_d2 h_S_)
/-- The output by heads. -/
def hostO : (⟨S4096x8x64, .f32⟩ : BufTy).Contents (Elt F) :=
  transpose S4096x8x64 [2, 0, 1] (Host.dotGeneral dot_S4096x8x64_S8x4096x4096_S8x64x4096_0_2_2_1_1_0 none x2 (Host.divf (hostE x0 x1 x3 x4) (broadcastInDim S8x4096x4096 ![0, 1, 2] bcast_S8x4096x1_S8x4096x4096_0_1_2 (hostL x0 x1 x3 x4)))) transposes_S8x64x4096_S4096x8x64_2_0_1
end

set_option maxHeartbeats 4000000 in
theorem V_q : V m c main_v44 = truncf .bf16 (shapeCast S4096x1024 (pad S4096x8x128 ![0, 0, 0] ![0, 0, 32] ![0, 0, 0] (ReferenceIdeal.Read.val_main_v17 (F := F) (m (c, Proc.devRef .tc main_arg0)) (m (c, Proc.devRef .tc main_arg3)) (m (c, Proc.devRef .tc main_arg4))) (sitofp .f32 (constantI S_ 32 0#32)) pads_S4096x8x96_S4096x8x128_000_000_0320 h_S_) shapeCasts_S4096x8x128_S4096x1024) bitsLt_bf16_f32 := by
  unfold_abbrev_sides
  after_reads_simp [fold15, fold17, fold58]
  rfl

set_option maxHeartbeats 4000000 in
theorem V_k : V m c main_v47 = truncf .bf16 (shapeCast S4096x1024 (pad S4096x8x128 ![0, 0, 0] ![0, 0, 32] ![0, 0, 0] (m (c, Proc.devRef .tc main_arg1)) (sitofp .f32 (constantI S_ 32 0#32)) pads_S4096x8x96_S4096x8x128_000_000_0320 h_S_) shapeCasts_S4096x8x128_S4096x1024) bitsLt_bf16_f32 := by
  unfold_abbrev_sides
  after_reads_simp [fold15, fold17, fold58]
  rfl

set_option maxHeartbeats 4000000 in
theorem V_v : V m c main_v50 = truncf .bf16 (shapeCast S4096x1024 (pad S4096x8x128 ![0, 0, 0] ![0, 0, 64] ![0, 0, 0] (m (c, Proc.devRef .tc main_arg2)) (sitofp .f32 (constantI S_ 32 0#32)) pads_S4096x8x64_S4096x8x128_000_000_0640 h_S_) shapeCasts_S4096x8x128_S4096x1024) bitsLt_bf16_f32 := by
  unfold_abbrev_sides
  after_reads_simp [fold15, fold17, fold58]
  rfl

set_option maxHeartbeats 4000000 in
theorem V_do : V m c main_v54 = truncf .bf16 (shapeCast S4096x1024 (pad S4096x8x128 ![0, 0, 0] ![0, 0, 64] ![0, 0, 0] (shapeCast S4096x8x64 (m (c, Proc.devRef .tc main_arg5)) shapeCasts_S4096x512_S4096x8x64) (sitofp .f32 (constantI S_ 32 0#32)) pads_S4096x8x64_S4096x8x128_000_000_0640 h_S_) shapeCasts_S4096x8x128_S4096x1024) bitsLt_bf16_f32 := by
  unfold_abbrev_sides
  after_reads_simp [fold15, fold17, fold58]
  rfl

set_option maxHeartbeats 4000000 in
theorem V_o : V m c main_v57 = truncf .bf16 (shapeCast S4096x1024 (pad S4096x8x128 ![0, 0, 0] ![0, 0, 64] ![0, 0, 0] (hostO (m (c, Proc.devRef .tc main_arg0)) (m (c, Proc.devRef .tc main_arg1)) (m (c, Proc.devRef .tc main_arg2)) (m (c, Proc.devRef .tc main_arg3)) (m (c, Proc.devRef .tc main_arg4))) (sitofp .f32 (constantI S_ 32 0#32)) pads_S4096x8x64_S4096x8x128_000_000_0640 h_S_) shapeCasts_S4096x8x128_S4096x1024) bitsLt_bf16_f32 := by
  unfold_abbrev_sides
  after_reads_simp [fold15, fold17, fold58]
  rfl

set_option maxHeartbeats 4000000 in
theorem V_lse : V m c main_v37 = addf (broadcastInDim S8x4096x1 ![0, 1] bcast_S8x4096_S8x4096x1_0_1 (ReferenceIdeal.Read.val_main_v29 (F := F) (m (c, Proc.devRef .tc main_arg0)) (m (c, Proc.devRef .tc main_arg1)) (m (c, Proc.devRef .tc main_arg3)) (m (c, Proc.devRef .tc main_arg4)))) (Host.log (hostL (m (c, Proc.devRef .tc main_arg0)) (m (c, Proc.devRef .tc main_arg1)) (m (c, Proc.devRef .tc main_arg3)) (m (c, Proc.devRef .tc main_arg4)))) := by
  unfold_abbrev_sides
  after_reads_simp [fold15, fold17, fold58]
  rfl

set_option maxHeartbeats 4000000 in
theorem V_cos : V m c main_v59 = pad S4096x128 ![0, 64] ![0, 32] ![0, 0] (cat58 (m (c, Proc.devRef .tc main_arg3)) (m (c, Proc.devRef .tc main_arg3))) (sitofp .f32 (constantI S_ 32 0#32)) pads_S4096x32_S4096x128_000_64320 h_S_ := by
  unfold_abbrev_sides
  after_reads_simp [fold15, fold17, fold58]
  rfl

set_option maxHeartbeats 4000000 in
theorem V_sin : V m c main_v61 = pad S4096x128 ![0, 64] ![0, 32] ![0, 0] (cat58 (m (c, Proc.devRef .tc main_arg4)) (m (c, Proc.devRef .tc main_arg4))) (sitofp .f32 (constantI S_ 32 0#32)) pads_S4096x32_S4096x128_000_64320 h_S_ := by
  unfold_abbrev_sides
  after_reads_simp [fold15, fold17, fold58]
  rfl

section Real
variable (a0 a1 : Fin 4096 → Fin 8 → Fin 96 → ℝ) (a2 : Fin 4096 → Fin 8 → Fin 64 → ℝ) (cs sn : Fin 4096 → Fin 16 → ℝ) (ct : Fin 4096 → Fin 512 → ℝ)
  (mx : Fin 8 → Fin 4096 → ℝ)

/-- A table for the turned lanes, with zeros at the other lanes. -/
def table (f : Fin 4096 → Fin 16 → ℝ) (i : Fin 4096) (d : Fin 128) : ℝ :=
  if 64 ≤ d.val ∧ d.val < 96 then f i ⟨d.val % 16, Nat.mod_lt _ (by decide)⟩ else 0

theorem log_real (r : ℝ) (h : 0 < r) : Ideal.log (r : EReal) = ((Real.log r : ℝ) : EReal) := by
  show (if r ≤ 0 then (⊥ : EReal) else (Real.log r : EReal)) = _
  rw [if_neg (not_le.mpr h)]

theorem flat_pad96 (f : Fin 4096 → Fin 8 → Fin 96 → ℝ) :
    (truncf (F := Ideal) .bf16 (shapeCast S4096x1024 (pad S4096x8x128 ![0, 0, 0] ![0, 0, 32] ![0, 0, 0] (t3 f : FVec Ideal S4096x8x96 .f32) (sitofp .f32 (constantI S_ 32 0#32)) pads_S4096x8x96_S4096x8x128_000_000_0320 h_S_) shapeCasts_S4096x8x128_S4096x1024) bitsLt_bf16_f32 : FVec Ideal S4096x1024 .bf16) = t2 (flat f) := by
  funext z
  idx_vars z
  pointwise [ReferenceIdeal.Att.t3_at, ReferenceIdeal.Att.t2_at]
  rw [ReferenceIdeal.Att.pad0]
  unfold flat
  have h8 : z1.val / 128 < 8 := by have := z1.isLt; omega
  by_cases hc : z1.val % 128 < 96
  · rw [dif_pos ⟨h8, hc⟩, dif_pos hc]
  · rw [dif_neg (fun h => hc h.2), dif_neg hc]; rfl

theorem flat_pad64 (f : Fin 4096 → Fin 8 → Fin 64 → ℝ) :
    (truncf (F := Ideal) .bf16 (shapeCast S4096x1024 (pad S4096x8x128 ![0, 0, 0] ![0, 0, 64] ![0, 0, 0] (t3 f : FVec Ideal S4096x8x64 .f32) (sitofp .f32 (constantI S_ 32 0#32)) pads_S4096x8x64_S4096x8x128_000_000_0640 h_S_) shapeCasts_S4096x8x128_S4096x1024) bitsLt_bf16_f32 : FVec Ideal S4096x1024 .bf16) = t2 (flat f) := by
  funext z
  idx_vars z
  pointwise [ReferenceIdeal.Att.t3_at, ReferenceIdeal.Att.t2_at]
  rw [ReferenceIdeal.Att.pad0]
  unfold flat
  have h8 : z1.val / 128 < 8 := by have := z1.isLt; omega
  by_cases hc : z1.val % 128 < 64
  · rw [dif_pos ⟨h8, hc⟩, dif_pos hc]
  · rw [dif_neg (fun h => hc h.2), dif_neg hc]; rfl

theorem heads_real : (shapeCast S4096x8x64 (t2 ct : FVec Ideal S4096x512 .f32) shapeCasts_S4096x512_S4096x8x64 : FVec Ideal S4096x8x64 .f32) = t3 (co ct) := by
  funext z
  idx_vars z
  pointwise [ReferenceIdeal.Att.t3_at, ReferenceIdeal.Att.t2_at, co]
  have h0 := z1.isLt
  have h1 := z2.isLt
  exact congrArg (fun k => ((ct z0 k : ℝ) : EReal)) (Fin.ext (by show z1.val * 64 + z2.val = (64 * z1.val + z2.val) % 512; omega))

theorem hostE_real (hmx : ReferenceIdeal.Read.val_main_v29 (F := Ideal) (t3 a0) (t3 a1) (t2 cs) (t2 sn) = t2 mx) : hostE (F := Ideal) (t3 a0) (t3 a1) (t2 cs) (t2 sn) = t3 (ex a0 a1 cs sn mx) := by
  funext z
  idx_vars z
  pointwise [hostE, hmx, ReferenceIdeal.Att.v28_real, ReferenceIdeal.Att.ms_at, ReferenceIdeal.Att.t3_at, ReferenceIdeal.Att.t2_at, ex]
  split
  · rw [← EReal.coe_sub, ReferenceIdeal.Att.exp_real]
  · rfl

theorem hostL_real (hmx : ReferenceIdeal.Read.val_main_v29 (F := Ideal) (t3 a0) (t3 a1) (t2 cs) (t2 sn) = t2 mx) : hostL (F := Ideal) (t3 a0) (t3 a1) (t2 cs) (t2 sn) = t3 (fun h i (_ : Fin 1) => ls a0 a1 cs sn mx h i) := by
  funext z
  idx_vars z
  pointwise [hostL, hostE_real a0 a1 cs sn mx hmx, ReferenceIdeal.Att.t3_at]
  rw [← coe_sum]; rfl

theorem hostO_real (hmx : ReferenceIdeal.Read.val_main_v29 (F := Ideal) (t3 a0) (t3 a1) (t2 cs) (t2 sn) = t2 mx) : hostO (F := Ideal) (t3 a0) (t3 a1) (t3 a2) (t2 cs) (t2 sn) = t3 (oo a0 a1 a2 cs sn mx) := by
  funext z
  idx_vars z
  pointwise [hostO, hostL_real a0 a1 cs sn mx hmx, hostE_real a0 a1 cs sn mx hmx, ReferenceIdeal.Att.t3_at]
  have hl := ReferenceIdeal.Att.ls_pos a0 a1 cs sn mx z1 z0
  simp only [ReferenceIdeal.Att.div_real _ _ hl.ne', ← EReal.coe_mul, ← coe_sum]; rfl

theorem lse_real (hmx : ReferenceIdeal.Read.val_main_v29 (F := Ideal) (t3 a0) (t3 a1) (t2 cs) (t2 sn) = t2 mx) :
    (addf (broadcastInDim S8x4096x1 ![0, 1] bcast_S8x4096_S8x4096x1_0_1 (ReferenceIdeal.Read.val_main_v29 (F := Ideal) (t3 a0) (t3 a1) (t2 cs) (t2 sn))) (Host.log (hostL (F := Ideal) (t3 a0) (t3 a1) (t2 cs) (t2 sn))) : FVec Ideal S8x4096x1 .f32)
      = t3 (fun h i (_ : Fin 1) => mx h i + Real.log (ls a0 a1 cs sn mx h i)) := by
  funext z
  idx_vars z
  pointwise [hmx, hostL_real a0 a1 cs sn mx hmx, ReferenceIdeal.Att.t3_at, ReferenceIdeal.Att.t2_at]
  have hl := ReferenceIdeal.Att.ls_pos a0 a1 cs sn mx z0 z1
  rw [log_real _ hl, ← EReal.coe_add]

theorem table_real (f : Fin 4096 → Fin 16 → ℝ) :
    (pad S4096x128 ![0, 64] ![0, 32] ![0, 0] (cat58 (t2 f : FVec Ideal S4096x16 .f32) (t2 f : FVec Ideal S4096x16 .f32)) (sitofp (F := Ideal) .f32 (constantI S_ 32 0#32)) pads_S4096x32_S4096x128_000_64320 h_S_ : FVec Ideal S4096x128 .f32) = t2 (table f) := by
  funext z
  idx_vars z
  pointwise [cat58, ReferenceIdeal.Att.t2_at, table]
  rw [ReferenceIdeal.Att.pad0]
  by_cases h : 64 ≤ z1.val ∧ z1.val < 96
  · have h1 : 64 ≤ z1.val ∧ z1.val - 64 < 32 := by omega
    by_cases h2 : z1.val - 64 < 16
    · simp only [h, h1, h2, ↓reduceDIte, ↓reduceIte, and_self]
      exact congrArg (fun k => ((f z0 k : ℝ) : EReal)) (Fin.ext (by show z1.val - 64 = z1.val % 16; omega))
    · simp only [h, h1, h2, ↓reduceDIte, ↓reduceIte, and_self]
      exact congrArg (fun k => ((f z0 k : ℝ) : EReal)) (Fin.ext (by show z1.val - 64 - 16 = z1.val % 16; omega))
  · have h1 : ¬ (64 ≤ z1.val ∧ z1.val - 64 < 32) := by omega
    simp only [h, h1, ↓reduceDIte, ↓reduceIte]; rfl
end Real

end Cert.KernelIdeal.Att
-- ==== Proof.Pays.lean ====
/- The body's arithmetic at the extended reals, on tiles of real numbers: what each stored tile is, as a real formula. -/
module

public import proofs.«01_k».proof.Proof.Block
public import Idealize.ShloMosaic.Lib.Pointwise
public import Idealize.ShloMosaic.Lib.IdealHost

@[expose] public section

set_option maxRecDepth 16384

noncomputable section

namespace Cert.KernelIdeal.Att

open Cert.KernelIdeal.Gen Idealize.ShloMosaic

/-- A tile of real numbers. -/
def tl {a b : ℕ} (f : Fin a → Fin b → ℝ) : (⟨2, ![a, b]⟩ : Shape).Idx → EReal := fun z => ((f (z 0) (z 1) : ℝ) : EReal)

/-- A column of real numbers. -/
def cl (f : Fin 512 → ℝ) : S1x512x1.Idx → EReal := fun z => ((f (z 1) : ℝ) : EReal)

theorem coe_sum {ι : Type} (s : Finset ι) (f : ι → ℝ) : ((∑ i ∈ s, f i : ℝ) : EReal) = ∑ i ∈ s, ((f i : ℝ) : EReal) :=
  map_sum (⟨⟨fun r : ℝ => (r : EReal), EReal.coe_zero⟩, EReal.coe_add⟩ : ℝ →+ EReal) f s

theorem exp2_two (a b : ℝ) :
    Ideal.exp2 ((a : EReal) * (((Real.sqrt 96)⁻¹ * (Real.log 2)⁻¹ : ℝ) : EReal) - (b : EReal) * (((Real.log 2)⁻¹ : ℝ) : EReal))
      = ((Real.exp (a * (Real.sqrt 96)⁻¹ - b) : ℝ) : EReal) := by
  rw [← EReal.coe_mul, ← EReal.coe_mul, ← EReal.coe_sub, Ideal.exp2_coe]
  congr 1
  show (2 : ℝ) ^ (_ : ℝ) = _
  rw [Real.rpow_def_of_pos (by norm_num)]
  congr 1
  have : Real.log 2 ≠ 0 := (Real.log_pos (by norm_num)).ne'
  field_simp

theorem scale_eq : Named.named (F := Ideal) κ "attn_scale" (φ := .f32) 0x3DD105EC#32 = (((Real.sqrt 96)⁻¹ : ℝ) : EReal) :=
  IdealRules.named_const.ideal_named_scalar _ _ _ _ rfl
theorem scale2_eq : Named.named (F := Ideal) κ "exp2_scale" (φ := .f32) 0x3E16C740#32 = (((Real.sqrt 96)⁻¹ * (Real.log 2)⁻¹ : ℝ) : EReal) :=
  IdealRules.named_const.ideal_named_scalar _ _ _ _ rfl
theorem log2e_eq : Named.named (F := Ideal) κ "log2_e" (φ := .f32) 0x3FB8AA3B#32 = (((Real.log 2)⁻¹ : ℝ) : EReal) :=
  IdealRules.named_const.ideal_named_scalar _ _ _ _ rfl

/-- The weights of a tile of queries against a tile of keys. -/
def wt (k q : Fin 512 → Fin 128 → ℝ) (l : Fin 512 → ℝ) (i j : Fin 512) : ℝ :=
  Real.exp ((∑ c, q i c * k j c) * (Real.sqrt 96)⁻¹ - l i)

/-- The weights on and below the diagonal. -/
def wm (p : Fin 512 → Fin 512 → ℝ) (i j : Fin 512) : ℝ := if j.val ≤ i.val then p i j else 0

/-- The gradient of the scores. -/
def gt (p : Fin 512 → Fin 512 → ℝ) (v o : Fin 512 → Fin 128 → ℝ) (d : Fin 512 → ℝ) (i j : Fin 512) : ℝ :=
  p i j * ((∑ c, o i c * v j c) - d i)

/-- Transposed product. -/
def tn (p : Fin 512 → Fin 512 → ℝ) (x : Fin 512 → Fin 128 → ℝ) (j : Fin 512) (c : Fin 128) : ℝ := ∑ i, p i j * x i c
/-- Product. -/
def nn (p : Fin 512 → Fin 512 → ℝ) (x : Fin 512 → Fin 128 → ℝ) (i : Fin 512) (c : Fin 128) : ℝ := ∑ j, p i j * x j c

theorem sel_ge {α : Type} (i j : Fin 512) (a b : α) :
    Scalar.select (IntOp.cmpi .sge (BitVec.ofNat 32 i.val) (BitVec.ofNat 32 j.val)) a b = if j.val ≤ i.val then a else b := by
  have hi := i.isLt
  have hj := j.isLt
  rw [WordCmp.cmpi_sge_ofNat (by omega) (by omega)]
  by_cases h : j.val ≤ i.val <;> simp [h, Scalar.select]

set_option maxHeartbeats 1000000

variable (k q v o a : Fin 512 → Fin 128 → ℝ) (l d : Fin 512 → ℝ) (p : Fin 512 → Fin 512 → ℝ)

theorem tl_apply {a b : ℕ} (f : Fin a → Fin b → ℝ) (i : Fin a) (j : Fin b) : tl f (ix2 i j) = ((f i j : ℝ) : EReal) := rfl
theorem cl_apply (f : Fin 512 → ℝ) (i : Fin 512) : cl f (ix3 0 i 0) = ((f i : ℝ) : EReal) := rfl

theorem pay8_tl : k0_pay8 (F := Ideal) (tl k) (tl q) (cl l) = tl (wt k q l) := by
  funext z; idx_vars z
  pointwise [k0_pay8, k0_pay6, tl_apply, cl_apply, scale2_eq, log2e_eq]
  simp only [← EReal.coe_mul, ← coe_sum]
  exact exp2_two _ _
theorem pay49_tl : k0_pay49 (F := Ideal) (tl k) (tl q) (cl l) = tl (wt k q l) := by
  funext z; idx_vars z
  pointwise [k0_pay49, k0_pay47, tl_apply, cl_apply, scale2_eq, log2e_eq]
  simp only [← EReal.coe_mul, ← coe_sum]
  exact exp2_two _ _
theorem pay40_tl : k0_pay40 (F := Ideal) (tl k) (tl q) (cl l) = tl (wt k q l) := by
  funext z; idx_vars z
  pointwise [k0_pay40, k0_pay38, tl_apply, cl_apply, scale2_eq, log2e_eq]
  simp only [← EReal.coe_mul, ← coe_sum]
  exact exp2_two _ _
theorem pay33_tl : k0_pay33 (F := Ideal) (tl k) (tl q) (cl l) = tl (wm (wt k q l)) := by
  funext z; idx_vars z
  pointwise [k0_pay33, k0_pay26, k0_pay31, tl_apply, cl_apply, scale2_eq, log2e_eq]
  simp only [← EReal.coe_mul, ← coe_sum]
  rw [sel_ge]
  unfold wm
  split
  · exact exp2_two _ _
  · rfl
theorem pay42_tl : k0_pay42 (F := Ideal) (tl p) k0_pay41 (0 : EReal) = tl (wm p) := by
  funext z; idx_vars z
  pointwise [k0_pay42, k0_pay41, tl_apply]
  rw [sel_ge]
  unfold wm
  split <;> simp
theorem pay9_tl : k0_pay9 (F := Ideal) (tl k) (tl v) (tl q) (tl o) (cl l) (cl d) = tl (gt (wt k q l) v o d) := by
  funext z; idx_vars z
  pointwise [k0_pay9, k0_pay7, pay8_tl, tl_apply, cl_apply]
  simp only [← EReal.coe_mul, ← coe_sum, ← EReal.coe_sub]
  rfl
theorem pay50_tl : k0_pay50 (F := Ideal) (tl k) (tl v) (tl q) (tl o) (cl l) (cl d) = tl (gt (wt k q l) v o d) := by
  funext z; idx_vars z
  pointwise [k0_pay50, k0_pay48, pay49_tl, tl_apply, cl_apply]
  simp only [← EReal.coe_mul, ← coe_sum, ← EReal.coe_sub]
  rfl
theorem pay34_tl : k0_pay34 (F := Ideal) (tl v) (tl o) (tl p) (constant S512x512 .f32 0x00000000#32) (cl d) = tl (gt p v o d) := by
  funext z; idx_vars z
  pointwise [k0_pay34, tl_apply, cl_apply]
  simp only [← EReal.coe_mul, ← coe_sum, ← EReal.coe_sub]
  rfl
theorem pay43_tl : k0_pay43 (F := Ideal) (tl v) (tl o) (tl p) k0_pay41 (0 : EReal) (cl d) = tl (gt (wm p) v o d) := by
  funext z; idx_vars z
  pointwise [k0_pay43, pay42_tl, tl_apply, cl_apply]
  simp only [← EReal.coe_mul, ← coe_sum, ← EReal.coe_sub]
  rfl
theorem pay30_tl : k0_pay30 (F := Ideal) = tl (fun _ _ => 0) := by
  funext z; idx_vars z
  pointwise [k0_pay30, tl_apply]
  try simp
theorem pay10_tl : k0_pay10 (F := Ideal) (tl k) (tl a) (tl q) (tl o) (cl l) = tl (fun j c => a j c + tn (wt k q l) o j c) := by
  funext z; idx_vars z
  pointwise [k0_pay10, k0_pay7, pay8_tl, tl_apply]
  simp only [← EReal.coe_mul, ← coe_sum, ← EReal.coe_add]
  rfl
theorem pay51_tl : k0_pay51 (F := Ideal) (tl k) (tl a) (tl q) (tl o) (cl l) = tl (fun j c => a j c + tn (wt k q l) o j c) := by
  funext z; idx_vars z
  pointwise [k0_pay51, k0_pay48, pay49_tl, tl_apply]
  simp only [← EReal.coe_mul, ← coe_sum, ← EReal.coe_add]
  rfl
theorem pay35_tl : k0_pay35 (F := Ideal) (tl a) (tl o) (tl p) = tl (fun j c => a j c + tn p o j c) := by
  funext z; idx_vars z
  pointwise [k0_pay35, tl_apply]
  simp only [← EReal.coe_mul, ← coe_sum, ← EReal.coe_add]
  rfl
theorem pay44_tl : k0_pay44 (F := Ideal) (tl a) (tl o) (tl p) k0_pay41 (0 : EReal) = tl (fun j c => a j c + tn (wm p) o j c) := by
  funext z; idx_vars z
  pointwise [k0_pay44, pay42_tl, tl_apply]
  simp only [← EReal.coe_mul, ← coe_sum, ← EReal.coe_add]
  rfl
theorem pay11_tl : k0_pay11 (F := Ideal) (tl k) (tl v) (tl a) (tl q) (tl o) (cl l) (cl d)
    = tl (fun j c => a j c + tn (gt (wt k q l) v o d) q j c) := by
  funext z; idx_vars z
  pointwise [k0_pay11, k0_pay6, pay9_tl, tl_apply]
  simp only [← EReal.coe_mul, ← coe_sum, ← EReal.coe_add]
  rfl
theorem pay52_tl : k0_pay52 (F := Ideal) (tl k) (tl v) (tl a) (tl q) (tl o) (cl l) (cl d)
    = tl (fun j c => a j c + tn (gt (wt k q l) v o d) q j c) := by
  funext z; idx_vars z
  pointwise [k0_pay52, k0_pay47, pay50_tl, tl_apply]
  simp only [← EReal.coe_mul, ← coe_sum, ← EReal.coe_add]
  rfl
theorem pay36_tl : k0_pay36 (F := Ideal) (tl v) (tl a) (tl q) (tl o) (tl p) (constant S512x512 .f32 0x00000000#32) (cl d)
    = tl (fun j c => a j c + tn (gt p v o d) q j c) := by
  funext z; idx_vars z
  pointwise [k0_pay36, pay34_tl, tl_apply]
  simp only [← EReal.coe_mul, ← coe_sum, ← EReal.coe_add]
  rfl
theorem pay45_tl : k0_pay45 (F := Ideal) (tl v) (tl a) (tl q) (tl o) (tl p) k0_pay41 (0 : EReal) (cl d)
    = tl (fun j c => a j c + tn (gt (wm p) v o d) q j c) := by
  funext z; idx_vars z
  pointwise [k0_pay45, pay43_tl, tl_apply]
  simp only [← EReal.coe_mul, ← coe_sum, ← EReal.coe_add]
  rfl
theorem pay12_tl : k0_pay12 (F := Ideal) (tl k) (tl v) (tl q) (tl o) (cl l) (cl d) (tl a)
    = tl (fun i c => a i c + nn (gt (wt k q l) v o d) k i c * (Real.sqrt 96)⁻¹) := by
  funext z; idx_vars z
  pointwise [k0_pay12, pay9_tl, tl_apply, scale_eq]
  simp only [← EReal.coe_mul, ← coe_sum, ← EReal.coe_add]
  rfl
theorem pay53_tl : k0_pay53 (F := Ideal) (tl k) (tl v) (tl q) (tl o) (cl l) (cl d) (tl a)
    = tl (fun i c => a i c + nn (gt (wt k q l) v o d) k i c * (Real.sqrt 96)⁻¹) := by
  funext z; idx_vars z
  pointwise [k0_pay53, pay50_tl, tl_apply, scale_eq]
  simp only [← EReal.coe_mul, ← coe_sum, ← EReal.coe_add]
  rfl
theorem pay37_tl : k0_pay37 (F := Ideal) (tl k) (tl v) (tl o) (tl p) (constant S512x512 .f32 0x00000000#32) (cl d) (tl a)
    = tl (fun i c => a i c + nn (gt p v o d) k i c * (Real.sqrt 96)⁻¹) := by
  funext z; idx_vars z
  pointwise [k0_pay37, pay34_tl, tl_apply, scale_eq]
  simp only [← EReal.coe_mul, ← coe_sum, ← EReal.coe_add]
  rfl
theorem pay46_tl : k0_pay46 (F := Ideal) (tl k) (tl v) (tl o) (tl p) k0_pay41 (0 : EReal) (cl d) (tl a)
    = tl (fun i c => a i c + nn (gt (wm p) v o d) k i c * (Real.sqrt 96)⁻¹) := by
  funext z; idx_vars z
  pointwise [k0_pay46, pay43_tl, tl_apply, scale_eq]
  simp only [← EReal.coe_mul, ← coe_sum, ← EReal.coe_add]
  rfl
/-- A scaled key gradient. -/
theorem pay61_tl : k0_pay61 (F := Ideal) (tl a) = tl (fun i c => a i c * (Real.sqrt 96)⁻¹) := by
  funext z; idx_vars z
  pointwise [k0_pay61, tl_apply, scale_eq]
  simp only [← EReal.coe_mul]
theorem pay62_tl : k0_pay62 (F := Ideal) (tl a) = tl (fun i c => a i c * (Real.sqrt 96)⁻¹) := by
  funext z; idx_vars z
  pointwise [k0_pay62, pay61_tl]
theorem pay1_tl : k0_pay1 (F := Ideal) (tl a) = tl (fun i c => a i c * (Real.sqrt 96)⁻¹) := by
  funext z; idx_vars z
  pointwise [k0_pay1, tl_apply, scale_eq]
  simp only [← EReal.coe_mul]
theorem pay2_tl : k0_pay2 (F := Ideal) (tl a) = tl (fun i c => a i c * (Real.sqrt 96)⁻¹) := by
  funext z; idx_vars z
  pointwise [k0_pay2, pay1_tl]
theorem pay4_tl (b : Fin 512 → Fin 128 → ℝ) (i : Fin 512) (c : Fin 128) : k0_pay4 (F := Ideal) (tl a) (tl b) (ix3 0 i c)
    = ((b i c + a i c * (Real.sqrt 96)⁻¹ : ℝ) : EReal) := by
  pointwise [k0_pay4, pay1_tl, tl_apply]
  simp only [← EReal.coe_add]
theorem pay24_tl (i : Fin 512) : k0_pay24 (F := Ideal) (tl q) (tl o) (ix3 0 i 0) = ((∑ c, q i c * o i c : ℝ) : EReal) := by
  pointwise [k0_pay24, tl_apply]
  simp only [← EReal.coe_mul, ← coe_sum]
theorem pay25_tl (i : Fin 512) : k0_pay25 (F := Ideal) (tl q) (tl o) (ix3 0 i 0) = ((∑ c, q i c * o i c : ℝ) : EReal) := by
  pointwise [k0_pay25, tl_apply]
  simp only [← EReal.coe_mul, ← coe_sum]

end Cert.KernelIdeal.Att

end
-- ==== Proof.Walk.lean ====
/- The walk over the query blocks at the extended reals: the sums of one key block, and the query gradients after it, as real formulas. -/
module

public import proofs.«01_k».proof.Proof.Pays

@[expose] public section

set_option maxRecDepth 16384

noncomputable section

namespace Cert.KernelIdeal.Att

open Cert.KernelIdeal.Gen Idealize.ShloMosaic

/-- A pair of columns of real numbers. -/
def cl2 (f : Fin 2 → Fin 4096 → ℝ) : S2x4096x1.Idx → EReal := fun z => ((f (z 0) (z 1) : ℝ) : EReal)

/-- A tile of an array of real numbers. -/
def rt (Q : Fin 4096 → Fin 256 → ℝ) (r g : ℕ) (i : Fin 512) (c : Fin 128) : ℝ :=
  Q ⟨(512 * r + i.val) % 4096, Nat.mod_lt _ (by decide)⟩ ⟨(128 * g + c.val) % 256, Nat.mod_lt _ (by decide)⟩
/-- A half of a block of real numbers. -/
def rh (K : Fin 512 → Fin 256 → ℝ) (g : ℕ) (j : Fin 512) (c : Fin 128) : ℝ := K j ⟨(128 * g + c.val) % 256, Nat.mod_lt _ (by decide)⟩
/-- A piece of one of two columns. -/
def rc (L : Fin 2 → Fin 4096 → ℝ) (g r : ℕ) (i : Fin 512) : ℝ :=
  L ⟨g % 2, Nat.mod_lt _ (by decide)⟩ ⟨(512 * r + i.val) % 4096, Nat.mod_lt _ (by decide)⟩

theorem tile_tl (Q : Fin 4096 → Fin 256 → ℝ) (r g : ℕ) : tile (Val := Elt Ideal) (e := .bf16) (tl Q) r g = tl (rt Q r g) := rfl
theorem tile_tl' (Q : Fin 4096 → Fin 256 → ℝ) (r g : ℕ) : tile (Val := Elt Ideal) (e := .f32) (tl Q) r g = tl (rt Q r g) := rfl
theorem half_tl (K : Fin 512 → Fin 256 → ℝ) (g : ℕ) : half (Val := Elt Ideal) (e := .bf16) (tl K) g = tl (rh K g) := rfl
theorem col_cl2 (L : Fin 2 → Fin 4096 → ℝ) (g r : ℕ) : col (Val := Elt Ideal) (e := .f32) (cl2 L) g r = cl (rc L g r) := rfl

/-- The array with one tile replaced. -/
def rput (D : Fin 4096 → Fin 256 → ℝ) (r g : ℕ) (w : Fin 512 → Fin 128 → ℝ) (i : Fin 4096) (c : Fin 256) : ℝ :=
  if i.val / 512 = r ∧ c.val / 128 = g then w ⟨i.val % 512, Nat.mod_lt _ (by decide)⟩ ⟨c.val % 128, Nat.mod_lt _ (by decide)⟩ else D i c

theorem put_tl (D : Fin 4096 → Fin 256 → ℝ) (r g : ℕ) (w : Fin 512 → Fin 128 → ℝ) :
    put (Val := Elt Ideal) (e := .f32) (tl D) r g (tl w) = tl (rput D r g w) := by
  funext y
  unfold put tl rput
  split
  · rfl
  · rfl

section walk
variable (Q O : Fin 4096 → Fin 256 → ℝ) (K V : Fin 512 → Fin 256 → ℝ) (L D : Fin 2 → Fin 4096 → ℝ)

/-- The weights of query block `b` against key block `r`. -/
def wb (r b g : ℕ) : Fin 512 → Fin 512 → ℝ :=
  if b = r then wm (wt (rh K g) (rt Q b g) (rc L g b)) else wt (rh K g) (rt Q b g) (rc L g b)
/-- The score gradients. -/
def gb (r b g : ℕ) : Fin 512 → Fin 512 → ℝ := gt (wb Q K L r b g) (rh V g) (rt O b g) (rc D g b)
/-- What query block `b` adds to the value gradients. -/
def cv (r b g : ℕ) : Fin 512 → Fin 128 → ℝ := tn (wb Q K L r b g) (rt O b g)
/-- What query block `b` adds to the key gradients. -/
def ck (r b g : ℕ) : Fin 512 → Fin 128 → ℝ := tn (gb Q O K V L D r b g) (rt Q b g)
/-- What key block `r` adds to the query gradients of query block `b`. -/
def cq (r b g : ℕ) (i : Fin 512) (c : Fin 128) : ℝ := nn (gb Q O K V L D r b g) (rh K g) i c * (Real.sqrt 96)⁻¹

theorem kA_tl : kA (F := Ideal) (tl K) = tl (rh K 0) := by
  unfold kA; rw [half_tl]; funext z; idx_vars z; pointwise [k0_pay26]
theorem kB_tl : kB (F := Ideal) (tl K) = tl (rh K 1) := by
  unfold kB; rw [half_tl]; funext z; idx_vars z; pointwise [k0_pay28]
theorem vA_tl : vA (F := Ideal) (tl K) = tl (rh K 0) := by
  unfold vA; rw [half_tl]; funext z; idx_vars z; pointwise [k0_pay27]
theorem vB_tl : vB (F := Ideal) (tl K) = tl (rh K 1) := by
  unfold vB; rw [half_tl]; funext z; idx_vars z; pointwise [k0_pay29]
theorem pay31_tl (x : Fin 512 → Fin 128 → ℝ) : k0_pay31 (F := Ideal) (tl x) = tl x := by
  funext z; idx_vars z; pointwise [k0_pay31]
theorem pay32_tl (x : Fin 512 → Fin 128 → ℝ) : k0_pay32 (F := Ideal) (tl x) = tl x := by
  funext z; idx_vars z; pointwise [k0_pay32]
theorem pay38_tl (x : Fin 512 → Fin 128 → ℝ) : k0_pay38 (F := Ideal) (tl x) = tl x := by
  funext z; idx_vars z; pointwise [k0_pay38]
theorem pay39_tl (x : Fin 512 → Fin 128 → ℝ) : k0_pay39 (F := Ideal) (tl x) = tl x := by
  funext z; idx_vars z; pointwise [k0_pay39]
theorem word0 : (Scalar.ofBits .f32 0x00000000#32 : Ideal .f32) = (0 : EReal) := by
  simp [Scalar.ofBits, Ideal.ofBits, Ideal.ieee]

theorem diagAcc_tl (r : ℕ) : diagAcc (F := Ideal) (tl Q) (tl K) (tl V) (tl O) (cl2 L) (cl2 D) r
    = (tl (ck Q O K V L D r r 0), tl (cv Q O K L r r 0), tl (ck Q O K V L D r r 1), tl (cv Q O K L r r 1)) := by
  unfold diagAcc pA pB
  simp only [word0, tile_tl, half_tl, col_cl2, kB_tl, vA_tl, vB_tl, pay31_tl, pay32_tl, pay38_tl, pay39_tl, pay30_tl, pay33_tl, pay40_tl,
    pay36_tl, pay35_tl, pay45_tl, pay44_tl, zero_add]
  simp only [ck, cv, gb, wb, if_pos]

theorem accN_tl (r k : ℕ) : accN (F := Ideal) (tl Q) (tl O) (cl2 L) (cl2 D) (tl (rh K 0)) (tl (rh V 0)) (tl (rh K 1)) (tl (rh V 1)) (r + 1)
      (diagAcc (F := Ideal) (tl Q) (tl K) (tl V) (tl O) (cl2 L) (cl2 D) r) k
    = (tl (fun j c => ∑ n ∈ Finset.range (k + 1), ck Q O K V L D r (r + n) 0 j c), tl (fun j c => ∑ n ∈ Finset.range (k + 1), cv Q O K L r (r + n) 0 j c),
       tl (fun j c => ∑ n ∈ Finset.range (k + 1), ck Q O K V L D r (r + n) 1 j c), tl (fun j c => ∑ n ∈ Finset.range (k + 1), cv Q O K L r (r + n) 1 j c)) := by
  induction k with
  | zero => simp only [accN, diagAcc_tl, zero_add, Finset.range_one, Finset.sum_singleton, add_zero]
  | succ k ih =>
    have hne : ¬ r + 1 + k = r := by omega
    simp only [accN, ih, stepAcc, tile_tl, col_cl2, pay11_tl, pay10_tl, pay52_tl, pay51_tl]
    have e : r + (k + 1) = r + 1 + k := by omega
    simp only [Finset.sum_range_succ _ (k + 1), e, ck, cv, gb, wb, if_neg hne]

theorem sums_tl (r : ℕ) (hr : r < 8) : sums (F := Ideal) (tl Q) (tl K) (tl V) (tl O) (cl2 L) (cl2 D) r
    = (tl (fun j c => ∑ n ∈ Finset.range (8 - r), ck Q O K V L D r (r + n) 0 j c), tl (fun j c => ∑ n ∈ Finset.range (8 - r), cv Q O K L r (r + n) 0 j c),
       tl (fun j c => ∑ n ∈ Finset.range (8 - r), ck Q O K V L D r (r + n) 1 j c), tl (fun j c => ∑ n ∈ Finset.range (8 - r), cv Q O K L r (r + n) 1 j c)) := by
  unfold sums
  rw [kA_tl, kB_tl, vA_tl, vB_tl, accN_tl, show 7 - r + 1 = 8 - r by omega]

/-- The query gradients with the contributions of key block `r` on the query blocks below `b`. -/
def dqr (E : Fin 4096 → Fin 256 → ℝ) (r b : ℕ) (i : Fin 4096) (c : Fin 256) : ℝ :=
  if r ≤ i.val / 512 ∧ i.val / 512 < b then
    E i c + cq Q O K V L D r (i.val / 512) (c.val / 128) ⟨i.val % 512, Nat.mod_lt _ (by decide)⟩ ⟨c.val % 128, Nat.mod_lt _ (by decide)⟩
  else E i c

theorem rput_step (E : Fin 4096 → Fin 256 → ℝ) (r b : ℕ) (h : r ≤ b) (w0 w1 : Fin 512 → Fin 128 → ℝ)
    (h0 : w0 = fun i c => rt (dqr Q O K V L D E r b) b 0 i c + cq Q O K V L D r b 0 i c)
    (h1 : w1 = fun i c => rt (dqr Q O K V L D E r b) b 1 i c + cq Q O K V L D r b 1 i c) :
    rput (rput (dqr Q O K V L D E r b) b 0 w0) b 1 w1 = dqr Q O K V L D E r (b + 1) := by
  funext i c
  have hi := i.isLt
  have hc := c.isLt
  have rw_rt : ∀ (X : Fin 4096 → Fin 256 → ℝ) (g : ℕ), i.val / 512 = b → c.val / 128 = g →
      rt X b g ⟨i.val % 512, Nat.mod_lt _ (by decide)⟩ ⟨c.val % 128, Nat.mod_lt _ (by decide)⟩ = X i c := by
    intro X g hb hg
    unfold rt
    congr 1
    · apply Fin.ext; show (512 * b + i.val % 512) % 4096 = i.val; omega
    · apply Fin.ext; show (128 * g + c.val % 128) % 256 = c.val; omega
  by_cases hb : i.val / 512 = b
  · by_cases hg : c.val / 128 = 0
    · rw [rput, if_neg (by omega), rput, if_pos ⟨hb, hg⟩, h0]
      simp only
      rw [rw_rt _ 0 hb hg, dqr, if_neg (by omega), dqr, if_pos (by omega), hb, hg]
    · have hg1 : c.val / 128 = 1 := by omega
      rw [rput, if_pos ⟨hb, hg1⟩, h1]
      simp only
      rw [rw_rt _ 1 hb hg1, dqr, if_neg (by omega), dqr, if_pos (by omega), hb, hg1]
  · rw [rput, if_neg (by omega), rput, if_neg (by omega)]
    unfold dqr
    by_cases h2 : r ≤ i.val / 512 ∧ i.val / 512 < b
    · rw [if_pos h2, if_pos (by omega)]
    · rw [if_neg h2, if_neg (by omega)]

theorem dqr_start (E : Fin 4096 → Fin 256 → ℝ) (r : ℕ) : dqr Q O K V L D E r r = E := by
  funext i c; rw [dqr, if_neg (by omega)]

theorem diagDq_tl (E : Fin 4096 → Fin 256 → ℝ) (r : ℕ) : diagDq (F := Ideal) (tl Q) (tl K) (tl V) (tl O) (cl2 L) (cl2 D) r (tl E)
    = tl (dqr Q O K V L D E r (r + 1)) := by
  unfold diagDq pA pB
  simp only [word0, tile_tl, tile_tl', half_tl, col_cl2, kA_tl, kB_tl, vA_tl, vB_tl, pay32_tl, pay39_tl, pay33_tl, pay40_tl, pay37_tl, pay46_tl, put_tl]
  rw [← rput_step Q O K V L D E r r le_rfl _ _ rfl rfl, dqr_start]
  simp only [cq, gb, wb, if_pos]

theorem dqN_tl (E : Fin 4096 → Fin 256 → ℝ) (r k : ℕ) : dqN (F := Ideal) (tl Q) (tl O) (cl2 L) (cl2 D) (tl (rh K 0)) (tl (rh V 0)) (tl (rh K 1)) (tl (rh V 1)) (r + 1)
      (tl (dqr Q O K V L D E r (r + 1))) k = tl (dqr Q O K V L D E r (r + 1 + k)) := by
  induction k with
  | zero => rfl
  | succ k ih =>
    have hne : ¬ r + 1 + k = r := by omega
    simp only [dqN, ih, stepDq, tile_tl, tile_tl', col_cl2, pay12_tl, pay53_tl, put_tl]
    rw [show r + 1 + (k + 1) = r + 1 + k + 1 by omega, ← rput_step Q O K V L D E r (r + 1 + k) (by omega) _ _ rfl rfl]
    simp only [cq, gb, wb, if_neg hne]

theorem dqNext_tl (E : Fin 4096 → Fin 256 → ℝ) (r : ℕ) (hr : r < 8) : dqNext (F := Ideal) (tl Q) (tl K) (tl V) (tl O) (cl2 L) (cl2 D) r (tl E)
    = tl (dqr Q O K V L D E r 8) := by
  unfold dqNext
  rw [kA_tl, kB_tl, vA_tl, vB_tl, diagDq_tl, dqN_tl, show r + 1 + (7 - r) = 8 by omega]
end walk

end Cert.KernelIdeal.Att
-- ==== Proof.Outs.lean ====
/- What the body stores, on arrays of real numbers. -/
module

public import proofs.«01_k».proof.Proof.Walk

@[expose] public section

set_option maxRecDepth 16384

noncomputable section

namespace Cert.KernelIdeal.Att

open Cert.KernelIdeal.Gen Idealize.ShloMosaic

theorem pay3_tl (a : Fin 512 → Fin 128 → ℝ) : k0_pay3 (F := Ideal) (tl a) = tl a := by
  funext z; idx_vars z
  pointwise [k0_pay3, tl_apply]
theorem pay63_tl (a : Fin 512 → Fin 128 → ℝ) : k0_pay63 (F := Ideal) (tl a) = tl a := by
  funext z; idx_vars z
  pointwise [k0_pay63, tl_apply]
theorem pay23_tl : k0_pay23 (F := Ideal) = tl (fun _ _ => 0) := by
  funext z; idx_vars z
  pointwise [k0_pay23, tl_apply]
  try simp

/-- Two halves side by side. -/
theorem join_tl (f : ℕ → Fin 512 → Fin 128 → ℝ) :
    join (Val := Elt Ideal) (e := .bf16) (tl (f 0)) (tl (f 1)) = tl (fun j c => f (c.val / 128) j ⟨c.val % 128, Nat.mod_lt _ (by decide)⟩) := by
  funext y
  have hy : (y 1).val < 256 := (y 1).isLt
  unfold join tl
  split
  · rename_i h; simp only [h]; rfl
  · rename_i h
    have h1 : (y 1).val / 128 = 1 := by omega
    simp only [h1]; rfl

section outs
variable (Q O : Fin 4096 → Fin 256 → ℝ) (K V : Fin 512 → Fin 256 → ℝ) (L D : Fin 2 → Fin 4096 → ℝ)

theorem dkOut_tl (r : ℕ) (hr : r < 8) : dkOut (F := Ideal) (tl Q) (tl K) (tl V) (tl O) (cl2 L) (cl2 D) r
    = tl (fun j c => (∑ n ∈ Finset.range (8 - r), ck Q O K V L D r (r + n) (c.val / 128) j ⟨c.val % 128, Nat.mod_lt _ (by decide)⟩) * (Real.sqrt 96)⁻¹) := by
  unfold dkOut
  rw [sums_tl Q O K V L D r hr, pay62_tl, pay2_tl]
  exact join_tl (fun g j c => (∑ n ∈ Finset.range (8 - r), ck Q O K V L D r (r + n) g j c) * (Real.sqrt 96)⁻¹)

theorem dvOut_tl (r : ℕ) (hr : r < 8) : dvOut (F := Ideal) (tl Q) (tl K) (tl V) (tl O) (cl2 L) (cl2 D) r
    = tl (fun j c => ∑ n ∈ Finset.range (8 - r), cv Q O K L r (r + n) (c.val / 128) j ⟨c.val % 128, Nat.mod_lt _ (by decide)⟩) := by
  unfold dvOut
  rw [sums_tl Q O K V L D r hr, pay63_tl, pay3_tl]
  exact join_tl (fun g j c => ∑ n ∈ Finset.range (8 - r), cv Q O K L r (r + n) g j c)

theorem dksOut_tl (r : ℕ) (hr : r < 8) (j : Fin 512) (c : Fin 128) : dksOut (F := Ideal) (tl Q) (tl K) (tl V) (tl O) (cl2 L) (cl2 D) r (ix3 0 j c)
    = (((∑ n ∈ Finset.range (8 - r), ck Q O K V L D r (r + n) 0 j c) * (Real.sqrt 96)⁻¹ + (∑ n ∈ Finset.range (8 - r), ck Q O K V L D r (r + n) 1 j c) * (Real.sqrt 96)⁻¹ : ℝ) : EReal) := by
  unfold dksOut
  rw [sums_tl Q O K V L D r hr, pay61_tl]
  exact pay4_tl (fun j c => ∑ n ∈ Finset.range (8 - r), ck Q O K V L D r (r + n) 1 j c) _ j c

theorem delta_tl (P : Fin 4096 → Fin 256 → ℝ) : delta (F := Ideal) (tl O) (tl P)
    = cl2 (fun g i => ∑ c : Fin 128, rt O (i.val / 512) g.val ⟨i.val % 512, Nat.mod_lt _ (by decide)⟩ c * rt P (i.val / 512) g.val ⟨i.val % 512, Nat.mod_lt _ (by decide)⟩ c) := by
  funext y
  have hy : (y 0).val < 2 := (y 0).isLt
  unfold delta
  simp only [tile_tl]
  unfold cl2
  split
  · rename_i h; simp only [h]; exact pay24_tl _ _ _
  · rename_i h
    have h1 : (y 0).val = 1 := by omega
    simp only [h1]; exact pay25_tl _ _ _

end outs

/-- A tile of query gradients turned back. -/
def tb (s t d : Fin 512 → Fin 128 → ℝ) (i : Fin 512) (c : Fin 128) : ℝ :=
  d i c * (t i c + if c.val < 64 then 1 else 0)
    - if 64 ≤ c.val ∧ c.val < 80 then 0 - d i ⟨(c.val + 16) % 128, Nat.mod_lt _ (by decide)⟩ * s i ⟨(c.val + 16) % 128, Nat.mod_lt _ (by decide)⟩
      else if 80 ≤ c.val ∧ c.val < 96 then d i ⟨(c.val + 112) % 128, Nat.mod_lt _ (by decide)⟩ * s i ⟨(c.val + 112) % 128, Nat.mod_lt _ (by decide)⟩ else 0

theorem sel_lt {α : Type} (c : Fin 128) (a b : α) :
    Scalar.select (IntOp.cmpi .slt (BitVec.ofNat 32 c.val) 64#32) a b = if c.val < 64 then a else b := by
  have hc := c.isLt
  rw [show (64#32) = BitVec.ofNat 32 64 from rfl, WordCmp.cmpi_slt_ofNat (by omega) (by omega)]
  by_cases h : c.val < 64 <;> simp [h, Scalar.select]

theorem sel_in {α : Type} (c : Fin 128) (lo hi : ℕ) (hlo : lo < 128) (hhi : hi < 128) (a b : α) :
    Scalar.select (IntOp.andi (IntOp.cmpi .sge (BitVec.ofNat 32 c.val) (BitVec.ofNat 32 lo)) (IntOp.cmpi .slt (BitVec.ofNat 32 c.val) (BitVec.ofNat 32 hi))) a b
      = if lo ≤ c.val ∧ c.val < hi then a else b := by
  have hc := c.isLt
  rw [WordCmp.cmpi_slt_ofNat (by omega) (by omega), WordCmp.cmpi_sge_ofNat (by omega) (by omega)]
  by_cases h : c.val < hi <;> by_cases h' : lo ≤ c.val <;> simp [h, h', Scalar.select, IntOp.andi]

theorem turn_back (s t d : Fin 512 → Fin 128 → ℝ) (i : Fin 512) (c : Fin 128) {h1 h2} :
    ((d i c : ℝ) : EReal) * (((t i c : ℝ) : EReal) + Scalar.select (IntOp.cmpi .slt (BitVec.ofNat 32 c.val) 64#32) 1 0)
      - Scalar.select (IntOp.andi (IntOp.cmpi .sge (BitVec.ofNat 32 c.val) 64#32) (IntOp.cmpi .slt (BitVec.ofNat 32 c.val) 80#32))
          (0 - ((d i ⟨(c.val + 128 - 112) % 128, h1⟩ : ℝ) : EReal) * ((s i ⟨(c.val + 128 - 112) % 128, h1⟩ : ℝ) : EReal))
          (Scalar.select (IntOp.andi (IntOp.cmpi .sge (BitVec.ofNat 32 c.val) 80#32) (IntOp.cmpi .slt (BitVec.ofNat 32 c.val) 96#32))
            (((d i ⟨(c.val + 128 - 16) % 128, h2⟩ : ℝ) : EReal) * ((s i ⟨(c.val + 128 - 16) % 128, h2⟩ : ℝ) : EReal)) 0)
      = ((tb s t d i c : ℝ) : EReal) := by
  rw [sel_lt, sel_in c 64 80 (by decide) (by decide), sel_in c 80 96 (by decide) (by decide)]
  have e1 : c.val + 128 - 112 = c.val + 16 := by omega
  have e2 : c.val + 128 - 16 = c.val + 112 := by omega
  unfold tb
  simp only [e1, e2, ← EReal.coe_zero, ← EReal.coe_one, ← EReal.coe_mul, ← EReal.coe_sub]
  by_cases g1 : c.val < 64 <;> by_cases g2 : 64 ≤ c.val ∧ c.val < 80 <;> by_cases g3 : 80 ≤ c.val ∧ c.val < 96 <;>
    simp only [g1, g2, g3, and_self, ↓reduceIte, ← EReal.coe_add, ← EReal.coe_mul, ← EReal.coe_sub]

theorem pay22_tl (s t d : Fin 512 → Fin 128 → ℝ) : k0_pay22 (F := Ideal) (tl s) (tl t) (tl d) = tl (tb s t d) := by
  funext z; idx_vars z
  pointwise [k0_pay22, k0_pay21, k0_pay20, tl_apply]
  exact turn_back s t d z0 z1
theorem pay5_tl (s t d : Fin 512 → Fin 128 → ℝ) : k0_pay5 (F := Ideal) (k0_pay20 (tl s)) (k0_pay21 (tl t)) (tl d) = tl (tb s t d) := by
  funext z; idx_vars z
  pointwise [k0_pay5, k0_pay21, k0_pay20, tl_apply]
  exact turn_back s t d z0 z1

/-- The rows of block `b` of a table of real numbers. -/
def rr (f : Fin 4096 → Fin 128 → ℝ) (b : ℕ) (i : Fin 512) (c : Fin 128) : ℝ := f ⟨(512 * b + i.val) % 4096, Nat.mod_lt _ (by decide)⟩ c

theorem rows_tl (f : Fin 4096 → Fin 128 → ℝ) (r : ℕ) : rows (Val := Elt Ideal) (e := .f32) (tl f) r = tl (rr f r) := rfl

theorem turned_tl (t s : Fin 4096 → Fin 128 → ℝ) (D : Fin 4096 → Fin 256 → ℝ) : turned (F := Ideal) (tl t) (tl s) (tl D)
    = tl (fun i c => tb (rr s (i.val / 512)) (rr t (i.val / 512)) (rt D (i.val / 512) (c.val / 128)) ⟨i.val % 512, Nat.mod_lt _ (by decide)⟩ ⟨c.val % 128, Nat.mod_lt _ (by decide)⟩) := by
  funext y
  have hy : (y 1).val < 256 := (y 1).isLt
  unfold turned
  simp only [tile_tl', rows_tl, pay22_tl, pay5_tl]
  split
  · rename_i h; unfold tl; simp only [h]
  · rename_i h
    have h1 : (y 1).val / 128 = 1 := by omega
    unfold tl; simp only [h1]

end Cert.KernelIdeal.Att

end
-- ==== Proof.Sums.lean ====
/- The sums over the tiles are the sums over all the rows: what the body stores are the gradients of the attention. -/
module

public import proofs.«01_k».proof.Proof.Outs
public import proofs.«01_k».proof.Proof.RefVal

@[expose] public section

set_option maxRecDepth 16384

noncomputable section

namespace Cert.KernelIdeal.Att

open Cert.KernelIdeal.Gen Idealize.ShloMosaic Cert.Model

/-- Head `g` of pair `p`. -/
def hd (p g : ℕ) : Fin 8 := ⟨(2 * p + g) % 8, Nat.mod_lt _ (by decide)⟩
/-- Row `i` of block `b`. -/
def row (b : ℕ) (i : Fin 512) : Fin 4096 := ⟨(512 * b + i.val) % 4096, Nat.mod_lt _ (by decide)⟩
/-- Lanes added up to 128. -/
def px {n : ℕ} (f : Fin 4096 → Fin 8 → Fin n → ℝ) (i : Fin 4096) (h : Fin 8) (c : Fin 128) : ℝ := if hc : c.val < n then f i h ⟨c.val, hc⟩ else 0
/-- The lanes of pair `p`. -/
def bq (f : Fin 4096 → Fin 1024 → ℝ) (p : ℕ) (i : Fin 4096) (c : Fin 256) : ℝ := f i ⟨(256 * p + c.val) % 1024, Nat.mod_lt _ (by decide)⟩
/-- The lanes of pair `p`, in the rows of block `r`. -/
def bk (f : Fin 4096 → Fin 1024 → ℝ) (p r : ℕ) (j : Fin 512) (c : Fin 256) : ℝ := f (row r j) ⟨(256 * p + c.val) % 1024, Nat.mod_lt _ (by decide)⟩
/-- The two columns of pair `p`. -/
def bL (f : Fin 8 → Fin 4096 → ℝ) (p : ℕ) (g : Fin 2) (i : Fin 4096) : ℝ := f (hd p g.val) i

theorem rt_bq {n : ℕ} (f : Fin 4096 → Fin 8 → Fin n → ℝ) (p b g : ℕ) (hp : p < 4) (hg : g < 2) (i : Fin 512) (c : Fin 128) :
    rt (bq (flat f) p) b g i c = px f (row b i) (hd p g) c := by
  have hc := c.isLt
  have e1 : (256 * p + (128 * g + c.val) % 256) % 1024 % 128 = c.val := by omega
  have e2 : (256 * p + (128 * g + c.val) % 256) % 1024 / 128 = (2 * p + g) % 8 := by omega
  unfold rt bq flat px row hd
  simp only [e1, e2]

theorem rh_bk {n : ℕ} (f : Fin 4096 → Fin 8 → Fin n → ℝ) (p r g : ℕ) (hp : p < 4) (hg : g < 2) (j : Fin 512) (c : Fin 128) :
    rh (bk (flat f) p r) g j c = px f (row r j) (hd p g) c := by
  have hc := c.isLt
  have e1 : (256 * p + (128 * g + c.val) % 256) % 1024 % 128 = c.val := by omega
  have e2 : (256 * p + (128 * g + c.val) % 256) % 1024 / 128 = (2 * p + g) % 8 := by omega
  unfold rh bk flat px row hd
  simp only [e1, e2]

theorem rc_bL (f : Fin 8 → Fin 4096 → ℝ) (p b g : ℕ) (hg : g < 2) (i : Fin 512) : rc (bL f p) g b i = f (hd p g) (row b i) := by
  unfold rc bL row hd
  simp only [Nat.mod_eq_of_lt hg]

theorem sum_lanes {n : ℕ} (hn : n ≤ 128) (F : ℕ → ℝ) (hF : ∀ k, n ≤ k → F k = 0) : ∑ c : Fin 128, F c.val = ∑ c : Fin n, F c.val := by
  rw [Fin.sum_univ_eq_sum_range, Fin.sum_univ_eq_sum_range]
  refine (Finset.sum_subset (Finset.range_subset_range.mpr hn) fun k _ hk => ?_).symm
  exact hF k (by simpa using hk)

theorem dot_px {n : ℕ} (hn : n ≤ 128) (f g : Fin 4096 → Fin 8 → Fin n → ℝ) (i j : Fin 4096) (h : Fin 8) :
    ∑ c, px f i h c * px g j h c = ∑ c, f i h c * g j h c := by
  have e := sum_lanes hn (fun k => if hk : k < n then f i h ⟨k, hk⟩ * g j h ⟨k, hk⟩ else 0) (fun k hk => dif_neg (by omega))
  have e1 : ∀ c : Fin 128, px f i h c * px g j h c = if hk : c.val < n then f i h ⟨c.val, hk⟩ * g j h ⟨c.val, hk⟩ else 0 := by
    intro c
    unfold px
    by_cases hc : c.val < n
    · simp only [hc, ↓reduceDIte]
    · simp only [hc, ↓reduceDIte, mul_zero]
  have e2 : ∀ c : Fin n, (if hk : c.val < n then f i h ⟨c.val, hk⟩ * g j h ⟨c.val, hk⟩ else 0) = f i h c * g j h c := fun c => dif_pos c.isLt
  rw [Finset.sum_congr rfl fun c _ => e1 c, e, Finset.sum_congr rfl fun c _ => e2 c]

theorem sum_rows (F : Fin 4096 → ℝ) : ∑ b ∈ Finset.range 8, ∑ i : Fin 512, F (row b i) = ∑ I, F I := by
  rw [Finset.sum_range fun b => ∑ i : Fin 512, F (row b i), ← Fintype.sum_prod_type' (fun (b : Fin 8) (i : Fin 512) => F (row b.val i))]
  refine Fintype.sum_equiv (finProdFinEquiv (m := 8) (n := 512)) _ F fun x => ?_
  refine congrArg F (Fin.ext ?_)
  have h1 := x.1.isLt
  have h2 := x.2.isLt
  show (512 * x.1.val + x.2.val) % 4096 = x.2.val + 512 * x.1.val
  omega

theorem sum_from (F : Fin 4096 → ℝ) (r : ℕ) (hr : r < 8) (hF : ∀ I : Fin 4096, I.val < 512 * r → F I = 0) :
    ∑ n ∈ Finset.range (8 - r), ∑ i : Fin 512, F (row (r + n) i) = ∑ I, F I := by
  rw [← sum_rows, ← Finset.sum_Ico_eq_sum_range (fun b => ∑ i : Fin 512, F (row b i)) r 8]
  refine Finset.sum_subset (fun b hb => ?_) fun b hb hn => ?_
  · rw [Finset.mem_Ico] at hb; exact Finset.mem_range.mpr hb.2
  · rw [Finset.mem_range] at hb
    rw [Finset.mem_Ico] at hn
    refine Finset.sum_eq_zero fun i _ => hF _ ?_
    have hi := i.isLt
    show (512 * b + i.val) % 4096 < 512 * r
    omega

section att
variable (a0 a1 : Fin 4096 → Fin 8 → Fin 96 → ℝ) (a2 : Fin 4096 → Fin 8 → Fin 64 → ℝ) (cs sn : Fin 4096 → Fin 16 → ℝ) (ct : Fin 4096 → Fin 512 → ℝ)
  (mx : Fin 8 → Fin 4096 → ℝ)

/-- The logarithm of the row's sum of exponentials. -/
def lg (h : Fin 8) (i : Fin 4096) : ℝ := mx h i + Real.log (ls a0 a1 cs sn mx h i)

theorem yy_zero (h : Fin 8) (I J : Fin 4096) (hIJ : I.val < J.val) : yy a0 a1 cs sn mx h I J = 0 := by
  unfold yy ex
  rw [if_neg (by rw [Fin.le_def]; omega), zero_div]

theorem gs_zero (h : Fin 8) (I J : Fin 4096) (hIJ : I.val < J.val) : gs a0 a1 a2 cs sn ct mx h I J = 0 := by
  unfold gs
  rw [yy_zero a0 a1 cs sn mx h I J hIJ, zero_mul]

theorem weight (h : Fin 8) (I J : Fin 4096) (hIJ : J ≤ I) :
    Real.exp ((∑ c, qr a0 cs sn I h c * a1 J h c) * (Real.sqrt 96)⁻¹ - lg a0 a1 cs sn mx h I) = yy a0 a1 cs sn mx h I J := by
  unfold yy ex lg sc
  rw [if_pos hIJ, ← sub_sub, Real.exp_sub _ (Real.log _), Real.exp_log (ReferenceIdeal.Att.ls_pos a0 a1 cs sn mx h I), div_eq_mul_inv (∑ c, _) (Real.sqrt 96)]

theorem wb_eq (p r b g : ℕ) (hp : p < 4) (hg : g < 2) (hr : r ≤ b) (hb : b < 8) (i j : Fin 512) :
    wb (bq (flat (qr a0 cs sn)) p) (bk (flat a1) p r) (bL (lg a0 a1 cs sn mx) p) r b g i j = yy a0 a1 cs sn mx (hd p g) (row b i) (row r j) := by
  have hi := i.isLt
  have hj := j.isLt
  have ew : wt (rh (bk (flat a1) p r) g) (rt (bq (flat (qr a0 cs sn)) p) b g) (rc (bL (lg a0 a1 cs sn mx) p) g b) i j
      = Real.exp ((∑ c, qr a0 cs sn (row b i) (hd p g) c * a1 (row r j) (hd p g) c) * (Real.sqrt 96)⁻¹ - lg a0 a1 cs sn mx (hd p g) (row b i)) := by
    unfold wt
    simp only [rt_bq _ p b g hp hg, rh_bk _ p r g hp hg, rc_bL _ p b g hg]
    rw [dot_px (by decide)]
  unfold wb
  by_cases h : b = r
  · rw [if_pos h]
    unfold wm
    by_cases hij : j.val ≤ i.val
    · rw [if_pos hij, ew]
      exact weight a0 a1 cs sn mx _ _ _ (by rw [Fin.le_def]; show (512 * r + j.val) % 4096 ≤ (512 * b + i.val) % 4096; omega)
    · rw [if_neg hij]
      exact (yy_zero a0 a1 cs sn mx _ _ _ (by show (512 * b + i.val) % 4096 < (512 * r + j.val) % 4096; omega)).symm
  · rw [if_neg h, ew]
    exact weight a0 a1 cs sn mx _ _ _ (by rw [Fin.le_def]; show (512 * r + j.val) % 4096 ≤ (512 * b + i.val) % 4096; omega)

theorem gb_eq (p r b g : ℕ) (hp : p < 4) (hg : g < 2) (hr : r ≤ b) (hb : b < 8) (i j : Fin 512) :
    gb (bq (flat (qr a0 cs sn)) p) (bq (flat (co ct)) p) (bk (flat a1) p r) (bk (flat a2) p r) (bL (lg a0 a1 cs sn mx) p) (bL (dl a0 a1 a2 cs sn ct mx) p) r b g i j
      = gs a0 a1 a2 cs sn ct mx (hd p g) (row b i) (row r j) := by
  unfold gb gt gs dp
  rw [wb_eq a0 a1 cs sn mx p r b g hp hg hr hb]
  simp only [rt_bq _ p b g hp hg, rh_bk _ p r g hp hg, rc_bL _ p b g hg]
  rw [dot_px (by decide)]

/-- The value gradients of a key block. -/
theorem cv_sum (p r g : ℕ) (hp : p < 4) (hg : g < 2) (hr : r < 8) (j : Fin 512) (c : Fin 128) :
    ∑ n ∈ Finset.range (8 - r), cv (bq (flat (qr a0 cs sn)) p) (bq (flat (co ct)) p) (bk (flat a1) p r) (bL (lg a0 a1 cs sn mx) p) r (r + n) g j c
      = px (gv a0 a1 cs sn ct mx) (row r j) (hd p g) c := by
  have hj := j.isLt
  rw [← show ∑ I, yy a0 a1 cs sn mx (hd p g) I (row r j) * px (co ct) I (hd p g) c = px (gv a0 a1 cs sn ct mx) (row r j) (hd p g) c from ?_]
  · rw [← sum_from (fun I => yy a0 a1 cs sn mx (hd p g) I (row r j) * px (co ct) I (hd p g) c) r hr]
    · refine Finset.sum_congr rfl fun n hn => ?_
      rw [Finset.mem_range] at hn
      unfold cv tn
      refine Finset.sum_congr rfl fun i _ => ?_
      rw [wb_eq a0 a1 cs sn mx p r (r + n) g hp hg (by omega) (by omega), rt_bq _ p (r + n) g hp hg]
    · intro I hI
      show yy a0 a1 cs sn mx (hd p g) I (row r j) * _ = 0
      rw [yy_zero a0 a1 cs sn mx _ _ _ (by show I.val < (512 * r + j.val) % 4096; omega), zero_mul]
  · unfold px gv
    by_cases hc : c.val < 64
    · simp only [hc, ↓reduceDIte]
      exact Finset.sum_congr rfl fun I _ => mul_comm _ _
    · simp only [hc, ↓reduceDIte, mul_zero, Finset.sum_const_zero]

/-- The key gradients of a key block. -/
theorem ck_sum (p r g : ℕ) (hp : p < 4) (hg : g < 2) (hr : r < 8) (j : Fin 512) (c : Fin 128) :
    (∑ n ∈ Finset.range (8 - r), ck (bq (flat (qr a0 cs sn)) p) (bq (flat (co ct)) p) (bk (flat a1) p r) (bk (flat a2) p r) (bL (lg a0 a1 cs sn mx) p) (bL (dl a0 a1 a2 cs sn ct mx) p) r (r + n) g j c) * (Real.sqrt 96)⁻¹
      = px (gk a0 a1 a2 cs sn ct mx) (row r j) (hd p g) c := by
  have hj := j.isLt
  rw [← show (∑ I, gs a0 a1 a2 cs sn ct mx (hd p g) I (row r j) * px (qr a0 cs sn) I (hd p g) c) * (Real.sqrt 96)⁻¹ = px (gk a0 a1 a2 cs sn ct mx) (row r j) (hd p g) c from ?_]
  · rw [← sum_from (fun I => gs a0 a1 a2 cs sn ct mx (hd p g) I (row r j) * px (qr a0 cs sn) I (hd p g) c) r hr]
    · congr 1
      refine Finset.sum_congr rfl fun n hn => ?_
      rw [Finset.mem_range] at hn
      unfold ck tn
      refine Finset.sum_congr rfl fun i _ => ?_
      rw [gb_eq a0 a1 a2 cs sn ct mx p r (r + n) g hp hg (by omega) (by omega), rt_bq _ p (r + n) g hp hg]
    · intro I hI
      show gs a0 a1 a2 cs sn ct mx (hd p g) I (row r j) * _ = 0
      rw [gs_zero a0 a1 a2 cs sn ct mx _ _ _ (by show I.val < (512 * r + j.val) % 4096; omega), zero_mul]
  · unfold px gk
    by_cases hc : c.val < 96
    · simp only [hc, ↓reduceDIte]
      rw [Finset.sum_mul]
      exact Finset.sum_congr rfl fun I _ => by rw [div_eq_mul_inv]; ring
    · simp only [hc, ↓reduceDIte, mul_zero, Finset.sum_const_zero, zero_mul]

/-- What key block `r` adds to the gradients of the rotated queries. -/
def qa (p r : ℕ) (i : Fin 4096) (c : Fin 256) : ℝ :=
  (∑ j : Fin 512, gs a0 a1 a2 cs sn ct mx (hd p (c.val / 128)) i (row r j) * px a1 (row r j) (hd p (c.val / 128)) ⟨c.val % 128, Nat.mod_lt _ (by decide)⟩) * (Real.sqrt 96)⁻¹

/-- The running query gradients after key block `r`, from those before it. -/
theorem dq_step (p r : ℕ) (hp : p < 4) (hr : r < 8) (E : Fin 4096 → Fin 256 → ℝ) :
    dqr (bq (flat (qr a0 cs sn)) p) (bq (flat (co ct)) p) (bk (flat a1) p r) (bk (flat a2) p r) (bL (lg a0 a1 cs sn mx) p) (bL (dl a0 a1 a2 cs sn ct mx) p) E r 8
      = fun i c => E i c + qa a0 a1 a2 cs sn ct mx p r i c := by
  funext i c
  have hi := i.isLt
  have hc := c.isLt
  unfold dqr qa
  by_cases h : r ≤ i.val / 512 ∧ i.val / 512 < 8
  · rw [if_pos h]
    unfold cq nn
    congr 2
    refine Finset.sum_congr rfl fun j _ => ?_
    rw [gb_eq a0 a1 a2 cs sn ct mx p r (i.val / 512) (c.val / 128) hp (by omega) h.1 h.2, rh_bk _ p r (c.val / 128) hp (by omega)]
    rw [show row (i.val / 512) ⟨i.val % 512, Nat.mod_lt _ (by decide)⟩ = i from Fin.ext (by show (512 * (i.val / 512) + i.val % 512) % 4096 = i.val; omega)]
  · rw [if_neg h, Finset.sum_eq_zero, zero_mul, add_zero]
    intro j _
    have hj := j.isLt
    rw [gs_zero a0 a1 a2 cs sn ct mx _ _ _ (by show i.val < (512 * r + j.val) % 4096; omega), zero_mul]

/-- All the key blocks together. -/
theorem dq_sum (p : ℕ) (i : Fin 4096) (c : Fin 256) :
    ∑ r ∈ Finset.range 8, qa a0 a1 a2 cs sn ct mx p r i c
      = px (gr a0 a1 a2 cs sn ct mx) i (hd p (c.val / 128)) ⟨c.val % 128, Nat.mod_lt _ (by decide)⟩ := by
  unfold qa
  rw [← Finset.sum_mul, sum_rows fun J => gs a0 a1 a2 cs sn ct mx (hd p (c.val / 128)) i J * px a1 J (hd p (c.val / 128)) ⟨c.val % 128, Nat.mod_lt _ (by decide)⟩]
  unfold px gr
  by_cases hc : c.val % 128 < 96
  · simp only [hc, ↓reduceDIte]
    rw [Finset.sum_mul]
    exact Finset.sum_congr rfl fun I _ => by rw [div_eq_mul_inv]; ring
  · simp only [hc, ↓reduceDIte, mul_zero, Finset.sum_const_zero, zero_mul]

/-- The row products from the outputs. -/
theorem delta_eq (p : ℕ) (hp : p < 4) :
    (fun (g : Fin 2) (i : Fin 4096) => ∑ c : Fin 128, rt (bq (flat (co ct)) p) (i.val / 512) g.val ⟨i.val % 512, Nat.mod_lt _ (by decide)⟩ c * rt (bq (flat (oo a0 a1 a2 cs sn mx)) p) (i.val / 512) g.val ⟨i.val % 512, Nat.mod_lt _ (by decide)⟩ c)
      = bL (dl a0 a1 a2 cs sn ct mx) p := by
  funext g i
  have hi := i.isLt
  simp only [rt_bq _ p (i.val / 512) g.val hp g.isLt]
  rw [dot_px (by decide), show row (i.val / 512) ⟨i.val % 512, Nat.mod_lt _ (by decide)⟩ = i from Fin.ext (by show (512 * (i.val / 512) + i.val % 512) % 4096 = i.val; omega)]
  unfold bL dl dp oo
  simp only [Finset.mul_sum]
  rw [Finset.sum_comm]
  exact Finset.sum_congr rfl fun j _ => Finset.sum_congr rfl fun e _ => by ring

/-- The query gradients turned back. -/
theorem turn_eq (p : ℕ) (hp : p < 4) (D : Fin 4096 → Fin 256 → ℝ)
    (hD : ∀ i c, D i c = px (gr a0 a1 a2 cs sn ct mx) i (hd p (c.val / 128)) ⟨c.val % 128, Nat.mod_lt _ (by decide)⟩)
    (T S : Fin 4096 → Fin 128 → ℝ)
    (hT : ∀ i d, T i d = if 64 ≤ d.val ∧ d.val < 96 then cs i ⟨d.val % 16, Nat.mod_lt _ (by decide)⟩ else 0)
    (hS : ∀ i d, S i d = if 64 ≤ d.val ∧ d.val < 96 then sn i ⟨d.val % 16, Nat.mod_lt _ (by decide)⟩ else 0) (i : Fin 4096) (c : Fin 256) :
    tb (rr S (i.val / 512)) (rr T (i.val / 512)) (rt D (i.val / 512) (c.val / 128)) ⟨i.val % 512, Nat.mod_lt _ (by decide)⟩ ⟨c.val % 128, Nat.mod_lt _ (by decide)⟩
      = px (gq a0 a1 a2 cs sn ct mx) i (hd p (c.val / 128)) ⟨c.val % 128, Nat.mod_lt _ (by decide)⟩ := by
  have hi := i.isLt
  have hc := c.isLt
  have eI : (⟨(512 * (i.val / 512) + i.val % 512) % 4096, Nat.mod_lt _ (by decide)⟩ : Fin 4096) = i := Fin.ext (by show (512 * (i.val / 512) + i.val % 512) % 4096 = i.val; omega)
  have eD : ∀ d : Fin 128, rt D (i.val / 512) (c.val / 128) ⟨i.val % 512, Nat.mod_lt _ (by decide)⟩ d = px (gr a0 a1 a2 cs sn ct mx) i (hd p (c.val / 128)) d := by
    intro d
    have hd' := d.isLt
    unfold rt
    rw [eI, hD]
    have e1 : (128 * (c.val / 128) + d.val) % 256 / 128 = c.val / 128 := by omega
    have e2 : (128 * (c.val / 128) + d.val) % 256 % 128 = d.val := by omega
    simp only [e1, e2]
  have eT : ∀ d : Fin 128, rr T (i.val / 512) ⟨i.val % 512, Nat.mod_lt _ (by decide)⟩ d = T i d := by
    intro d; unfold rr; rw [eI]
  have eS : ∀ d : Fin 128, rr S (i.val / 512) ⟨i.val % 512, Nat.mod_lt _ (by decide)⟩ d = S i d := by
    intro d; unfold rr; rw [eI]
  generalize (⟨c.val % 128, Nat.mod_lt _ (by decide)⟩ : Fin 128) = d
  obtain ⟨k, hk'⟩ := d
  unfold tb
  simp only [eD, eT, eS, hT, hS]
  unfold px gq
  by_cases h96 : k < 96
  · by_cases h64 : k < 64
    · have g1 : ¬ 64 ≤ k := by omega
      have g3 : ¬ 80 ≤ k := by omega
      simp only [h96, h64, g1, g3, false_and, ↓reduceDIte, ↓reduceIte, zero_add, mul_one, sub_zero]
    · by_cases h80 : k < 80
      · have g1 : 64 ≤ k := by omega
        have g3 : ¬ 80 ≤ k := by omega
        have e1 : (k + 16) % 128 = k + 16 := by omega
        have g4 : k + 16 < 96 := by omega
        have g5 : 64 ≤ k + 16 := by omega
        have e2 : (k + 16) % 16 = k % 16 := by omega
        simp only [h96, h64, h80, g1, g3, e1, g4, g5, e2, and_self, ↓reduceDIte, ↓reduceIte, add_zero]
        rw [show mate ⟨k, h96⟩ = ⟨k + 16, g4⟩ from Fin.ext (by unfold mate; simp only [h80, ↓reduceIte]; try omega)]
        unfold lane
        ring
      · have g1 : 64 ≤ k := by omega
        have g3 : 80 ≤ k := by omega
        have e1 : (k + 112) % 128 = k - 16 := by omega
        have g4 : k - 16 < 96 := by omega
        have g5 : 64 ≤ k - 16 := by omega
        have e2 : (k - 16) % 16 = k % 16 := by omega
        simp only [h96, h64, h80, g1, g3, e1, g4, g5, e2, and_self, and_false, ↓reduceDIte, ↓reduceIte, add_zero]
        rw [show mate ⟨k, h96⟩ = ⟨k - 16, g4⟩ from Fin.ext (by unfold mate; simp only [h80, ↓reduceIte]; try omega)]
        unfold lane
        ring
  · have g3 : ¬ k < 80 := by omega
    simp only [h96, g3, and_false, ↓reduceDIte, ↓reduceIte, zero_mul, sub_zero]

end att

end Cert.KernelIdeal.Att

end
-- ==== Proof.Grid.lean ====
/- The whole grid on real arguments: the blocks the windows read, the state after every point, and the arrays the program leaves. -/
module

public import proofs.«01_k».proof.Proof.Host
public import proofs.«01_k».proof.Proof.Sums
public import Idealize.ShloMosaic.Lib.Pipeline.ValueKit.Geometry

@[expose] public section

set_option maxRecDepth 16384

noncomputable section

namespace Cert.KernelIdeal.Att

open Cert.KernelIdeal.Gen Idealize.ShloMosaic Idealize.ShloMosaic.TcCoe Cert.Model

variable (m : (ℓ : Loc nD τ sig) → Buf (Elt Ideal) ℓ) (c : Dev nD)
  (a0 a1 : Fin 4096 → Fin 8 → Fin 96 → ℝ) (a2 : Fin 4096 → Fin 8 → Fin 64 → ℝ) (cs sn : Fin 4096 → Fin 16 → ℝ) (ct : Fin 4096 → Fin 512 → ℝ)
  (mx : Fin 8 → Fin 4096 → ℝ)

/-- The arguments on the device are real arrays, and `mx` is the greatest score of every row. -/
structure Reals : Prop where
  h0 : m (c, Proc.devRef .tc main_arg0) = t3 a0
  h1 : m (c, Proc.devRef .tc main_arg1) = t3 a1
  h2 : m (c, Proc.devRef .tc main_arg2) = t3 a2
  h3 : m (c, Proc.devRef .tc main_arg3) = t2 cs
  h4 : m (c, Proc.devRef .tc main_arg4) = t2 sn
  h5 : m (c, Proc.devRef .tc main_arg5) = t2 ct
  hmx : ReferenceIdeal.Read.val_main_v29 (F := Ideal) (t3 a0) (t3 a1) (t2 cs) (t2 sn) = t2 mx

variable {m c a0 a1 a2 cs sn ct mx} (H : Reals m c a0 a1 a2 cs sn ct mx)
include H

theorem real_q : V m c main_v44 = t2 (flat (qr a0 cs sn)) := by
  rw [V_q, H.h0, H.h3, H.h4, ReferenceIdeal.Att.v17_real]; exact flat_pad96 _
theorem real_k : V m c main_v47 = t2 (flat a1) := by
  rw [V_k, H.h1]; exact flat_pad96 _
theorem real_v : V m c main_v50 = t2 (flat a2) := by
  rw [V_v, H.h2]; exact flat_pad64 _
theorem real_do : V m c main_v54 = t2 (flat (co ct)) := by
  rw [V_do, H.h5, heads_real ct]; exact flat_pad64 _
theorem real_o : V m c main_v57 = t2 (flat (oo a0 a1 a2 cs sn mx)) := by
  rw [V_o, H.h0, H.h1, H.h2, H.h3, H.h4, hostO_real a0 a1 a2 cs sn mx H.hmx]; exact flat_pad64 _
theorem real_lse : V m c main_v37 = t3 (fun h i (_ : Fin 1) => lg a0 a1 cs sn mx h i) := by
  rw [V_lse, H.h0, H.h1, H.h3, H.h4]; exact lse_real a0 a1 cs sn mx H.hmx
theorem real_cos : V m c main_v59 = t2 (table cs) := by
  rw [V_cos, H.h3]; exact table_real _
theorem real_sin : V m c main_v61 = t2 (table sn) := by
  rw [V_sin, H.h4]; exact table_real _
omit H

theorem at0 : ∀ t : Fin cfg0.N, win0_0.index t = ![0, t.val / 8] := (by decide +kernel : ∀ t : Fin grid0.N, _)
theorem at1 : ∀ t : Fin cfg0.N, win0_1.index t = ![t.val % 8, t.val / 8] := (by decide +kernel : ∀ t : Fin grid0.N, _)
theorem at2 : ∀ t : Fin cfg0.N, win0_2.index t = ![t.val % 8, t.val / 8] := (by decide +kernel : ∀ t : Fin grid0.N, _)
theorem at3 : ∀ t : Fin cfg0.N, win0_3.index t = ![0, t.val / 8] := (by decide +kernel : ∀ t : Fin grid0.N, _)
theorem at4 : ∀ t : Fin cfg0.N, win0_4.index t = ![0, t.val / 8] := (by decide +kernel : ∀ t : Fin grid0.N, _)
theorem at5 : ∀ t : Fin cfg0.N, win0_5.index t = ![t.val / 8, 0, 0] := (by decide +kernel : ∀ t : Fin grid0.N, _)
theorem at6 : ∀ t : Fin cfg0.N, win0_6.index t = ![0, 0] := (by decide +kernel : ∀ t : Fin grid0.N, _)
theorem at7 : ∀ t : Fin cfg0.N, win0_7.index t = ![0, 0] := (by decide +kernel : ∀ t : Fin grid0.N, _)
theorem at8 : ∀ t : Fin cfg0.N, win0_8.index t = ![0, t.val / 8] := (by decide +kernel : ∀ t : Fin grid0.N, _)
theorem at9 : ∀ t : Fin cfg0.N, win0_9.index t = ![t.val % 8, t.val / 8] := (by decide +kernel : ∀ t : Fin grid0.N, _)
theorem at10 : ∀ t : Fin cfg0.N, win0_10.index t = ![t.val % 8, t.val / 8] := (by decide +kernel : ∀ t : Fin grid0.N, _)
theorem at11 : ∀ t : Fin cfg0.N, win0_11.index t = ![t.val / 8, t.val % 8, 0] := (by decide +kernel : ∀ t : Fin grid0.N, _)

/-- Real arrays at indices of equal numbers. -/
theorem t2_eq {a b : ℕ} (f : Fin a → Fin b → ℝ) (i i' : Fin a) (k k' : Fin b) (hi : i.val = i'.val) (hk : k.val = k'.val) : ((f i k : ℝ) : EReal) = ((f i' k' : ℝ) : EReal) := by
  rw [Fin.ext hi, Fin.ext hk]

theorem points (t : Fin cfg0.N) : t.val < 32 := by have := t.isLt; have e : cfg0.N = 32 := N_0; omega

include H
theorem in0 (t : Fin cfg0.N) : iblk m c 0 t = tl (bq (flat (qr a0 cs sn)) (t.val / 8)) := by
  funext j
  have ht := points t
  have hj : (j 1).val < 256 := (j 1).isLt
  blk_simp [iblk, real_q H]
  refine t2_eq (flat (qr a0 cs sn)) _ (j 0) _ ⟨(256 * (t.val / 8) + (j 1).val) % 1024, Nat.mod_lt _ (by decide)⟩ ?_ ?_
  · blk_simp [at0]
  · blk_simp [at0]
    show t.val / 8 * 256 + (j 1).val = (256 * (t.val / 8) + (j 1).val) % 1024
    omega
theorem in1 (t : Fin cfg0.N) : iblk m c 1 t = tl (bk (flat a1) (t.val / 8) (t.val % 8)) := by
  funext j
  have ht := points t
  have hj0 : (j 0).val < 512 := (j 0).isLt
  have hj : (j 1).val < 256 := (j 1).isLt
  blk_simp [iblk, real_k H]
  refine t2_eq (flat a1) _ (row (t.val % 8) (j 0)) _ ⟨(256 * (t.val / 8) + (j 1).val) % 1024, Nat.mod_lt _ (by decide)⟩ ?_ ?_
  · blk_simp [at1]
    show t.val % 8 * 512 + (j 0).val = (512 * (t.val % 8) + (j 0).val) % 4096
    omega
  · blk_simp [at1]
    show t.val / 8 * 256 + (j 1).val = (256 * (t.val / 8) + (j 1).val) % 1024
    omega
theorem in2 (t : Fin cfg0.N) : iblk m c 2 t = tl (bk (flat a2) (t.val / 8) (t.val % 8)) := by
  funext j
  have ht := points t
  have hj0 : (j 0).val < 512 := (j 0).isLt
  have hj : (j 1).val < 256 := (j 1).isLt
  blk_simp [iblk, real_v H]
  refine t2_eq (flat a2) _ (row (t.val % 8) (j 0)) _ ⟨(256 * (t.val / 8) + (j 1).val) % 1024, Nat.mod_lt _ (by decide)⟩ ?_ ?_
  · blk_simp [at2]
    show t.val % 8 * 512 + (j 0).val = (512 * (t.val % 8) + (j 0).val) % 4096
    omega
  · blk_simp [at2]
    show t.val / 8 * 256 + (j 1).val = (256 * (t.val / 8) + (j 1).val) % 1024
    omega
theorem in3 (t : Fin cfg0.N) : iblk m c 3 t = tl (bq (flat (co ct)) (t.val / 8)) := by
  funext j
  have ht := points t
  have hj : (j 1).val < 256 := (j 1).isLt
  blk_simp [iblk, real_do H]
  refine t2_eq (flat (co ct)) _ (j 0) _ ⟨(256 * (t.val / 8) + (j 1).val) % 1024, Nat.mod_lt _ (by decide)⟩ ?_ ?_
  · blk_simp [at3]
  · blk_simp [at3]
    show t.val / 8 * 256 + (j 1).val = (256 * (t.val / 8) + (j 1).val) % 1024
    omega
theorem in4 (t : Fin cfg0.N) : iblk m c 4 t = tl (bq (flat (oo a0 a1 a2 cs sn mx)) (t.val / 8)) := by
  funext j
  have ht := points t
  have hj : (j 1).val < 256 := (j 1).isLt
  blk_simp [iblk, real_o H]
  refine t2_eq (flat (oo a0 a1 a2 cs sn mx)) _ (j 0) _ ⟨(256 * (t.val / 8) + (j 1).val) % 1024, Nat.mod_lt _ (by decide)⟩ ?_ ?_
  · blk_simp [at4]
  · blk_simp [at4]
    show t.val / 8 * 256 + (j 1).val = (256 * (t.val / 8) + (j 1).val) % 1024
    omega
omit H in
theorem read5 (t : Fin cfg0.N) (G : S8x4096x1.Idx → EReal) (j : (win0_5.xblock (cfg0.grid.coords t)).Idx) : ((cfg0.win 5).blk t).view.read (Elt Ideal) G j = G ((win0_5.blk t).view.emb j) := rfl
omit H in
theorem arr5 (G : S8x4096x1.Idx → EReal) (hG : V m c main_v37 = G) : V m c (Pipeline.arrRef spec0 5) = G := hG
omit H in
theorem blk5 (t : Fin cfg0.N) (G : S8x4096x1.Idx → EReal) (hG : V m c main_v37 = G) : iblk m c 5 t = ((cfg0.win 5).blk t).view.read (Elt Ideal) G := by
  unfold iblk
  rw [arr5 G hG]
omit H in
theorem fin5 (t : Fin cfg0.N) (f : Fin 8 → Fin 4096 → ℝ) (j : (win0_5.xblock (cfg0.grid.coords t)).Idx) : (t3 (fun h i (_ : Fin 1) => f h i) : S8x4096x1.Idx → EReal) ((win0_5.blk t).view.emb j) = cl2 (bL f (t.val / 8)) j := by
  have ht := points t
  have hj0 : (j 0).val < 2 := (j 0).isLt
  refine t2_eq f _ (hd (t.val / 8) (j 0).val) _ (j 1) ?_ ?_
  · blk_simp [at5]
    show t.val / 8 * 2 + (j 0).val = (2 * (t.val / 8) + (j 0).val) % 8
    omega
  · blk_simp [at5]
theorem in5 (t : Fin cfg0.N) : iblk m c 5 t = cl2 (bL (lg a0 a1 cs sn mx) (t.val / 8)) := by
  rw [blk5 t _ (real_lse H)]
  funext j
  exact (read5 t _ j).trans (fin5 t _ j)
theorem in6 (t : Fin cfg0.N) : iblk m c 6 t = tl (table cs) := by
  funext j
  blk_simp [iblk, real_cos H]
  refine t2_eq (table cs) _ (j 0) _ (j 1) ?_ ?_
  · blk_simp [at6]
  · blk_simp [at6]
theorem in7 (t : Fin cfg0.N) : iblk m c 7 t = tl (table sn) := by
  funext j
  blk_simp [iblk, real_sin H]
  refine t2_eq (table sn) _ (j 0) _ (j 1) ?_ ?_
  · blk_simp [at7]
  · blk_simp [at7]

/-- What a point makes of the state before it. -/
theorem next_eq (t : Fin cfg0.N) (s : Vec Ideal S4096x256 .f32 × Vec Ideal S2x4096x1 .f32) (E : Fin 4096 → Fin 256 → ℝ)
    (h1 : s.1 = tl E) (h2 : t.val % 8 ≠ 0 → s.2 = cl2 (bL (dl a0 a1 a2 cs sn ct mx) (t.val / 8))) (hE : t.val % 8 = 0 → E = fun _ _ => 0) :
    nextState m c t s = (tl (fun i k => E i k + qa a0 a1 a2 cs sn ct mx (t.val / 8) (t.val % 8) i k), cl2 (bL (dl a0 a1 a2 cs sn ct mx) (t.val / 8))) := by
  have ht := points t
  have ed : dlAt (F := Ideal) (grid0.coords t) (iblk m c 3 t) (iblk m c 4 t) s.2 = cl2 (bL (dl a0 a1 a2 cs sn ct mx) (t.val / 8)) := by
    unfold dlAt
    by_cases h : t.val % 8 = 0
    · rw [if_pos ((first_block t).mpr h), in3 H, in4 H, delta_tl, delta_eq a0 a1 a2 cs sn ct mx (t.val / 8) (by omega)]
    · rw [if_neg (fun h' => h ((first_block t).mp h')), h2 h]
  have ee : (if k0_cond1 (grid0.coords t) = 1#1 then k0_pay23 (F := Ideal) else s.1 : FVec Ideal S4096x256 .f32) = (tl E : FVec Ideal S4096x256 .f32) := by
    by_cases h : t.val % 8 = 0
    · rw [if_pos ((first_block t).mpr h), pay23_tl, hE h]
    · rw [if_neg (fun h' => h ((first_block t).mp h')), h1]
  unfold nextState dqAt
  rw [ed, ee, key_block, in0 H, in1 H, in2 H, in3 H, in5 H, dqNext_tl _ _ _ _ _ _ _ _ (by omega),
    dq_step a0 a1 a2 cs sn ct mx (t.val / 8) (t.val % 8) (by omega) (by omega)]

/-- The state after every point. -/
theorem state_eq (n : ℕ) (hn : n < cfg0.N) :
    state m c n hn = (tl (fun i k => ∑ r ∈ Finset.range (n % 8 + 1), qa a0 a1 a2 cs sn ct mx (n / 8) r i k), cl2 (bL (dl a0 a1 a2 cs sn ct mx) (n / 8))) := by
  induction n with
  | zero =>
    rw [state_first m c ⟨0, hn⟩ rfl (tl (fun _ _ => 0), cl2 (fun _ _ => 0)),
      next_eq H ⟨0, hn⟩ _ (fun _ _ => 0) rfl (fun h => absurd rfl h) (fun _ => rfl)]
    simp
  | succ n ih =>
    by_cases h : (n + 1) % 8 = 0
    · rw [state_first m c ⟨n + 1, hn⟩ h (tl (fun _ _ => 0), cl2 (fun _ _ => 0)),
        next_eq H ⟨n + 1, hn⟩ _ (fun _ _ => 0) rfl (fun h' => absurd h h') (fun _ => rfl)]
      simp [h]
    · have e := ih (by omega)
      show nextState m c ⟨n + 1, hn⟩ (state m c n _) = _
      rw [next_eq H ⟨n + 1, hn⟩ _ (fun i k => ∑ r ∈ Finset.range (n % 8 + 1), qa a0 a1 a2 cs sn ct mx (n / 8) r i k)
          (congrArg Prod.fst e) (fun _ => (congrArg Prod.snd e).trans (by rw [show n / 8 = (n + 1) / 8 by omega])) (fun h' => absurd h' h)]
      have e1 : (n + 1) % 8 = n % 8 + 1 := by omega
      have e2 : (n + 1) / 8 = n / 8 := by omega
      simp only [e1, e2, Finset.sum_range_succ]

theorem dq_block (t : Fin cfg0.N) (h : t.val % 8 = 7) :
    dqBlock m c t = tl (fun i k => px (gq a0 a1 a2 cs sn ct mx) i (hd (t.val / 8) (k.val / 128)) ⟨k.val % 128, Nat.mod_lt _ (by decide)⟩) := by
  have ht := points t
  unfold dqBlock
  rw [state_eq H, in6 H, in7 H, turned_tl]
  congr 1
  funext i k
  refine turn_eq a0 a1 a2 cs sn ct mx (t.val / 8) (by omega) _ (fun i k => ?_) _ _ (fun _ _ => rfl) (fun _ _ => rfl) i k
  rw [h]
  exact dq_sum a0 a1 a2 cs sn ct mx (t.val / 8) i k

theorem dk_block (t : Fin cfg0.N) :
    dkBlock m c t = tl (fun j k => px (gk a0 a1 a2 cs sn ct mx) (row (t.val % 8) j) (hd (t.val / 8) (k.val / 128)) ⟨k.val % 128, Nat.mod_lt _ (by decide)⟩) := by
  have ht := points t
  unfold dkBlock
  rw [state_eq H, key_block, in0 H, in1 H, in2 H, in3 H, in5 H, dkOut_tl _ _ _ _ _ _ _ (by omega)]
  congr 1
  funext j k
  have hk := k.isLt
  exact ck_sum a0 a1 a2 cs sn ct mx (t.val / 8) (t.val % 8) (k.val / 128) (by omega) (by omega) (by omega) j _

theorem dv_block (t : Fin cfg0.N) :
    dvBlock m c t = tl (fun j k => px (gv a0 a1 cs sn ct mx) (row (t.val % 8) j) (hd (t.val / 8) (k.val / 128)) ⟨k.val % 128, Nat.mod_lt _ (by decide)⟩) := by
  have ht := points t
  unfold dvBlock
  rw [state_eq H, key_block, in0 H, in1 H, in2 H, in3 H, in5 H, dvOut_tl _ _ _ _ _ _ _ (by omega)]
  congr 1
  funext j k
  have hk := k.isLt
  exact cv_sum a0 a1 cs sn ct mx (t.val / 8) (t.val % 8) (k.val / 128) (by omega) (by omega) (by omega) j _

theorem dks_block (t : Fin cfg0.N) (j : Fin 512) (k : Fin 128) :
    dksBlock m c t (ix3 0 j k) = ((px (gk a0 a1 a2 cs sn ct mx) (row (t.val % 8) j) (hd (t.val / 8) 0) k + px (gk a0 a1 a2 cs sn ct mx) (row (t.val % 8) j) (hd (t.val / 8) 1) k : ℝ) : EReal) := by
  have ht := points t
  unfold dksBlock
  rw [state_eq H, key_block, in0 H, in1 H, in2 H, in3 H, in5 H, dksOut_tl _ _ _ _ _ _ _ (by omega),
    ck_sum a0 a1 a2 cs sn ct mx (t.val / 8) (t.val % 8) 0 (by omega) (by omega) (by omega) j k,
    ck_sum a0 a1 a2 cs sn ct mx (t.val / 8) (t.val % 8) 1 (by omega) (by omega) (by omega) j k]

omit H in
/-- The lanes side by side, by head and lane. -/
theorem flat_px {n : ℕ} (f : Fin 4096 → Fin 8 → Fin n → ℝ) (p : ℕ) (hp : p < 4) (i i' : Fin 4096) (k : Fin 256) (C : Fin 1024) (hi : i.val = i'.val) (hC : C.val = p * 256 + k.val) :
    ((px f i (hd p (k.val / 128)) ⟨k.val % 128, Nat.mod_lt _ (by decide)⟩ : ℝ) : EReal) = ((flat f i' C : ℝ) : EReal) := by
  have hk := k.isLt
  obtain rfl := Fin.ext hi
  have e1 : C.val % 128 = k.val % 128 := by omega
  have e2 : C.val / 128 = (2 * p + k.val / 128) % 8 := by omega
  unfold flat px hd
  simp only [e1, e2]

/-- The query gradients after the run. -/
theorem out8 : (dats m 0 c).arrAt 8 cfg0.N = t2 (flat (gq a0 a1 a2 cs sn ct mx)) := by
  refine (dats m 0 c).arrAt_eq_of_covers 8 _ (by decide +kernel) fun t hf y => ?_
  have ht := points t
  have h7 := (flush0_8 t).mp hf
  blk_simp
  rw [after8, dq_block H t h7]
  refine flat_px (gq a0 a1 a2 cs sn ct mx) (t.val / 8) (by omega) (y 0) _ (y 1) _ ?_ ?_
  · blk_simp [at8]
  · blk_simp [at8]

/-- The key gradients after the run. -/
theorem out9 : (dats m 0 c).arrAt 9 cfg0.N = t2 (flat (gk a0 a1 a2 cs sn ct mx)) := by
  refine (dats m 0 c).arrAt_eq_of_covers 9 _ (by decide +kernel) fun t hf y => ?_
  have ht := points t
  have hy : (y 0).val < 512 := (y 0).isLt
  blk_simp
  rw [after9, dk_block H t]
  refine flat_px (gk a0 a1 a2 cs sn ct mx) (t.val / 8) (by omega) (row (t.val % 8) (y 0)) _ (y 1) _ ?_ ?_
  · blk_simp [at9]
    show (512 * (t.val % 8) + (y 0).val) % 4096 = t.val % 8 * 512 + (y 0).val
    omega
  · blk_simp [at9]

/-- The value gradients after the run. -/
theorem out10 : (dats m 0 c).arrAt 10 cfg0.N = t2 (flat (gv a0 a1 cs sn ct mx)) := by
  refine (dats m 0 c).arrAt_eq_of_covers 10 _ (by decide +kernel) fun t hf y => ?_
  have ht := points t
  have hy : (y 0).val < 512 := (y 0).isLt
  blk_simp
  rw [after10, dv_block H t]
  refine flat_px (gv a0 a1 cs sn ct mx) (t.val / 8) (by omega) (row (t.val % 8) (y 0)) _ (y 1) _ ?_ ?_
  · blk_simp [at10]
    show (512 * (t.val % 8) + (y 0).val) % 4096 = t.val % 8 * 512 + (y 0).val
    omega
  · blk_simp [at10]

omit H in
/-- The sums over a pair at equal indices. -/
theorem pairs_px (f : Fin 4096 → Fin 8 → Fin 96 → ℝ) (p : ℕ) (hp : p < 4) (i i' : Fin 4096) (P : Fin 4) (k k' : Fin 128) (hP : P.val = p) (hi : i'.val = i.val) (hk : k'.val = k.val) :
    ((px f i (hd p 0) k + px f i (hd p 1) k : ℝ) : EReal) = ((pairs f P i' k' : ℝ) : EReal) := by
  obtain rfl := Fin.ext hi
  obtain rfl := Fin.ext hk
  have e1 : (2 * P.val + 0) % 8 = 2 * P.val := by omega
  have e2 : (2 * P.val + 1) % 8 = 2 * P.val + 1 := by omega
  subst hP
  unfold pairs px hd
  by_cases h : k'.val < 96
  · simp only [h, ↓reduceDIte, e1, e2]
  · simp only [h, ↓reduceDIte, add_zero]

/-- The key gradients summed over the pairs after the run. -/
theorem out11 : (dats m 0 c).arrAt 11 cfg0.N = t3 (pairs (gk a0 a1 a2 cs sn ct mx)) := by
  refine (dats m 0 c).arrAt_eq_of_covers 11 _ (by decide +kernel) fun t hf y => ?_
  have ht := points t
  have hy0 : (y 0).val < 1 := (y 0).isLt
  have hy : (y 1).val < 512 := (y 1).isLt
  have ey : y = ix3 (0 : Fin 1) (y 1 : Fin 512) (y 2 : Fin 128) := by
    funext a
    fin_cases a
    · exact Fin.ext (by show (y 0).val = 0; omega)
    · rfl
    · rfl
  blk_simp
  rw [after11]
  refine ((congrArg (dksBlock m c t) ey).trans (dks_block H t (y 1) (y 2))).trans ?_
  refine pairs_px (gk a0 a1 a2 cs sn ct mx) (t.val / 8) (by omega) (row (t.val % 8) (y 1)) _ _ (y 2) _ ?_ ?_ ?_
  · blk_simp [at11]
  · blk_simp [at11]
    show t.val % 8 * 512 + (y 1).val = (512 * (t.val % 8) + (y 1).val) % 4096
    omega
  · blk_simp [at11]

end Cert.KernelIdeal.Att

end
-- ==== Proof.Value.lean ====
/- On finite arguments the kernel leaves what the reference leaves. -/
module

public import proofs.«01_k».proof.Defs
public import proofs.«01_k».proof.Proof.Grid
public import proofs.«01_k».proof.Proof.Gen.ReferenceIdeal
public import proofs.«01_k».proof.Proof.Gen.ReferenceIdeal.Run

@[expose] public section

set_option maxRecDepth 16384

noncomputable section

namespace Cert.Proof

open Idealize.ShloMosaic Idealize.ShloMosaic.TcCoe Idealize.ShloMosaic.StableHlo Idealize.SL.Sem Cert.Model

/-- The facts the precondition states. -/
theorem finite_facts : Cert.Pre_finite.Facts :=
  ⟨by decide, by decide, by decide, by decide⟩

/-- A value below infinity in magnitude is a real number. -/
theorem real_of {s : Shape} (hb : (⟨0, ![]⟩ : Shape).BroadcastsInDim s ![]) (x : FVec Ideal s .f32)
    (h : cmpf .olt (Host.absf x) (broadcastInDim s ![] hb (constant ⟨0, ![]⟩ .f32 0x7F800000#32)) = fun _ => 1#1) (z : s.Idx) :
    (((x z : EReal).toReal : ℝ) : EReal) = x z := by
  have e : Ideal.cmp .olt (max (x z : EReal) (-(x z : EReal))) (Ideal.ofBits .f32 0x7F800000#32) = 1#1 := congrFun h z
  have htop : Ideal.ofBits .f32 0x7F800000#32 = ⊤ := by simp [Ideal.ofBits, Ideal.ieee]
  rw [htop] at e
  have hlt : max (x z : EReal) (-(x z : EReal)) < ⊤ := by
    by_contra hn
    unfold Ideal.cmp at e
    simp [hn] at e
  refine EReal.coe_toReal (fun ht => ?_) (fun hbot => ?_)
  · rw [ht] at hlt; simp at hlt
  · rw [hbot] at hlt; simp at hlt

theorem real3 {a b d : ℕ} (hb : (⟨0, ![]⟩ : Shape).BroadcastsInDim ⟨3, ![a, b, d]⟩ ![]) (x : FVec Ideal ⟨3, ![a, b, d]⟩ .f32)
    (h : cmpf .olt (Host.absf x) (broadcastInDim _ ![] hb (constant ⟨0, ![]⟩ .f32 0x7F800000#32)) = fun _ => 1#1) :
    x = t3 (fun i j k => (x (ix3 i j k) : EReal).toReal) := by
  funext z
  have ez : z = ix3 (z 0) (z 1) (z 2) := by funext k; fin_cases k <;> rfl
  exact (congrArg x ez).trans (real_of hb x h _).symm

theorem real2 {a b : ℕ} (hb : (⟨0, ![]⟩ : Shape).BroadcastsInDim ⟨2, ![a, b]⟩ ![]) (x : FVec Ideal ⟨2, ![a, b]⟩ .f32)
    (h : cmpf .olt (Host.absf x) (broadcastInDim _ ![] hb (constant ⟨0, ![]⟩ .f32 0x7F800000#32)) = fun _ => 1#1) :
    x = t2 (fun i j => (x (ix2 i j) : EReal).toReal) := by
  funext z
  have ez : z = ix2 (z 0) (z 1) := by funext k; fin_cases k <;> rfl
  exact (congrArg x ez).trans (real_of hb x h _).symm

/-- Finite arguments are real arrays. -/
theorem reals_of (m : (ℓ : Loc Cert.KernelIdeal.nD Cert.KernelIdeal.τ Cert.KernelIdeal.sig) → Buf (Elt Ideal) ℓ)
    (h : Cert.Pre_KernelIdeal_finite (hPre_finite := finite_facts) m) (c : Dev Cert.KernelIdeal.nD) :
    ∃ a0 a1 a2 cs sn ct mx, Cert.KernelIdeal.Att.Reals m c a0 a1 a2 cs sn ct mx := by
  obtain ⟨h0, h1, h2, h3, h4, h5⟩ := h c
  obtain ⟨mx, hmx⟩ := Cert.ReferenceIdeal.Att.row_max _ _ _ _
  exact ⟨_, _, _, _, _, _, mx, real3 _ _ h0, real3 _ _ h1, real3 _ _ h2, real2 _ _ h3, real2 _ _ h4, real2 _ _ h5, hmx⟩

section ref
open Cert.ReferenceIdeal Cert.ReferenceIdeal.Read
variable (V0 : Valuation τ sig (Elt Ideal)) (a0 a1 : Fin 4096 → Fin 8 → Fin 96 → ℝ) (a2 : Fin 4096 → Fin 8 → Fin 64 → ℝ) (cs sn : Fin 4096 → Fin 16 → ℝ) (ct : Fin 4096 → Fin 512 → ℝ)
  (mx : Fin 8 → Fin 4096 → ℝ) (h0 : V0 (Proc.devRef .tc main_arg0) = t3 a0) (h1 : V0 (Proc.devRef .tc main_arg1) = t3 a1) (h2 : V0 (Proc.devRef .tc main_arg2) = t3 a2)
  (h3 : V0 (Proc.devRef .tc main_arg3) = t2 cs) (h4 : V0 (Proc.devRef .tc main_arg4) = t2 sn) (h5 : V0 (Proc.devRef .tc main_arg5) = t2 ct)
  (hmx : val_main_v29 (F := Ideal) (t3 a0) (t3 a1) (t2 cs) (t2 sn) = t2 mx)
include h0 h1 h2 h3 h4 h5 hmx

theorem ref110 : val_main_v110 (F := Ideal) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5))
    = t2 (flat (gq a0 a1 a2 cs sn ct mx)) := by
  rw [h0, h1, h2, h3, h4, h5]; exact Att.v110_real a0 a1 a2 cs sn ct mx hmx
theorem ref113 : val_main_v113 (F := Ideal) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5))
    = t2 (flat (gk a0 a1 a2 cs sn ct mx)) := by
  rw [h0, h1, h2, h3, h4, h5]; exact Att.v113_real a0 a1 a2 cs sn ct mx hmx
omit h2 in
theorem ref116 : val_main_v116 (F := Ideal) (V0 (Proc.devRef .tc main_arg0)) (V0 (Proc.devRef .tc main_arg1)) (V0 (Proc.devRef .tc main_arg3)) (V0 (Proc.devRef .tc main_arg4)) (V0 (Proc.devRef .tc main_arg5))
    = t2 (flat (gv a0 a1 cs sn ct mx)) := by
  rw [h0, h1, h3, h4, h5]; exact Att.v116_real a0 a1 cs sn ct mx hmx
theorem ref117 : val_main_v117 (F := Ideal) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5))
    = t3 (pairs (gk a0 a1 a2 cs sn ct mx)) := by
  rw [h0, h1, h2, h3, h4, h5]; exact Att.v117_real a0 a1 a2 cs sn ct mx hmx
end ref

/-- On finite arguments the kernel and the reference leave the same arrays. -/
theorem algebraic : Cert.algebraic_KernelIdeal_ReferenceIdeal_pre_finite (hKernelIdeal := Cert.KernelIdeal.Gen.facts) (hReferenceIdeal := Cert.ReferenceIdeal.Gen.facts)
    (hPre_finite := finite_facts) := by
  intro m g m' g' hpre hargs
  choose a0 a1 a2 cs sn ct mx H using reals_of m hpre
  refine ⟨fun c => t2 (flat (gq (a0 c) (a1 c) (a2 c) (cs c) (sn c) (ct c) (mx c))), fun c => t2 (flat (gk (a0 c) (a1 c) (a2 c) (cs c) (sn c) (ct c) (mx c))),
    fun c => t2 (flat (gv (a0 c) (a1 c) (cs c) (sn c) (ct c) (mx c))), fun c => t3 (pairs (gk (a0 c) (a1 c) (a2 c) (cs c) (sn c) (ct c) (mx c))), ?_, ?_⟩
  · refine Idealize.ShloMosaic.θ_run_mono (θ_run_and (Cert.KernelIdeal.Att.run_main m g)
      (Cert.KernelIdeal.Gen.frame_of m g (Cert.KernelIdeal.Att.dats m) (Cert.KernelIdeal.Att.A_eq m) (Cert.KernelIdeal.Att.run_main m g))) fun r h c => ?_
    exact ⟨(h.1.out_eq c 8).trans (Cert.KernelIdeal.Att.out8 (H c)), (h.1.out_eq c 9).trans (Cert.KernelIdeal.Att.out9 (H c)),
      (h.1.out_eq c 10).trans (Cert.KernelIdeal.Att.out10 (H c)), (h.1.out_eq c 11).trans (Cert.KernelIdeal.Att.out11 (H c)), h.2 c⟩
  · refine Idealize.ShloMosaic.θ_run_mono (Cert.ReferenceIdeal.Value.run m' g') fun r h c => ?_
    obtain ⟨h110, h113, h116, h117, hrest⟩ := h c
    obtain ⟨e0, e1, e2, e3, e4, e5⟩ := hargs c
    have K := H c
    have f0 : launchContents m' c (Proc.devRef .tc Cert.ReferenceIdeal.main_arg0) = t3 (a0 c) := e0.trans K.h0
    have f1 : launchContents m' c (Proc.devRef .tc Cert.ReferenceIdeal.main_arg1) = t3 (a1 c) := e1.trans K.h1
    have f2 : launchContents m' c (Proc.devRef .tc Cert.ReferenceIdeal.main_arg2) = t3 (a2 c) := e2.trans K.h2
    have f3 : launchContents m' c (Proc.devRef .tc Cert.ReferenceIdeal.main_arg3) = t2 (cs c) := e3.trans K.h3
    have f4 : launchContents m' c (Proc.devRef .tc Cert.ReferenceIdeal.main_arg4) = t2 (sn c) := e4.trans K.h4
    have f5 : launchContents m' c (Proc.devRef .tc Cert.ReferenceIdeal.main_arg5) = t2 (ct c) := e5.trans K.h5
    refine ⟨h110.trans ((Cert.ReferenceIdeal.Read.val_main_v110_eq (launchContents m' c)).trans (ref110 _ _ _ _ _ _ _ _ f0 f1 f2 f3 f4 f5 K.hmx)),
      h113.trans ((Cert.ReferenceIdeal.Read.val_main_v113_eq (launchContents m' c)).trans (ref113 _ _ _ _ _ _ _ _ f0 f1 f2 f3 f4 f5 K.hmx)),
      h116.trans ((Cert.ReferenceIdeal.Read.val_main_v116_eq (launchContents m' c)).trans (ref116 _ _ _ _ _ _ _ f0 f1 f3 f4 f5 K.hmx)),
      h117.trans ((Cert.ReferenceIdeal.Read.val_main_v117_eq (launchContents m' c)).trans (ref117 _ _ _ _ _ _ _ _ f0 f1 f2 f3 f4 f5 K.hmx)), hrest⟩

end Cert.Proof

end
-- ==== Proof.Ff2Dx.lean ====
/- The feed-forward's gradient of its hidden values: what the kernel leaves is what the reference leaves. -/
module

public import proofs.«01_k».proof.Defs
public import proofs.«01_k».proof.Proof.Gen.Ff2DxIdeal.Value
public import proofs.«01_k».proof.Proof.Gen.Ff2DxReferenceIdeal.Read
public import Idealize.ShloMosaic.Lib.Pipeline.ValueKit
public import Idealize.ShloMosaic.Lib.Pipeline.ValueKit.Geometry
public import Idealize.ShloMosaic.Lib.StableHlo.RunRead
public import Idealize.ShloMosaic.Lib.Pointwise
public import Idealize.ShloMosaic.Lib.IdealHost

@[expose] public section

set_option maxRecDepth 16384

noncomputable section

namespace Cert.Ff2DxIdeal.Ff

open Cert.Ff2DxIdeal Cert.Ff2DxIdeal.Gen Idealize.ShloMosaic Idealize.ShloMosaic.TcCoe

/-- The constant two. -/
theorem two_bf16 : Ideal.ofBits FTy.bf16 16384#16 = (2 : EReal) := by
  have h : Ideal.ofBits FTy.bf16 16384#16 = ((2 : ℝ) : EReal) := by
    simp [Ideal.ofBits, Ideal.ieee]
    norm_num [← EReal.coe_mul]
  exact h
theorem two_f32 : Ideal.ofBits FTy.f32 1073741824#32 = (2 : EReal) := by
  have h : Ideal.ofBits FTy.f32 1073741824#32 = ((2 : ℝ) : EReal) := by
    simp [Ideal.ofBits, Ideal.ieee]
    norm_num [← EReal.coe_mul]
  exact h

/-- A tile of the result: a product of two tiles' rows, times the slope at the hidden value. -/
theorem tile (x0 x1 x2 : Vec Ideal S1024x1024 .bf16) (y : S1024x1024.Idx) :
    k0_pay1 (F := Ideal) x0 x1 x2 y = (∑ k : Fin 1024, x0 (ix2 (y 0) k) * x1 (ix2 (y 1) k)) * (2 * max (x2 y) 0) := by
  pointwise [k0_pay1]
  rw [two_bf16]

/-- The reference keeps the slope's product where the hidden value is positive and has zero elsewhere; the slope is zero there. -/
theorem slope (s v : EReal) : (Scalar.select (Ideal.cmp .ogt v (Ideal.ofBits .f32 0#32)) (s * (Ideal.ofBits .f32 1073741824#32 * max v (Ideal.ofBits .f32 0#32))) (Ideal.ofBits .f32 0#32) : EReal) = s * (2 * max v 0) := by
  rw [two_f32, Ideal.ofBits_zero_f32]
  by_cases h : v ≤ 0
  · rw [max_eq_right h]
    simp [Scalar.select]
  · have : Ideal.cmp .ogt v 0 = 1#1 := by simp [Ideal.cmp, not_le.1 h]
    rw [this]
    rfl

/-- An element of the reference's result. -/
theorem ref_tile (x0 : (⟨S4096x4096, .f32⟩ : BufTy).Contents (Elt Ideal)) (x1 x2 : (⟨S4096x1024, .f32⟩ : BufTy).Contents (Elt Ideal)) (z : S4096x4096.Idx) :
    Cert.Ff2DxReferenceIdeal.Read.val_main_v12 (F := Ideal) x0 x1 x2 z =
      (∑ k : Fin 1024, x2 (ix2 (z 0) k) * x1 (ix2 (z 1) k)) * (2 * max (x0 z) 0) := by
  simp only [Cert.Ff2DxReferenceIdeal.Read.val_main_v12_apply, Cert.Ff2DxReferenceIdeal.Read.val_main_v11_apply, Cert.Ff2DxReferenceIdeal.Read.val_main_v9_apply, Cert.Ff2DxReferenceIdeal.Read.val_main_v8_apply, Cert.Ff2DxReferenceIdeal.Read.val_main_v6_apply, Cert.Ff2DxReferenceIdeal.Read.val_main_v5_apply, Cert.Ff2DxReferenceIdeal.Read.val_main_v2_apply, Cert.Ff2DxReferenceIdeal.Read.val_main_v1_apply, Cert.Ff2DxReferenceIdeal.Read.val_main_v0_apply, Cert.Ff2DxReferenceIdeal.Read.val_main_v10_apply, Cert.Ff2DxReferenceIdeal.Read.val_main_call0_v0_apply, Cert.Ff2DxReferenceIdeal.Read.val_main_cst_apply, Cert.Ff2DxReferenceIdeal.Read.val_main_cst_1_apply, Cert.Ff2DxReferenceIdeal.Read.val_main_cst_2_apply, Cert.Ff2DxReferenceIdeal.Read.val_main_call0_cst_apply]
  have hl : ∀ k, Cert.Ff2DxReferenceIdeal.Read.lidx_main_v8 z k = ix2 (z 0) k := fun k => funext fun a => by fin_cases a <;> rfl
  have hr : ∀ k, Cert.Ff2DxReferenceIdeal.Read.ridx_main_v8 z k = ix2 (z 1) k := fun k => funext fun a => by fin_cases a <;> rfl
  simp only [hl, hr]
  exact slope _ _

section
variable (m : (ℓ : Loc nD τ sig) → Buf (Elt Ideal) ℓ) (c : Dev nD)

/-- What the windows' arrays hold when the kernel starts. -/
theorem V0 : V m c main_v0 = m (c, Proc.devRef .tc main_arg2) := by
  unfold_abbrev_sides
  after_reads_simp
  rfl
theorem V1 : V m c main_v1 = m (c, Proc.devRef .tc main_arg1) := by
  unfold_abbrev_sides
  after_reads_simp
  rfl
theorem V2 : V m c main_v2 = m (c, Proc.devRef .tc main_arg0) := by
  unfold_abbrev_sides
  after_reads_simp
  rfl

/-- The block of every window at every point of the grid. -/
theorem idx : ∀ t : Fin cfg0.N, win0_0.index t = ![t.val / 4, 0] ∧ win0_1.index t = ![t.val % 4, 0] ∧ win0_2.index t = ![t.val / 4, t.val % 4] ∧ win0_3.index t = ![t.val / 4, t.val % 4] :=
  (by decide +kernel : ∀ t : Fin grid0.N, _)

/-- The kernel's result is the reference's. -/
theorem out3 : (dats m 0 c).arrAt 3 cfg0.N = Cert.Ff2DxReferenceIdeal.Read.val_main_v12 (F := Ideal) (m (c, Proc.devRef .tc main_arg0)) (m (c, Proc.devRef .tc main_arg1)) (m (c, Proc.devRef .tc main_arg2)) := by
  refine (dats m 0 c).arrAt_eq_of_covers 3 _ (by decide +kernel) fun t hf y => ?_
  blk_simp
  rw [after0_3]
  frame_out
  rw [tile, ref_tile]
  congr 1
  refine Finset.sum_congr rfl fun k _ => ?_
  congr 1
  · blk_ext [iblk, V0 m c, idx t]
  · blk_ext [iblk, V1 m c, idx t]

end
end Cert.Ff2DxIdeal.Ff

namespace Cert.Proof

open Idealize.ShloMosaic Idealize.ShloMosaic.TcCoe Idealize.SL.Sem

/-- The reference leaves its arguments as they were. -/
theorem ff2_dx_frame : Cert.quiescent_Ff2DxReferenceIdeal (hFf2DxReferenceIdeal := Cert.Ff2DxReferenceIdeal.Gen.facts) := by
  intro m ρ _
  exact (θ_run Cert.Ff2DxReferenceIdeal.defs _ _).mono (fun r h => ⟨fun c => (h c).2, sem_eq_zero_of_no_sems (by decide) r.2⟩)
    (Cert.Ff2DxReferenceIdeal.Value.run (F := Ideal) m ρ)

/-- Both programs leave the same array. -/
theorem ff2_dx_algebraic : Cert.algebraic_Ff2DxIdeal_Ff2DxReferenceIdeal (hFf2DxIdeal := Cert.Ff2DxIdeal.Gen.facts)
    (hFf2DxReferenceIdeal := Cert.Ff2DxReferenceIdeal.Gen.facts) := by
  intro m g m' g' _ hargs
  refine ⟨fun c => Cert.Ff2DxReferenceIdeal.Read.val_main_v12 (F := Ideal) (m (c, Proc.devRef .tc Cert.Ff2DxIdeal.main_arg0)) (m (c, Proc.devRef .tc Cert.Ff2DxIdeal.main_arg1)) (m (c, Proc.devRef .tc Cert.Ff2DxIdeal.main_arg2)), ?_, ?_⟩
  · exact Idealize.ShloMosaic.θ_run_mono (Cert.Ff2DxIdeal.Value.run_blocks m g) fun r h c => ⟨(h c).1.trans (Cert.Ff2DxIdeal.Ff.out3 m c), (h c).2⟩
  · refine Idealize.ShloMosaic.θ_run_mono (Cert.Ff2DxReferenceIdeal.Value.run m' g') fun r h c => ?_
    obtain ⟨e0, e1, e2⟩ := hargs c
    refine ⟨(h c).1.trans ((Cert.Ff2DxReferenceIdeal.Read.val_main_v12_eq _ _ _).trans ?_), (h c).2⟩
    rw [e0, e1, e2]

end Cert.Proof

end
-- ==== Proof.Parts.lean ====
/- A sum over the rows, taken in the parts the kernels take it in. -/
module

public import Mathlib.Algebra.BigOperators.Fin

@[expose] public section

namespace Cert.Model

/-- A sum over 4096 rows in two parts. -/
theorem sum_two {M : Type} [AddCommMonoid M] (f : Fin 4096 → M) :
    ∑ k : Fin 4096, f k = (∑ k : Fin 2048, f ⟨k.val, by omega⟩) + ∑ k : Fin 2048, f ⟨2048 + k.val, by omega⟩ :=
  Fin.sum_univ_add (a := 2048) (b := 2048) f

/-- A sum over 2048 rows in two parts. -/
theorem sum_half {M : Type} [AddCommMonoid M] (f : Fin 2048 → M) :
    ∑ k : Fin 2048, f k = (∑ k : Fin 1024, f ⟨k.val, by omega⟩) + ∑ k : Fin 1024, f ⟨1024 + k.val, by omega⟩ :=
  Fin.sum_univ_add (a := 1024) (b := 1024) f

/-- A sum over 4096 rows in four parts, added from the first on. -/
theorem sum_four {M : Type} [AddCommMonoid M] (f : Fin 4096 → M) :
    ∑ k : Fin 4096, f k = (((∑ k : Fin 1024, f ⟨k.val, by omega⟩) + ∑ k : Fin 1024, f ⟨1024 + k.val, by omega⟩) + ∑ k : Fin 1024, f ⟨2048 + k.val, by omega⟩) + ∑ k : Fin 1024, f ⟨3072 + k.val, by omega⟩ := by
  rw [sum_two, sum_half, sum_half (fun k => f ⟨2048 + k.val, by omega⟩), ← add_assoc]
  congr 1

end Cert.Model
-- ==== Proof.Ff2Dw.lean ====
/- The feed-forward's gradient of its second weight: what the kernel leaves is what the reference leaves. -/
module

public import proofs.«01_k».proof.Defs
public import proofs.«01_k».proof.Proof.Gen.Ff2DwIdeal.Value
public import proofs.«01_k».proof.Proof.Gen.Ff2DwReferenceIdeal.Read
public import proofs.«01_k».proof.Proof.Parts
public import Idealize.ShloMosaic.Lib.Pipeline.ValueKit
public import Idealize.ShloMosaic.Lib.Pipeline.ValueKit.Geometry
public import Idealize.ShloMosaic.Lib.Pipeline.ReadBack
public import Idealize.ShloMosaic.Lib.StableHlo.RunRead
public import Idealize.ShloMosaic.Lib.Pointwise
public import Idealize.ShloMosaic.Lib.IdealHost

@[expose] public section

set_option maxRecDepth 16384

noncomputable section

namespace Cert.Ff2DwIdeal.Ff

open Cert.Ff2DwIdeal Cert.Ff2DwIdeal.Gen Idealize.ShloMosaic Idealize.ShloMosaic.TcCoe

/-- What the first half of the rows leaves in the accumulator. -/
theorem first (x0 x1 : Vec Ideal S2048x1024 .bf16) (y : S1024x1024.Idx) :
    k0_pay1 (F := Ideal) x0 x1 y = ∑ k : Fin 2048, x0 (ix2 k (y 0)) * x1 (ix2 k (y 1)) := by
  pointwise [k0_pay1]

/-- The second half is added to it. -/
theorem last (acc : Vec Ideal S1024x1024 .f32) (x0 x1 : Vec Ideal S2048x1024 .bf16) (y : S1024x1024.Idx) :
    k0_pay3 (F := Ideal) acc x0 x1 y = acc y + ∑ k : Fin 2048, x0 (ix2 k (y 0)) * x1 (ix2 k (y 1)) := by
  pointwise [k0_pay3]

/-- An element of the reference's result. -/
theorem ref_tile (x0 : (⟨S4096x4096, .f32⟩ : BufTy).Contents (Elt Ideal)) (x1 : (⟨S4096x1024, .f32⟩ : BufTy).Contents (Elt Ideal)) (z : S4096x1024.Idx) :
    Cert.Ff2DwReferenceIdeal.Read.val_main_v6 (F := Ideal) x0 x1 z =
      ∑ k : Fin 4096, Cert.Ff2DwReferenceIdeal.Read.val_main_v2 (F := Ideal) x0 (ix2 k (z 0)) * x1 (ix2 k (z 1)) := by
  rw [Cert.Ff2DwReferenceIdeal.Read.val_main_v6_apply, Cert.Ff2DwReferenceIdeal.Read.val_main_v5_apply, Cert.Ff2DwReferenceIdeal.Read.val_main_v4_apply]
  refine Finset.sum_congr rfl fun k _ => ?_
  have hl : Cert.Ff2DwReferenceIdeal.Read.lidx_main_v4 (Cert.Ff2DwReferenceIdeal.Read.idx_main_v5 z) k = ix2 k (z 1) := funext fun a => by fin_cases a <;> rfl
  have hr : Cert.Ff2DwReferenceIdeal.Read.ridx_main_v4 (Cert.Ff2DwReferenceIdeal.Read.idx_main_v5 z) k = ix2 k (z 0) := funext fun a => by fin_cases a <;> rfl
  rw [hl, hr]
  exact mul_comm _ _

section
variable (m : (ℓ : Loc nD τ sig) → Buf (Elt Ideal) ℓ) (c : Dev nD)

/-- What the windows' arrays hold when the kernel starts. -/
theorem V3 : V m c main_v3 = truncf (F := Ideal) .bf16 (Cert.Ff2DwReferenceIdeal.Read.val_main_v2 (F := Ideal) (m (c, Proc.devRef .tc main_arg0))) bitsLt_bf16_f32 := by
  unfold_abbrev_sides
  after_reads_simp
  rfl
theorem V4 : V m c main_v4 = m (c, Proc.devRef .tc main_arg1) := by
  unfold_abbrev_sides
  after_reads_simp
  rfl

/-- The block of every window at every point of the grid. -/
theorem idx : ∀ t : Fin cfg0.N, win0_0.index t = ![t.val % 2, t.val / 2] ∧ win0_1.index t = ![t.val % 2, 0] ∧ win0_2.index t = ![t.val / 2, 0] :=
  (by decide +kernel : ∀ t : Fin grid0.N, _)

/-- What the accumulator holds after the first half. -/
theorem acc_first (t : Fin cfg0.N) (h : t.val % 2 = 0) : (outsAt0 m c t.val t.isLt).2 = k0_pay1 (iblk m c 0 t) (iblk m c 1 t) := by
  rw [outsAt0_A m c t h (by omega)]
  frame_out

/-- What the second half writes, from the halves' blocks. -/
theorem out_last (t u : Fin cfg0.N) (h : t.val % 2 = 1) (hu : u.val = t.val - 1) :
    (outsAt0 m c t.val t.isLt).1 = k0_pay3 (k0_pay1 (iblk m c 0 u) (iblk m c 1 u)) (iblk m c 0 t) (iblk m c 1 t) := by
  rw [outsAt0_B m c t (by omega) h]
  frame_out
  simp only [read_unread_whole]
  obtain ⟨u, hl⟩ := u
  obtain rfl : u = t.val - 1 := hu
  rw [acc_first m c ⟨t.val - 1, hl⟩ (by show (t.val - 1) % 2 = 0; omega)]

/-- The kernel's result is the reference's. -/
theorem out2 : (dats m 0 c).arrAt 2 cfg0.N = Cert.Ff2DwReferenceIdeal.Read.val_main_v6 (F := Ideal) (m (c, Proc.devRef .tc main_arg0)) (m (c, Proc.devRef .tc main_arg1)) := by
  refine (dats m 0 c).arrAt_eq_of_covers 2 _ (by decide +kernel) fun t hf y => ?_
  have h1 : t.val % 2 = 1 := (flush0_2 t).mp hf
  obtain ⟨u, hu⟩ : ∃ u : Fin cfg0.N, u.val = t.val - 1 := ⟨⟨t.val - 1, Nat.lt_of_le_of_lt (Nat.sub_le _ _) t.isLt⟩, rfl⟩
  blk_simp
  rw [after0_2, out_last m c t u h1 hu, last, first, ref_tile, Cert.Model.sum_two]
  congr 1
  · refine Finset.sum_congr rfl fun k _ => ?_
    congr 1
    · blk_ext [iblk, V3 m c, idx u, idx t]
    · blk_ext [iblk, V4 m c, idx u, idx t]
  · refine Finset.sum_congr rfl fun k _ => ?_
    congr 1
    · blk_ext [iblk, V3 m c, idx t]
    · blk_ext [iblk, V4 m c, idx t]

end
end Cert.Ff2DwIdeal.Ff

namespace Cert.Proof

open Idealize.ShloMosaic Idealize.ShloMosaic.TcCoe Idealize.SL.Sem

/-- The reference leaves its arguments as they were. -/
theorem ff2_dw_frame : Cert.quiescent_Ff2DwReferenceIdeal (hFf2DwReferenceIdeal := Cert.Ff2DwReferenceIdeal.Gen.facts) := by
  intro m ρ _
  exact (θ_run Cert.Ff2DwReferenceIdeal.defs _ _).mono (fun r h => ⟨fun c => (h c).2, sem_eq_zero_of_no_sems (by decide) r.2⟩)
    (Cert.Ff2DwReferenceIdeal.Value.run (F := Ideal) m ρ)

/-- Both programs leave the same array. -/
theorem ff2_dw_algebraic : Cert.algebraic_Ff2DwIdeal_Ff2DwReferenceIdeal (hFf2DwIdeal := Cert.Ff2DwIdeal.Gen.facts)
    (hFf2DwReferenceIdeal := Cert.Ff2DwReferenceIdeal.Gen.facts) := by
  intro m g m' g' _ hargs
  refine ⟨fun c => Cert.Ff2DwReferenceIdeal.Read.val_main_v6 (F := Ideal) (m (c, Proc.devRef .tc Cert.Ff2DwIdeal.main_arg0)) (m (c, Proc.devRef .tc Cert.Ff2DwIdeal.main_arg1)), ?_, ?_⟩
  · exact Idealize.ShloMosaic.θ_run_mono (Cert.Ff2DwIdeal.Value.run_blocks m g) fun r h c => ⟨(h c).1.trans (Cert.Ff2DwIdeal.Ff.out2 m c), (h c).2⟩
  · refine Idealize.ShloMosaic.θ_run_mono (Cert.Ff2DwReferenceIdeal.Value.run m' g') fun r h c => ?_
    obtain ⟨e0, e1⟩ := hargs c
    refine ⟨(h c).1.trans ((Cert.Ff2DwReferenceIdeal.Read.val_main_v6_eq _ _).trans ?_), (h c).2⟩
    rw [e0, e1]

end Cert.Proof

end
-- ==== Proof.Ff1Dw.lean ====
/- The feed-forward's gradient of its first weight: what the kernel leaves is what the reference leaves. -/
module

public import proofs.«01_k».proof.Defs
public import proofs.«01_k».proof.Proof.Gen.Ff1DwIdeal.Value
public import proofs.«01_k».proof.Proof.Gen.Ff1DwReferenceIdeal.Read
public import proofs.«01_k».proof.Proof.Parts
public import Idealize.ShloMosaic.Lib.Pipeline.ValueKit
public import Idealize.ShloMosaic.Lib.Pipeline.ValueKit.Geometry
public import Idealize.ShloMosaic.Lib.Pipeline.ReadBack
public import Idealize.ShloMosaic.Lib.StableHlo.RunRead
public import Idealize.ShloMosaic.Lib.Pointwise
public import Idealize.ShloMosaic.Lib.IdealHost

@[expose] public section

set_option maxRecDepth 16384

noncomputable section

namespace Cert.Ff1DwIdeal.Ff

open Cert.Ff1DwIdeal Cert.Ff1DwIdeal.Gen Idealize.ShloMosaic Idealize.ShloMosaic.TcCoe

/-- What the first half of the rows leaves in the accumulator. -/
theorem first (x0 x1 : Vec Ideal S2048x1024 .bf16) (y : S1024x1024.Idx) :
    k0_pay1 (F := Ideal) x0 x1 y = ∑ k : Fin 2048, x0 (ix2 k (y 0)) * x1 (ix2 k (y 1)) := by
  pointwise [k0_pay1]

/-- The second half is added to it. -/
theorem last (acc : Vec Ideal S1024x1024 .f32) (x0 x1 : Vec Ideal S2048x1024 .bf16) (y : S1x1024x1024.Idx) :
    k0_pay3 (F := Ideal) acc x0 x1 y = acc (ix2 (y 1) (y 2)) + ∑ k : Fin 2048, x0 (ix2 k (y 1)) * x1 (ix2 k (y 2)) := by
  pointwise [k0_pay3]

/-- An element of the reference's result. -/
theorem ref_tile (x0 : (⟨S4096x1024, .f32⟩ : BufTy).Contents (Elt Ideal)) (x1 : (⟨S4096x4096, .f32⟩ : BufTy).Contents (Elt Ideal)) (z : S4x1024x1024.Idx) :
    Cert.Ff1DwReferenceIdeal.Read.val_main_v6 (F := Ideal) x0 x1 z =
      ∑ k : Fin 4096, x0 (ix2 k (z 1)) * x1 (ix2 k ⟨(z 0).val * 1024 + (z 2).val, by have h0 : (z 0).val < 4 := (z 0).isLt; have h2 : (z 2).val < 1024 := (z 2).isLt; omega⟩) := by
  rw [Cert.Ff1DwReferenceIdeal.Read.val_main_v6_apply, Cert.Ff1DwReferenceIdeal.Read.val_main_v5_apply, Cert.Ff1DwReferenceIdeal.Read.val_main_v4_apply, Cert.Ff1DwReferenceIdeal.Read.val_main_v3_apply, Cert.Ff1DwReferenceIdeal.Read.val_main_v2_apply]
  refine Finset.sum_congr rfl fun k _ => ?_
  refine (mul_comm _ _).trans ?_
  have h0 : (z 0).val < 4 := (z 0).isLt
  have h1 : (z 1).val < 1024 := (z 1).isLt
  have h2 : (z 2).val < 1024 := (z 2).isLt
  congr 1
  · refine congrArg x0 (funext fun a => Fin.ext ?_)
    fin_cases a
    · rfl
    · show (((z 1).val * 4 + (z 0).val) * 1024 + (z 2).val) / 4096 = (z 1).val
      omega
  · refine congrArg x1 (funext fun a => Fin.ext ?_)
    fin_cases a
    · rfl
    · show (((z 1).val * 4 + (z 0).val) * 1024 + (z 2).val) % 4096 = (z 0).val * 1024 + (z 2).val
      omega

section
variable (m : (ℓ : Loc nD τ sig) → Buf (Elt Ideal) ℓ) (c : Dev nD)

/-- What the windows' arrays hold when the kernel starts. -/
theorem V0 : V m c main_v0 = m (c, Proc.devRef .tc main_arg0) := by
  unfold_abbrev_sides
  after_reads_simp
  rfl
theorem V1 : V m c main_v1 = m (c, Proc.devRef .tc main_arg1) := by
  unfold_abbrev_sides
  after_reads_simp
  rfl

/-- The block of every window at every point of the grid. -/
theorem idx : ∀ t : Fin cfg0.N, win0_0.index t = ![t.val % 2, 0] ∧ win0_1.index t = ![t.val % 2, t.val / 2] ∧ win0_2.index t = ![t.val / 2, 0, 0] :=
  (by decide +kernel : ∀ t : Fin grid0.N, _)

/-- What the accumulator holds after the first half. -/
theorem acc_first (t : Fin cfg0.N) (h : t.val % 2 = 0) : (outsAt0 m c t.val t.isLt).2 = k0_pay1 (iblk m c 0 t) (iblk m c 1 t) := by
  rw [outsAt0_A m c t h (by omega)]
  frame_out

/-- What the second half writes, from the halves' blocks. -/
theorem out_last (t u : Fin cfg0.N) (h : t.val % 2 = 1) (hu : u.val = t.val - 1) :
    (outsAt0 m c t.val t.isLt).1 = k0_pay3 (k0_pay1 (iblk m c 0 u) (iblk m c 1 u)) (iblk m c 0 t) (iblk m c 1 t) := by
  rw [outsAt0_B m c t (by omega) h]
  frame_out
  simp only [read_unread_whole]
  obtain ⟨u, hl⟩ := u
  obtain rfl : u = t.val - 1 := hu
  rw [acc_first m c ⟨t.val - 1, hl⟩ (by show (t.val - 1) % 2 = 0; omega)]

/-- The kernel's result is the reference's. -/
theorem out2 : (dats m 0 c).arrAt 2 cfg0.N = Cert.Ff1DwReferenceIdeal.Read.val_main_v6 (F := Ideal) (m (c, Proc.devRef .tc main_arg0)) (m (c, Proc.devRef .tc main_arg1)) := by
  refine (dats m 0 c).arrAt_eq_of_covers 2 _ (by decide +kernel) fun t hf y => ?_
  have h1 : t.val % 2 = 1 := (flush0_2 t).mp hf
  obtain ⟨u, hu⟩ : ∃ u : Fin cfg0.N, u.val = t.val - 1 := ⟨⟨t.val - 1, Nat.lt_of_le_of_lt (Nat.sub_le _ _) t.isLt⟩, rfl⟩
  blk_simp
  rw [after0_2, out_last m c t u h1 hu, last, first, ref_tile, Cert.Model.sum_two]
  congr 1
  · refine Finset.sum_congr rfl fun k _ => ?_
    congr 1
    · blk_ext [iblk, V0 m c, idx u, idx t]
    · blk_ext [iblk, V1 m c, idx u, idx t]
  · refine Finset.sum_congr rfl fun k _ => ?_
    congr 1
    · blk_ext [iblk, V0 m c, idx t]
    · blk_ext [iblk, V1 m c, idx t]

end
end Cert.Ff1DwIdeal.Ff

namespace Cert.Proof

open Idealize.ShloMosaic Idealize.ShloMosaic.TcCoe Idealize.SL.Sem

/-- The reference leaves its arguments as they were. -/
theorem ff1_dw_frame : Cert.quiescent_Ff1DwReferenceIdeal (hFf1DwReferenceIdeal := Cert.Ff1DwReferenceIdeal.Gen.facts) := by
  intro m ρ _
  exact (θ_run Cert.Ff1DwReferenceIdeal.defs _ _).mono (fun r h => ⟨fun c => (h c).2, sem_eq_zero_of_no_sems (by decide) r.2⟩)
    (Cert.Ff1DwReferenceIdeal.Value.run (F := Ideal) m ρ)

/-- Both programs leave the same array. -/
theorem ff1_dw_algebraic : Cert.algebraic_Ff1DwIdeal_Ff1DwReferenceIdeal (hFf1DwIdeal := Cert.Ff1DwIdeal.Gen.facts)
    (hFf1DwReferenceIdeal := Cert.Ff1DwReferenceIdeal.Gen.facts) := by
  intro m g m' g' _ hargs
  refine ⟨fun c => Cert.Ff1DwReferenceIdeal.Read.val_main_v6 (F := Ideal) (m (c, Proc.devRef .tc Cert.Ff1DwIdeal.main_arg0)) (m (c, Proc.devRef .tc Cert.Ff1DwIdeal.main_arg1)), ?_, ?_⟩
  · exact Idealize.ShloMosaic.θ_run_mono (Cert.Ff1DwIdeal.Value.run_blocks m g) fun r h c => ⟨(h c).1.trans (Cert.Ff1DwIdeal.Ff.out2 m c), (h c).2⟩
  · refine Idealize.ShloMosaic.θ_run_mono (Cert.Ff1DwReferenceIdeal.Value.run m' g') fun r h c => ?_
    obtain ⟨e0, e1⟩ := hargs c
    refine ⟨(h c).1.trans ((Cert.Ff1DwReferenceIdeal.Read.val_main_v6_eq _ _).trans ?_), (h c).2⟩
    rw [e0, e1]

end Cert.Proof

end
-- ==== Proof.Ff1Dx.lean ====
/- The feed-forward's gradient of its input: what the kernel leaves is what the reference leaves. -/
module

public import proofs.«01_k».proof.Defs
public import proofs.«01_k».proof.Proof.Gen.Ff1DxIdeal.Value
public import proofs.«01_k».proof.Proof.Gen.Ff1DxReferenceIdeal.Read
public import proofs.«01_k».proof.Proof.Parts
public import Idealize.ShloMosaic.Lib.Pipeline.ValueKit
public import Idealize.ShloMosaic.Lib.Pipeline.ValueKit.Geometry
public import Idealize.ShloMosaic.Lib.Pipeline.ReadBack
public import Idealize.ShloMosaic.Lib.StableHlo.RunRead
public import Idealize.ShloMosaic.Lib.Pointwise
public import Idealize.ShloMosaic.Lib.IdealHost

@[expose] public section

set_option maxRecDepth 16384

noncomputable section

namespace Cert.Ff1DxIdeal.Ff

open Cert.Ff1DxIdeal Cert.Ff1DxIdeal.Gen Idealize.ShloMosaic Idealize.ShloMosaic.TcCoe

/-- What the first chip's columns leave in the accumulator. -/
theorem first (x0 : Vec Ideal S1024x1024 .bf16) (x1 : Vec Ideal S1x1024x1024 .bf16) (y : S1024x1024.Idx) :
    k0_pay1 (F := Ideal) x0 x1 y = ∑ k : Fin 1024, x0 (ix2 (y 0) k) * x1 (ix3 0 (y 1) k) := by
  pointwise [k0_pay1]

/-- Every further chip's columns are added to it. -/
theorem next (acc : Vec Ideal S1024x1024 .f32) (x0 : Vec Ideal S1024x1024 .bf16) (x1 : Vec Ideal S1x1024x1024 .bf16) (y : S1024x1024.Idx) :
    k0_pay2 (F := Ideal) acc x0 x1 y = acc y + ∑ k : Fin 1024, x0 (ix2 (y 0) k) * x1 (ix3 0 (y 1) k) := by
  pointwise [k0_pay2]

/-- The last chip's too, and the sum is the result. -/
theorem last (acc : Vec Ideal S1024x1024 .f32) (x0 : Vec Ideal S1024x1024 .bf16) (x1 : Vec Ideal S1x1024x1024 .bf16) (y : S1024x1024.Idx) :
    k0_pay3 (F := Ideal) acc x0 x1 y = acc y + ∑ k : Fin 1024, x0 (ix2 (y 0) k) * x1 (ix3 0 (y 1) k) := by
  pointwise [k0_pay3]

/-- An element of the reference's result. -/
theorem ref_tile (x0 : (⟨S4096x4096, .f32⟩ : BufTy).Contents (Elt Ideal)) (x1 : (⟨S1024x4096, .f32⟩ : BufTy).Contents (Elt Ideal)) (z : S4096x1024.Idx) :
    Cert.Ff1DxReferenceIdeal.Read.val_main_v2 (F := Ideal) x0 x1 z = ∑ k : Fin 4096, x0 (ix2 (z 0) k) * x1 (ix2 (z 1) k) := by
  rw [Cert.Ff1DxReferenceIdeal.Read.val_main_v2_apply]
  refine Finset.sum_congr rfl fun k _ => ?_
  have hl : Cert.Ff1DxReferenceIdeal.Read.lidx_main_v2 z k = ix2 (z 0) k := funext fun a => by fin_cases a <;> rfl
  have hr : Cert.Ff1DxReferenceIdeal.Read.ridx_main_v2 z k = ix2 (z 1) k := funext fun a => by fin_cases a <;> rfl
  rw [hl, hr]
  rfl

/-- The weight's columns stacked by chip. -/
def stack (x1 : (⟨S1024x4096, .f32⟩ : BufTy).Contents (Elt Ideal)) : (⟨S4x1024x1024, .bf16⟩ : BufTy).Contents (Elt Ideal) := fun z =>
  x1 (ix2 (z 1) ⟨(z 0).val * 1024 + (z 2).val, by have h0 : (z 0).val < 4 := (z 0).isLt; have h2 : (z 2).val < 1024 := (z 2).isLt; omega⟩)

/-- The host's reshape and transpose stack them. -/
theorem stacked (x1 : (⟨S1024x4096, .f32⟩ : BufTy).Contents (Elt Ideal)) :
    truncf (F := Ideal) .bf16 (transpose S4x1024x1024 [1, 0, 2] (shapeCast S1024x4x1024 x1 shapeCasts_S1024x4096_S1024x4x1024) transposes_S1024x4x1024_S4x1024x1024_1_0_2) bitsLt_bf16_f32 = stack x1 := by
  funext z
  have h0 : (z 0).val < 4 := (z 0).isLt
  have h1 : (z 1).val < 1024 := (z 1).isLt
  have h2 : (z 2).val < 1024 := (z 2).isLt
  show transpose S4x1024x1024 [1, 0, 2] (shapeCast S1024x4x1024 x1 shapeCasts_S1024x4096_S1024x4x1024) transposes_S1024x4x1024_S4x1024x1024_1_0_2 z = _
  rw [transpose_apply [1, 0, 2] _ transposes_S1024x4x1024_S4x1024x1024_1_0_2 z (ix3 (z 1) (z 0) (z 2)) (fun b => match b with
    | ⟨0, _⟩ => rfl
    | ⟨1, _⟩ => rfl
    | ⟨2, _⟩ => rfl)]
  refine shapeCast_apply x1 shapeCasts_S1024x4096_S1024x4x1024 _ _ ?_
  rewrite [Shape.rowMajor_val_two, Shape.rowMajor_val_three]
  show (z 1).val * 4096 + ((z 0).val * 1024 + (z 2).val) = ((z 1).val * 4 + (z 0).val) * 1024 + (z 2).val
  omega

section
variable (m : (ℓ : Loc nD τ sig) → Buf (Elt Ideal) ℓ) (c : Dev nD)

/-- What the windows' arrays hold when the kernel starts. -/
theorem V3 : V m c main_v3 = m (c, Proc.devRef .tc main_arg0) := by
  unfold_abbrev_sides
  after_reads_simp
  rfl
theorem V2 : V m c main_v2 = stack (m (c, Proc.devRef .tc main_arg1)) := by
  rw [← stacked]
  unfold_abbrev_sides
  after_reads_simp
  rfl

/-- The block of every window at every point of the grid. -/
theorem idx : ∀ t : Fin cfg0.N, win0_0.index t = ![t.val / 4, t.val % 4] ∧ win0_1.index t = ![t.val % 4, 0, 0] ∧ win0_2.index t = ![t.val / 4, 0] :=
  (by decide +kernel : ∀ t : Fin grid0.N, _)

/-- What the accumulator holds after the first chip's columns. -/
theorem acc_first (t : Fin cfg0.N) (h : t.val % 4 = 0) : (outsAt0 m c t.val t.isLt).2 = k0_pay1 (iblk m c 0 t) (iblk m c 1 t) := by
  rw [outsAt0_A m c t h (by omega) (by omega)]
  frame_out

/-- … after a further chip's. -/
theorem acc_next (t : Fin cfg0.N) (h : 1 ≤ t.val % 4 ∧ t.val % 4 ≤ 2) (acc : Vec Ideal S1024x1024 .f32)
    (ha : (outsAt0 m c (t.val - 1) (Nat.lt_of_le_of_lt (Nat.sub_le _ _) t.isLt)).2 = acc) :
    (outsAt0 m c t.val t.isLt).2 = k0_pay2 acc (iblk m c 0 t) (iblk m c 1 t) := by
  rw [outsAt0_B m c t (by omega) h (by omega), ← ha]
  frame_out
  simp only [read_unread_whole]

/-- What the last chip's columns write. -/
theorem out_last (t : Fin cfg0.N) (h : t.val % 4 = 3) (acc : Vec Ideal S1024x1024 .f32)
    (ha : (outsAt0 m c (t.val - 1) (Nat.lt_of_le_of_lt (Nat.sub_le _ _) t.isLt)).2 = acc) :
    (outsAt0 m c t.val t.isLt).1 = k0_pay3 acc (iblk m c 0 t) (iblk m c 1 t) := by
  rw [outsAt0_C m c t (by omega) (by omega) h, ← ha]
  frame_out
  simp only [read_unread_whole]

/-- A point's place in the grid gives what it leaves. -/
theorem before (t u : Fin cfg0.N) (hu : u.val = t.val - 1) (acc : Vec Ideal S1024x1024 .f32) (h : (outsAt0 m c u.val u.isLt).2 = acc) :
    (outsAt0 m c (t.val - 1) (Nat.lt_of_le_of_lt (Nat.sub_le _ _) t.isLt)).2 = acc := by
  obtain ⟨u, hl⟩ := u
  obtain rfl : u = t.val - 1 := hu
  exact h

/-- The four points of a tile of rows. -/
theorem out_all (t u2 u1 u0 : Fin cfg0.N) (h : t.val % 4 = 3) (h2 : u2.val = t.val - 1) (h1 : u1.val = u2.val - 1) (h0 : u0.val = u1.val - 1) :
    (outsAt0 m c t.val t.isLt).1 = k0_pay3 (k0_pay2 (k0_pay2 (k0_pay1 (iblk m c 0 u0) (iblk m c 1 u0)) (iblk m c 0 u1) (iblk m c 1 u1)) (iblk m c 0 u2) (iblk m c 1 u2)) (iblk m c 0 t) (iblk m c 1 t) :=
  out_last m c t h _ (before m c t u2 h2 _ (acc_next m c u2 (by omega) _ (before m c u2 u1 h1 _ (acc_next m c u1 (by omega) _ (before m c u1 u0 h0 _
    (acc_first m c u0 (by omega)))))))

set_option maxHeartbeats 4000000 in
/-- The kernel's result is the reference's. -/
theorem out2 : (dats m 0 c).arrAt 2 cfg0.N = Cert.Ff1DxReferenceIdeal.Read.val_main_v2 (F := Ideal) (m (c, Proc.devRef .tc main_arg0)) (m (c, Proc.devRef .tc main_arg1)) := by
  refine (dats m 0 c).arrAt_eq_of_covers 2 _ (by decide +kernel) fun t hf y => ?_
  have h : t.val % 4 = 3 := (flush0_2 t).mp hf
  obtain ⟨u2, h2⟩ : ∃ u : Fin cfg0.N, u.val = t.val - 1 := ⟨⟨t.val - 1, Nat.lt_of_le_of_lt (Nat.sub_le _ _) t.isLt⟩, rfl⟩
  obtain ⟨u1, h1⟩ : ∃ u : Fin cfg0.N, u.val = u2.val - 1 := ⟨⟨u2.val - 1, Nat.lt_of_le_of_lt (Nat.sub_le _ _) u2.isLt⟩, rfl⟩
  obtain ⟨u0, h0⟩ : ∃ u : Fin cfg0.N, u.val = u1.val - 1 := ⟨⟨u1.val - 1, Nat.lt_of_le_of_lt (Nat.sub_le _ _) u1.isLt⟩, rfl⟩
  blk_simp
  rw [after0_2, out_all m c t u2 u1 u0 h h2 h1 h0, last, next, next, first, ref_tile, Cert.Model.sum_four]
  congr 1
  · congr 1
    · congr 1
      · refine Finset.sum_congr rfl fun k _ => ?_
        congr 1
        · blk_ext [iblk, V3 m c, idx u0, idx t]
        · blk_ext [iblk, V2 m c, stack, idx u0, idx t]
      · refine Finset.sum_congr rfl fun k _ => ?_
        congr 1
        · blk_ext [iblk, V3 m c, idx u1, idx t]
        · blk_ext [iblk, V2 m c, stack, idx u1, idx t]
    · refine Finset.sum_congr rfl fun k _ => ?_
      congr 1
      · blk_ext [iblk, V3 m c, idx u2, idx t]
      · blk_ext [iblk, V2 m c, stack, idx u2, idx t]
  · refine Finset.sum_congr rfl fun k _ => ?_
    congr 1
    · blk_ext [iblk, V3 m c, idx t]
    · blk_ext [iblk, V2 m c, stack, idx t]

end
end Cert.Ff1DxIdeal.Ff

namespace Cert.Proof

open Idealize.ShloMosaic Idealize.ShloMosaic.TcCoe Idealize.SL.Sem

/-- The reference leaves its arguments as they were. -/
theorem ff1_dx_frame : Cert.quiescent_Ff1DxReferenceIdeal (hFf1DxReferenceIdeal := Cert.Ff1DxReferenceIdeal.Gen.facts) := by
  intro m ρ _
  exact (θ_run Cert.Ff1DxReferenceIdeal.defs _ _).mono (fun r h => ⟨fun c => (h c).2, sem_eq_zero_of_no_sems (by decide) r.2⟩)
    (Cert.Ff1DxReferenceIdeal.Value.run (F := Ideal) m ρ)

/-- Both programs leave the same array. -/
theorem ff1_dx_algebraic : Cert.algebraic_Ff1DxIdeal_Ff1DxReferenceIdeal (hFf1DxIdeal := Cert.Ff1DxIdeal.Gen.facts)
    (hFf1DxReferenceIdeal := Cert.Ff1DxReferenceIdeal.Gen.facts) := by
  intro m g m' g' _ hargs
  refine ⟨fun c => Cert.Ff1DxReferenceIdeal.Read.val_main_v2 (F := Ideal) (m (c, Proc.devRef .tc Cert.Ff1DxIdeal.main_arg0)) (m (c, Proc.devRef .tc Cert.Ff1DxIdeal.main_arg1)), ?_, ?_⟩
  · exact Idealize.ShloMosaic.θ_run_mono (Cert.Ff1DxIdeal.Value.run_blocks m g) fun r h c => ⟨(h c).1.trans (Cert.Ff1DxIdeal.Ff.out2 m c), (h c).2⟩
  · refine Idealize.ShloMosaic.θ_run_mono (Cert.Ff1DxReferenceIdeal.Value.run m' g') fun r h c => ?_
    obtain ⟨e0, e1⟩ := hargs c
    refine ⟨(h c).1.trans ((Cert.Ff1DxReferenceIdeal.Read.val_main_v2_eq _ _).trans ?_), (h c).2⟩
    rw [e0, e1]

end Cert.Proof

end
-- ==== Proof.Ff1.lean ====
/- The feed-forward's hidden values and their activation: what the kernel leaves is what the reference leaves. -/
module

public import proofs.«01_k».proof.Defs
public import proofs.«01_k».proof.Proof.Gen.Ff1Ideal.Value
public import proofs.«01_k».proof.Proof.Gen.Ff1ReferenceIdeal.Read
public import proofs.«01_k».proof.Proof.Parts
public import proofs.«01_k».proof.Proof.Ff1Dx
public import Idealize.ShloMosaic.Lib.Pipeline.ValueKit
public import Idealize.ShloMosaic.Lib.Pipeline.ValueKit.Geometry
public import Idealize.ShloMosaic.Lib.Pipeline.ReadBack
public import Idealize.ShloMosaic.Lib.StableHlo.RunRead
public import Idealize.ShloMosaic.Lib.Pointwise
public import Idealize.ShloMosaic.Lib.IdealHost

@[expose] public section

set_option maxRecDepth 16384

noncomputable section

namespace Cert.Ff1Ideal.Ff

open Cert.Ff1Ideal Cert.Ff1Ideal.Gen Idealize.ShloMosaic Idealize.ShloMosaic.TcCoe

/-- A tile of the hidden values: a product of two tiles. -/
theorem hidden (x0 : Vec Ideal S1024x1024 .bf16) (x1 : Vec Ideal S1x1024x1024 .bf16) (y : S1024x1024.Idx) :
    k0_pay2 (F := Ideal) x0 x1 y = ∑ k : Fin 1024, x0 (ix2 (y 0) k) * x1 (ix3 0 k (y 1)) := by
  pointwise [k0_pay2, k0_pay1]

/-- A tile of their activation: the square of the positive part. -/
theorem active (x0 : Vec Ideal S1024x1024 .bf16) (x1 : Vec Ideal S1x1024x1024 .bf16) (y : S1024x1024.Idx) :
    k0_pay3 (F := Ideal) x0 x1 y = max (∑ k : Fin 1024, x0 (ix2 (y 0) k) * x1 (ix3 0 k (y 1))) 0 * max (∑ k : Fin 1024, x0 (ix2 (y 0) k) * x1 (ix3 0 k (y 1))) 0 := by
  pointwise [k0_pay3, k0_pay1]

/-- An element of the reference's product. -/
theorem ref_tile (x0 : (⟨S4096x1024, .f32⟩ : BufTy).Contents (Elt Ideal)) (x1 : (⟨S1024x4096, .f32⟩ : BufTy).Contents (Elt Ideal)) (z : S4096x4096.Idx) :
    Cert.Ff1ReferenceIdeal.Read.val_main_v0 (F := Ideal) x0 x1 z = ∑ k : Fin 1024, x0 (ix2 (z 0) k) * x1 (ix2 k (z 1)) := by
  rw [Cert.Ff1ReferenceIdeal.Read.val_main_v0_apply]
  refine Finset.sum_congr rfl fun k _ => ?_
  have hl : Cert.Ff1ReferenceIdeal.Read.lidx_main_v0 z k = ix2 (z 0) k := funext fun a => by fin_cases a <;> rfl
  have hr : Cert.Ff1ReferenceIdeal.Read.ridx_main_v0 z k = ix2 k (z 1) := funext fun a => by fin_cases a <;> rfl
  rw [hl, hr]
  rfl

/-- An element of the reference's hidden values. -/
theorem ref_hidden (x0 : (⟨S4096x1024, .f32⟩ : BufTy).Contents (Elt Ideal)) (x1 : (⟨S1024x4096, .f32⟩ : BufTy).Contents (Elt Ideal)) (z : S4096x4096.Idx) :
    Cert.Ff1ReferenceIdeal.Read.val_main_v1 (F := Ideal) x0 x1 z = ∑ k : Fin 1024, x0 (ix2 (z 0) k) * x1 (ix2 k (z 1)) :=
  ref_tile x0 x1 z

/-- An element of the reference's activation. -/
theorem ref_active (x0 : (⟨S4096x1024, .f32⟩ : BufTy).Contents (Elt Ideal)) (x1 : (⟨S1024x4096, .f32⟩ : BufTy).Contents (Elt Ideal)) (z : S4096x4096.Idx) :
    Cert.Ff1ReferenceIdeal.Read.val_main_v4 (F := Ideal) x0 x1 z = max (Cert.Ff1ReferenceIdeal.Read.val_main_v0 (F := Ideal) x0 x1 z) 0 * max (Cert.Ff1ReferenceIdeal.Read.val_main_v0 (F := Ideal) x0 x1 z) 0 := by
  rw [Cert.Ff1ReferenceIdeal.Read.val_main_v4_apply, Cert.Ff1ReferenceIdeal.Read.val_main_v3_apply, Cert.Ff1ReferenceIdeal.Read.val_main_v2_apply, Cert.Ff1ReferenceIdeal.Read.val_main_call0_v0_apply, Cert.Ff1ReferenceIdeal.Read.val_main_call0_cst_apply, ← Ideal.ofBits_zero_f32]
  rfl

section
variable (m : (ℓ : Loc nD τ sig) → Buf (Elt Ideal) ℓ) (c : Dev nD)

/-- What the windows' arrays hold when the kernel starts. -/
theorem V3 : V m c main_v3 = (m (c, Proc.devRef .tc main_arg0)) := by
  unfold_abbrev_sides
  after_reads_simp
  rfl
theorem V2 : V m c main_v2 = Cert.Ff1DxIdeal.Ff.stack (m (c, Proc.devRef .tc main_arg1)) := by
  rw [← Cert.Ff1DxIdeal.Ff.stacked]
  unfold_abbrev_sides
  after_reads_simp
  rfl

/-- The block of every window at every point of the grid. -/
theorem idx : ∀ t : Fin cfg0.N, win0_0.index t = ![t.val / 4, 0] ∧ win0_1.index t = ![t.val % 4, 0, 0] ∧ win0_2.index t = ![t.val / 4, t.val % 4] ∧ win0_3.index t = ![t.val / 4, t.val % 4] :=
  (by decide +kernel : ∀ t : Fin grid0.N, _)

/-- The kernel's hidden values are the reference's. -/
theorem out2 : (dats m 0 c).arrAt 2 cfg0.N = Cert.Ff1ReferenceIdeal.Read.val_main_v1 (F := Ideal) (m (c, Proc.devRef .tc main_arg0)) (m (c, Proc.devRef .tc main_arg1)) := by
  refine (dats m 0 c).arrAt_eq_of_covers 2 _ (by decide +kernel) fun t hf y => ?_
  blk_simp
  rw [after0_2]
  frame_out
  rw [hidden, ref_hidden]
  refine congrArg (fun s : EReal => s) (Finset.sum_congr rfl fun k _ => ?_)
  congr 1
  · blk_ext [iblk, V3 m c, idx t]
  · blk_ext [iblk, V2 m c, Cert.Ff1DxIdeal.Ff.stack, idx t]

/-- The kernel's activations are the reference's. -/
theorem out3 : (dats m 0 c).arrAt 3 cfg0.N = Cert.Ff1ReferenceIdeal.Read.val_main_v4 (F := Ideal) (m (c, Proc.devRef .tc main_arg0)) (m (c, Proc.devRef .tc main_arg1)) := by
  refine (dats m 0 c).arrAt_eq_of_covers 3 _ (by decide +kernel) fun t hf y => ?_
  blk_simp
  rw [after0_3]
  frame_out
  rw [active, ref_active, ref_tile]
  refine congrArg (fun s : EReal => max s 0 * max s 0) (Finset.sum_congr rfl fun k _ => ?_)
  congr 1
  · blk_ext [iblk, V3 m c, idx t]
  · blk_ext [iblk, V2 m c, Cert.Ff1DxIdeal.Ff.stack, idx t]

end
end Cert.Ff1Ideal.Ff

namespace Cert.Proof

open Idealize.ShloMosaic Idealize.ShloMosaic.TcCoe Idealize.SL.Sem

/-- The reference leaves its arguments as they were. -/
theorem ff1_frame : Cert.quiescent_Ff1ReferenceIdeal (hFf1ReferenceIdeal := Cert.Ff1ReferenceIdeal.Gen.facts) := by
  intro m ρ _
  exact (θ_run Cert.Ff1ReferenceIdeal.defs _ _).mono (fun r h => ⟨fun c => (h c).2.2, sem_eq_zero_of_no_sems (by decide) r.2⟩)
    (Cert.Ff1ReferenceIdeal.Value.run (F := Ideal) m ρ)

/-- Both programs leave the same two arrays. -/
theorem ff1_algebraic : Cert.algebraic_Ff1Ideal_Ff1ReferenceIdeal (hFf1Ideal := Cert.Ff1Ideal.Gen.facts)
    (hFf1ReferenceIdeal := Cert.Ff1ReferenceIdeal.Gen.facts) := by
  intro m g m' g' _ hargs
  refine ⟨fun c => Cert.Ff1ReferenceIdeal.Read.val_main_v1 (F := Ideal) (m (c, Proc.devRef .tc Cert.Ff1Ideal.main_arg0)) (m (c, Proc.devRef .tc Cert.Ff1Ideal.main_arg1)), fun c => Cert.Ff1ReferenceIdeal.Read.val_main_v4 (F := Ideal) (m (c, Proc.devRef .tc Cert.Ff1Ideal.main_arg0)) (m (c, Proc.devRef .tc Cert.Ff1Ideal.main_arg1)), ?_, ?_⟩
  · exact Idealize.ShloMosaic.θ_run_mono (Cert.Ff1Ideal.Value.run_blocks m g) fun r h c => ⟨(h c).1.trans (Cert.Ff1Ideal.Ff.out2 m c), (h c).2.1.trans (Cert.Ff1Ideal.Ff.out3 m c), (h c).2.2⟩
  · refine Idealize.ShloMosaic.θ_run_mono (Cert.Ff1ReferenceIdeal.Value.run m' g') fun r h c => ?_
    obtain ⟨e0, e1⟩ := hargs c
    refine ⟨(h c).1.trans ((Cert.Ff1ReferenceIdeal.Read.val_main_v1_eq _ _).trans ?_), (h c).2.1.trans ((Cert.Ff1ReferenceIdeal.Read.val_main_v4_eq _ _).trans ?_), (h c).2.2⟩
    · rw [e0, e1]
    · rw [e0, e1]

end Cert.Proof

end
-- ==== Proof.Ff2.lean ====
/- The feed-forward's output and the residual stream after it: what the kernel leaves is what the reference leaves. -/
module

public import proofs.«01_k».proof.Defs
public import proofs.«01_k».proof.Proof.Gen.Ff2Ideal.Value
public import proofs.«01_k».proof.Proof.Gen.Ff2ReferenceIdeal.Read
public import proofs.«01_k».proof.Proof.Parts
public import Idealize.ShloMosaic.Lib.Pipeline.ValueKit
public import Idealize.ShloMosaic.Lib.Pipeline.ValueKit.Geometry
public import Idealize.ShloMosaic.Lib.Pipeline.ReadBack
public import Idealize.ShloMosaic.Lib.StableHlo.RunRead
public import Idealize.ShloMosaic.Lib.Pointwise
public import Idealize.ShloMosaic.Lib.IdealHost

@[expose] public section

set_option maxRecDepth 16384

noncomputable section

namespace Cert.Ff2Ideal.Ff

open Cert.Ff2Ideal Cert.Ff2Ideal.Gen Idealize.ShloMosaic Idealize.ShloMosaic.TcCoe

/-- What the first columns leave in the accumulator. -/
theorem first (x0 x1 : Vec Ideal S1024x1024 .bf16) (y : S1024x1024.Idx) :
    k0_pay1 (F := Ideal) x0 x1 y = ∑ k : Fin 1024, x0 (ix2 (y 0) k) * x1 (ix2 k (y 1)) := by
  pointwise [k0_pay1]

/-- Further columns are added to it. -/
theorem next (acc : Vec Ideal S1024x1024 .f32) (x0 x1 : Vec Ideal S1024x1024 .bf16) (y : S1024x1024.Idx) :
    k0_pay2 (F := Ideal) acc x0 x1 y = acc y + ∑ k : Fin 1024, x0 (ix2 (y 0) k) * x1 (ix2 k (y 1)) := by
  pointwise [k0_pay2]

/-- The last columns too, and the sum is the output. -/
theorem last (acc : Vec Ideal S1024x1024 .f32) (x0 x1 : Vec Ideal S1024x1024 .bf16) (y : S1024x1024.Idx) :
    k0_pay5 (F := Ideal) acc x0 x1 y = acc y + ∑ k : Fin 1024, x0 (ix2 (y 0) k) * x1 (ix2 k (y 1)) := by
  pointwise [k0_pay5, k0_pay3]

/-- The residual stream takes the gated output on. -/
theorem stream (acc : Vec Ideal S1024x1024 .f32) (x0 x1 : Vec Ideal S1024x1024 .bf16) (x2 : Vec Ideal S1024x1024 .f32) (x3 : Vec Ideal S1x1024 .f32) (y : S1024x1024.Idx) :
    k0_pay4 (F := Ideal) acc x0 x1 x2 x3 y = x2 y + x3 (ix2 0 (y 1)) * k0_pay5 (F := Ideal) acc x0 x1 y := by
  rw [last]
  pointwise [k0_pay4, k0_pay3]

/-- An element of the reference's output. -/
theorem ref_tile (x0 : (⟨S4096x4096, .f32⟩ : BufTy).Contents (Elt Ideal)) (x1 : (⟨S4096x1024, .f32⟩ : BufTy).Contents (Elt Ideal)) (z : S4096x1024.Idx) :
    Cert.Ff2ReferenceIdeal.Read.val_main_v2 (F := Ideal) x0 x1 z = ∑ k : Fin 4096, Cert.Ff2ReferenceIdeal.Read.val_main_v1 (F := Ideal) x0 (ix2 (z 0) k) * x1 (ix2 k (z 1)) := by
  rw [Cert.Ff2ReferenceIdeal.Read.val_main_v2_apply]
  refine Finset.sum_congr rfl fun k _ => ?_
  have hl : Cert.Ff2ReferenceIdeal.Read.lidx_main_v2 z k = ix2 (z 0) k := funext fun a => by fin_cases a <;> rfl
  have hr : Cert.Ff2ReferenceIdeal.Read.ridx_main_v2 z k = ix2 k (z 1) := funext fun a => by fin_cases a <;> rfl
  rw [hl, hr]
  rfl

/-- An element of the reference's residual stream. -/
theorem ref_stream (x0 : (⟨S4096x4096, .f32⟩ : BufTy).Contents (Elt Ideal)) (x1 x2 : (⟨S4096x1024, .f32⟩ : BufTy).Contents (Elt Ideal)) (x3 : (⟨S1x1024, .f32⟩ : BufTy).Contents (Elt Ideal)) (z : S4096x1024.Idx) :
    Cert.Ff2ReferenceIdeal.Read.val_main_v6 (F := Ideal) x0 x1 x2 x3 z = x2 z + x3 (ix2 0 (z 1)) * Cert.Ff2ReferenceIdeal.Read.val_main_v2 (F := Ideal) x0 x1 z := by
  have hi : Cert.Ff2ReferenceIdeal.Read.idx_main_v4 z = ix2 0 (z 1) := funext fun a => by fin_cases a <;> rfl
  rw [Cert.Ff2ReferenceIdeal.Read.val_main_v6_apply, Cert.Ff2ReferenceIdeal.Read.val_main_v5_apply, Cert.Ff2ReferenceIdeal.Read.val_main_v4_apply, hi]
  rfl

section
variable (m : (ℓ : Loc nD τ sig) → Buf (Elt Ideal) ℓ) (c : Dev nD)

/-- What the windows' arrays hold when the kernel starts: the activation is the reference's. -/
theorem V3 : V m c main_v3 = Cert.Ff2ReferenceIdeal.Read.val_main_v1 (F := Ideal) (m (c, Proc.devRef .tc main_arg0)) := by
  unfold_abbrev_sides
  after_reads_simp
  rfl
theorem V4 : V m c main_v4 = (m (c, Proc.devRef .tc main_arg1)) := by
  unfold_abbrev_sides
  after_reads_simp
  rfl
theorem Va2 : V m c main_arg2 = (m (c, Proc.devRef .tc main_arg2)) := by
  unfold_abbrev_sides
  after_reads_simp
theorem Va3 : V m c main_arg3 = (m (c, Proc.devRef .tc main_arg3)) := by
  unfold_abbrev_sides
  after_reads_simp

/-- The block of every window at every point of the grid. -/
theorem idx : ∀ t : Fin cfg0.N, win0_0.index t = ![t.val / 4, t.val % 4] ∧ win0_1.index t = ![t.val % 4, 0] ∧ win0_2.index t = ![t.val / 4, 0] ∧ win0_3.index t = ![0, 0] ∧ win0_4.index t = ![t.val / 4, 0] ∧ win0_5.index t = ![t.val / 4, 0] :=
  (by decide +kernel : ∀ t : Fin grid0.N, _)

/-- What the accumulator holds after the first columns. -/
theorem acc_first (t : Fin cfg0.N) (h : t.val % 4 = 0) : (outsAt0 m c t.val t.isLt).2.2 = k0_pay1 (iblk m c 0 t) (iblk m c 1 t) := by
  rw [outsAt0_A m c t h (by omega) (by omega)]
  frame_out

/-- … after further columns. -/
theorem acc_next (t : Fin cfg0.N) (h : 1 ≤ t.val % 4 ∧ t.val % 4 ≤ 2) (acc : Vec Ideal S1024x1024 .f32)
    (ha : (outsAt0 m c (t.val - 1) (Nat.lt_of_le_of_lt (Nat.sub_le _ _) t.isLt)).2.2 = acc) :
    (outsAt0 m c t.val t.isLt).2.2 = k0_pay2 acc (iblk m c 0 t) (iblk m c 1 t) := by
  rw [outsAt0_B m c t (by omega) h (by omega), ← ha]
  frame_out
  simp only [read_unread_whole]

/-- What the last columns write as the output … -/
theorem out_last (t : Fin cfg0.N) (h : t.val % 4 = 3) (acc : Vec Ideal S1024x1024 .f32)
    (ha : (outsAt0 m c (t.val - 1) (Nat.lt_of_le_of_lt (Nat.sub_le _ _) t.isLt)).2.2 = acc) :
    (outsAt0 m c t.val t.isLt).1 = k0_pay5 acc (iblk m c 0 t) (iblk m c 1 t) := by
  rw [outsAt0_C m c t (by omega) (by omega) h, ← ha]
  frame_out
  simp only [read_unread_whole]

/-- … and as the residual stream. -/
theorem stream_last (t : Fin cfg0.N) (h : t.val % 4 = 3) (acc : Vec Ideal S1024x1024 .f32)
    (ha : (outsAt0 m c (t.val - 1) (Nat.lt_of_le_of_lt (Nat.sub_le _ _) t.isLt)).2.2 = acc) :
    (outsAt0 m c t.val t.isLt).2.1 = k0_pay4 acc (iblk m c 0 t) (iblk m c 1 t) (iblk m c 2 t) (iblk m c 3 t) := by
  rw [outsAt0_C m c t (by omega) (by omega) h, ← ha]
  frame_out
  simp only [read_unread_whole]

/-- A point's place in the grid gives what it leaves. -/
theorem before (t u : Fin cfg0.N) (hu : u.val = t.val - 1) (acc : Vec Ideal S1024x1024 .f32) (h : (outsAt0 m c u.val u.isLt).2.2 = acc) :
    (outsAt0 m c (t.val - 1) (Nat.lt_of_le_of_lt (Nat.sub_le _ _) t.isLt)).2.2 = acc := by
  obtain ⟨u, hl⟩ := u
  obtain rfl : u = t.val - 1 := hu
  exact h

/-- The four points of a tile of rows. -/
theorem out_all (t u2 u1 u0 : Fin cfg0.N) (h : t.val % 4 = 3) (h2 : u2.val = t.val - 1) (h1 : u1.val = u2.val - 1) (h0 : u0.val = u1.val - 1) :
    (outsAt0 m c t.val t.isLt).1 = k0_pay5 (k0_pay2 (k0_pay2 (k0_pay1 (iblk m c 0 u0) (iblk m c 1 u0)) (iblk m c 0 u1) (iblk m c 1 u1)) (iblk m c 0 u2) (iblk m c 1 u2)) (iblk m c 0 t) (iblk m c 1 t) :=
  out_last m c t h _ (before m c t u2 h2 _ (acc_next m c u2 (by omega) _ (before m c u2 u1 h1 _ (acc_next m c u1 (by omega) _ (before m c u1 u0 h0 _
    (acc_first m c u0 (by omega)))))))
theorem stream_all (t u2 u1 u0 : Fin cfg0.N) (h : t.val % 4 = 3) (h2 : u2.val = t.val - 1) (h1 : u1.val = u2.val - 1) (h0 : u0.val = u1.val - 1) :
    (outsAt0 m c t.val t.isLt).2.1 = k0_pay4 (k0_pay2 (k0_pay2 (k0_pay1 (iblk m c 0 u0) (iblk m c 1 u0)) (iblk m c 0 u1) (iblk m c 1 u1)) (iblk m c 0 u2) (iblk m c 1 u2)) (iblk m c 0 t) (iblk m c 1 t) (iblk m c 2 t) (iblk m c 3 t) :=
  stream_last m c t h _ (before m c t u2 h2 _ (acc_next m c u2 (by omega) _ (before m c u2 u1 h1 _ (acc_next m c u1 (by omega) _ (before m c u1 u0 h0 _
    (acc_first m c u0 (by omega)))))))

set_option maxHeartbeats 4000000 in
/-- The four points add up to an element of the reference's product. -/
theorem sum_all (t u2 u1 u0 : Fin cfg0.N) (h : t.val % 4 = 3) (h2 : u2.val = t.val - 1) (h1 : u1.val = u2.val - 1) (h0 : u0.val = u1.val - 1) (y : S1024x1024.Idx) :
    k0_pay5 (k0_pay2 (k0_pay2 (k0_pay1 (iblk m c 0 u0) (iblk m c 1 u0)) (iblk m c 0 u1) (iblk m c 1 u1)) (iblk m c 0 u2) (iblk m c 1 u2)) (iblk m c 0 t) (iblk m c 1 t) y = Cert.Ff2ReferenceIdeal.Read.val_main_v2 (F := Ideal) (m (c, Proc.devRef .tc main_arg0)) (m (c, Proc.devRef .tc main_arg1)) ((win0_4.blk t).view.emb y) := by
  rw [last, next, next, first, ref_tile, Cert.Model.sum_four]
  congr 1
  · congr 1
    · congr 1
      · refine Finset.sum_congr rfl fun k _ => ?_
        congr 1
        · blk_ext [iblk, V3 m c, idx u0, idx t]
        · blk_ext [iblk, V4 m c, idx u0, idx t]
      · refine Finset.sum_congr rfl fun k _ => ?_
        congr 1
        · blk_ext [iblk, V3 m c, idx u1, idx t]
        · blk_ext [iblk, V4 m c, idx u1, idx t]
    · refine Finset.sum_congr rfl fun k _ => ?_
      congr 1
      · blk_ext [iblk, V3 m c, idx u2, idx t]
      · blk_ext [iblk, V4 m c, idx u2, idx t]
  · refine Finset.sum_congr rfl fun k _ => ?_
    congr 1
    · blk_ext [iblk, V3 m c, idx t]
    · blk_ext [iblk, V4 m c, idx t]

/-- The kernel's output is the reference's. -/
theorem out4 : (dats m 0 c).arrAt 4 cfg0.N = Cert.Ff2ReferenceIdeal.Read.val_main_v3 (F := Ideal) (m (c, Proc.devRef .tc main_arg0)) (m (c, Proc.devRef .tc main_arg1)) := by
  refine (dats m 0 c).arrAt_eq_of_covers 4 _ (by decide +kernel) fun t hf y => ?_
  have h : t.val % 4 = 3 := (flush0_4 t).mp hf
  obtain ⟨u2, h2⟩ : ∃ u : Fin cfg0.N, u.val = t.val - 1 := ⟨⟨t.val - 1, Nat.lt_of_le_of_lt (Nat.sub_le _ _) t.isLt⟩, rfl⟩
  obtain ⟨u1, h1⟩ : ∃ u : Fin cfg0.N, u.val = u2.val - 1 := ⟨⟨u2.val - 1, Nat.lt_of_le_of_lt (Nat.sub_le _ _) u2.isLt⟩, rfl⟩
  obtain ⟨u0, h0⟩ : ∃ u : Fin cfg0.N, u.val = u1.val - 1 := ⟨⟨u1.val - 1, Nat.lt_of_le_of_lt (Nat.sub_le _ _) u1.isLt⟩, rfl⟩
  blk_simp
  rw [after0_4, out_all m c t u2 u1 u0 h h2 h1 h0, Cert.Ff2ReferenceIdeal.Read.val_main_v3_apply]
  exact sum_all m c t u2 u1 u0 h h2 h1 h0 y

/-- The kernel's residual stream is the reference's. -/
theorem out5 : (dats m 0 c).arrAt 5 cfg0.N = Cert.Ff2ReferenceIdeal.Read.val_main_v6 (F := Ideal) (m (c, Proc.devRef .tc main_arg0)) (m (c, Proc.devRef .tc main_arg1)) (m (c, Proc.devRef .tc main_arg2)) (m (c, Proc.devRef .tc main_arg3)) := by
  refine (dats m 0 c).arrAt_eq_of_covers 5 _ (by decide +kernel) fun t hf y => ?_
  have h : t.val % 4 = 3 := (flush0_5 t).mp hf
  obtain ⟨u2, h2⟩ : ∃ u : Fin cfg0.N, u.val = t.val - 1 := ⟨⟨t.val - 1, Nat.lt_of_le_of_lt (Nat.sub_le _ _) t.isLt⟩, rfl⟩
  obtain ⟨u1, h1⟩ : ∃ u : Fin cfg0.N, u.val = u2.val - 1 := ⟨⟨u2.val - 1, Nat.lt_of_le_of_lt (Nat.sub_le _ _) u2.isLt⟩, rfl⟩
  obtain ⟨u0, h0⟩ : ∃ u : Fin cfg0.N, u.val = u1.val - 1 := ⟨⟨u1.val - 1, Nat.lt_of_le_of_lt (Nat.sub_le _ _) u1.isLt⟩, rfl⟩
  blk_simp
  rw [after0_5, stream_all m c t u2 u1 u0 h h2 h1 h0, stream, ref_stream]
  refine congrArg₂ (fun a b : EReal => a + b) ?_ (congrArg₂ (fun a b : EReal => a * b) ?_ ?_)
  · blk_ext [iblk, Va2 m c, idx t]
  · blk_ext [iblk, Va3 m c, idx t]
  · exact sum_all m c t u2 u1 u0 h h2 h1 h0 y

end
end Cert.Ff2Ideal.Ff

namespace Cert.Proof

open Idealize.ShloMosaic Idealize.ShloMosaic.TcCoe Idealize.SL.Sem

/-- The reference leaves its arguments as they were. -/
theorem ff2_frame : Cert.quiescent_Ff2ReferenceIdeal (hFf2ReferenceIdeal := Cert.Ff2ReferenceIdeal.Gen.facts) := by
  intro m ρ _
  exact (θ_run Cert.Ff2ReferenceIdeal.defs _ _).mono (fun r h => ⟨fun c => (h c).2.2, sem_eq_zero_of_no_sems (by decide) r.2⟩)
    (Cert.Ff2ReferenceIdeal.Value.run (F := Ideal) m ρ)

/-- Both programs leave the same two arrays. -/
theorem ff2_algebraic : Cert.algebraic_Ff2Ideal_Ff2ReferenceIdeal (hFf2Ideal := Cert.Ff2Ideal.Gen.facts)
    (hFf2ReferenceIdeal := Cert.Ff2ReferenceIdeal.Gen.facts) := by
  intro m g m' g' _ hargs
  refine ⟨fun c => Cert.Ff2ReferenceIdeal.Read.val_main_v3 (F := Ideal) (m (c, Proc.devRef .tc Cert.Ff2Ideal.main_arg0)) (m (c, Proc.devRef .tc Cert.Ff2Ideal.main_arg1)), fun c => Cert.Ff2ReferenceIdeal.Read.val_main_v6 (F := Ideal) (m (c, Proc.devRef .tc Cert.Ff2Ideal.main_arg0)) (m (c, Proc.devRef .tc Cert.Ff2Ideal.main_arg1)) (m (c, Proc.devRef .tc Cert.Ff2Ideal.main_arg2)) (m (c, Proc.devRef .tc Cert.Ff2Ideal.main_arg3)), ?_, ?_⟩
  · exact Idealize.ShloMosaic.θ_run_mono (Cert.Ff2Ideal.Value.run_blocks m g) fun r h c => ⟨(h c).1.trans (Cert.Ff2Ideal.Ff.out4 m c), (h c).2.1.trans (Cert.Ff2Ideal.Ff.out5 m c), (h c).2.2⟩
  · refine Idealize.ShloMosaic.θ_run_mono (Cert.Ff2ReferenceIdeal.Value.run m' g') fun r h c => ?_
    obtain ⟨e0, e1, e2, e3⟩ := hargs c
    refine ⟨(h c).1.trans ((Cert.Ff2ReferenceIdeal.Read.val_main_v3_eq _ _).trans ?_), (h c).2.1.trans ((Cert.Ff2ReferenceIdeal.Read.val_main_v6_eq _ _ _ _).trans ?_), (h c).2.2⟩
    · rw [e0, e1]
    · rw [e0, e1, e2, e3]

end Cert.Proof

end
-- ==== Proof.lean ====
module

public import proofs.«01_k».proof.Defs
public import proofs.«01_k».proof.Proof.Frames
public import proofs.«01_k».proof.Proof.Value
public import proofs.«01_k».proof.Proof.Ff2Dx
public import proofs.«01_k».proof.Proof.Ff2Dw
public import proofs.«01_k».proof.Proof.Ff1Dw
public import proofs.«01_k».proof.Proof.Ff1Dx
public import proofs.«01_k».proof.Proof.Ff1
public import proofs.«01_k».proof.Proof.Ff2
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Ff2Dx
public import proofs.«01_k».proof.Proof.Gen.Ff2Dx.Frame
public import proofs.«01_k».proof.Proof.Gen.Ff2DxIdeal
public import proofs.«01_k».proof.Proof.Gen.Ff2DxIdeal.Frame
public import proofs.«01_k».proof.Proof.Gen.Ff2DxIdeal.Value
public import proofs.«01_k».proof.Proof.Gen.Ff2DxReferenceIdeal
public import proofs.«01_k».proof.Proof.Gen.Ff2DxReferenceIdeal.Run
public import proofs.«01_k».proof.Proof.Gen.Ff2DxReferenceIdeal.Read
public import proofs.«01_k».proof.Proof.Gen.Ff2Dw
public import proofs.«01_k».proof.Proof.Gen.Ff2Dw.Frame
public import proofs.«01_k».proof.Proof.Gen.Ff2DwIdeal
public import proofs.«01_k».proof.Proof.Gen.Ff2DwIdeal.Frame
public import proofs.«01_k».proof.Proof.Gen.Ff2DwIdeal.Value
public import proofs.«01_k».proof.Proof.Gen.Ff2DwReferenceIdeal
public import proofs.«01_k».proof.Proof.Gen.Ff2DwReferenceIdeal.Run
public import proofs.«01_k».proof.Proof.Gen.Ff2DwReferenceIdeal.Read
public import proofs.«01_k».proof.Proof.Gen.Ff1Dw
public import proofs.«01_k».proof.Proof.Gen.Ff1Dw.Frame
public import proofs.«01_k».proof.Proof.Gen.Ff1DwIdeal
public import proofs.«01_k».proof.Proof.Gen.Ff1DwIdeal.Frame
public import proofs.«01_k».proof.Proof.Gen.Ff1DwIdeal.Value
public import proofs.«01_k».proof.Proof.Gen.Ff1DwReferenceIdeal
public import proofs.«01_k».proof.Proof.Gen.Ff1DwReferenceIdeal.Run
public import proofs.«01_k».proof.Proof.Gen.Ff1DwReferenceIdeal.Read
public import proofs.«01_k».proof.Proof.Gen.Ff1Dx
public import proofs.«01_k».proof.Proof.Gen.Ff1Dx.Frame
public import proofs.«01_k».proof.Proof.Gen.Ff1DxIdeal
public import proofs.«01_k».proof.Proof.Gen.Ff1DxIdeal.Frame
public import proofs.«01_k».proof.Proof.Gen.Ff1DxIdeal.Value
public import proofs.«01_k».proof.Proof.Gen.Ff1DxReferenceIdeal
public import proofs.«01_k».proof.Proof.Gen.Ff1DxReferenceIdeal.Run
public import proofs.«01_k».proof.Proof.Gen.Ff1DxReferenceIdeal.Read
public import proofs.«01_k».proof.Proof.Gen.Ff1
public import proofs.«01_k».proof.Proof.Gen.Ff1.Frame
public import proofs.«01_k».proof.Proof.Gen.Ff1Ideal
public import proofs.«01_k».proof.Proof.Gen.Ff1Ideal.Frame
public import proofs.«01_k».proof.Proof.Gen.Ff1Ideal.Value
public import proofs.«01_k».proof.Proof.Gen.Ff1ReferenceIdeal
public import proofs.«01_k».proof.Proof.Gen.Ff1ReferenceIdeal.Run
public import proofs.«01_k».proof.Proof.Gen.Ff1ReferenceIdeal.Read
public import proofs.«01_k».proof.Proof.Gen.Ff2
public import proofs.«01_k».proof.Proof.Gen.Ff2.Frame
public import proofs.«01_k».proof.Proof.Gen.Ff2Ideal
public import proofs.«01_k».proof.Proof.Gen.Ff2Ideal.Frame
public import proofs.«01_k».proof.Proof.Gen.Ff2Ideal.Value
public import proofs.«01_k».proof.Proof.Gen.Ff2ReferenceIdeal
public import proofs.«01_k».proof.Proof.Gen.Ff2ReferenceIdeal.Run
public import proofs.«01_k».proof.Proof.Gen.Ff2ReferenceIdeal.Read
public import Idealize.ShloMosaic.Adequacy
public import Idealize.ShloMosaic.Init

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts,
    Cert.Ff2Dx.Gen.facts, Cert.Ff2DxIdeal.Gen.facts, Cert.Ff2DxReferenceIdeal.Gen.facts,
    Cert.Ff2Dw.Gen.facts, Cert.Ff2DwIdeal.Gen.facts, Cert.Ff2DwReferenceIdeal.Gen.facts,
    Cert.Ff1Dw.Gen.facts, Cert.Ff1DwIdeal.Gen.facts, Cert.Ff1DwReferenceIdeal.Gen.facts,
    Cert.Ff1Dx.Gen.facts, Cert.Ff1DxIdeal.Gen.facts, Cert.Ff1DxReferenceIdeal.Gen.facts,
    Cert.Ff1.Gen.facts, Cert.Ff1Ideal.Gen.facts, Cert.Ff1ReferenceIdeal.Gen.facts,
    Cert.Ff2.Gen.facts, Cert.Ff2Ideal.Gen.facts, Cert.Ff2ReferenceIdeal.Gen.facts,
    finite_facts,
    kernel_frame, kernelIdeal_frame, fun m g _ => kernelIdeal_frame m g trivial, reference_frame, fun m g _ => reference_frame m g trivial,
    fun m g _ => Cert.Ff2Dx.Gen.frame m g, fun m g _ => Cert.Ff2DxIdeal.Gen.frame m g, ff2_dx_frame,
    fun m g _ => Cert.Ff2Dw.Gen.frame m g, fun m g _ => Cert.Ff2DwIdeal.Gen.frame m g, ff2_dw_frame,
    fun m g _ => Cert.Ff1Dw.Gen.frame m g, fun m g _ => Cert.Ff1DwIdeal.Gen.frame m g, ff1_dw_frame,
    fun m g _ => Cert.Ff1Dx.Gen.frame m g, fun m g _ => Cert.Ff1DxIdeal.Gen.frame m g, ff1_dx_frame,
    fun m g _ => Cert.Ff1.Gen.frame m g, fun m g _ => Cert.Ff1Ideal.Gen.frame m g, ff1_frame,
    fun m g _ => Cert.Ff2.Gen.frame m g, fun m g _ => Cert.Ff2Ideal.Gen.frame m g, ff2_frame,
    preserves, algebraic,
    trivial, ff2_dx_algebraic,
    trivial, ff2_dw_algebraic,
    trivial, ff1_dw_algebraic,
    trivial, ff1_dx_algebraic,
    trivial, ff1_algebraic,
    trivial, ff2_algebraic⟩

end Cert.Proof

end
